-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pos_in_rows : Cert.Pre_pos_in_rows.Facts] (m : (ℓ : Loc Cert.Reference.nD Cert.Reference.τ Cert.Reference.sig) → Buf (Elt Bits) ℓ) : Prop :=
  ∀ c : Dev Cert.Reference.nD,
    (Cert.Pre_pos_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_te_in_experts : Cert.Pre_te_in_experts.Facts] (m : (ℓ : Loc Cert.Kernel2.nD Cert.Kernel2.τ Cert.Kernel2.sig) → Buf (Elt Bits) ℓ) : Prop :=
  ∀ c : Dev Cert.Kernel2.nD,
    (Cert.Pre_te_in_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_te_in_experts : Cert.Pre_te_in_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_te_in_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_te_in_experts : Cert.Pre_te_in_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_te_in_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_all_finite [hPre_all_finite : Cert.Pre_all_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_all_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_all_finite [hPre_all_finite : Cert.Pre_all_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_all_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pos_in_rows : Cert.Pre_pos_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_te_in_experts : Cert.Pre_te_in_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_te_in_experts : Cert.Pre_te_in_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_te_in_experts : Cert.Pre_te_in_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_all_finite [hKernel7Ideal : Cert.Kernel7Ideal.Facts] [hPre_all_finite : Cert.Pre_all_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_all_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_all_finite [hReference7Ideal : Cert.Reference7Ideal.Facts] [hPre_all_finite : Cert.Pre_all_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_all_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v12)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v12) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_te_in_experts : Cert.Pre_te_in_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v19) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)) (v5 : (c : Dev Cert.Kernel6Ideal.nD) → Buf (Elt Ideal) ((c.tc : Thread Cert.Kernel6Ideal.nD Cert.Kernel6Ideal.τ).loc Cert.Kernel6Ideal.main_v9_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_v9_4) = v4 c
          ∧ r.2.mem ((c.tc : Thread Cert.Kernel6Ideal.nD Cert.Kernel6Ideal.τ).loc Cert.Kernel6Ideal.main_v9_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v18) = v2 c
          ∧ r.2.mem ((c.tc : Thread Cert.Reference6Ideal.nD Cert.Reference6Ideal.τ).loc Cert.Reference6Ideal.main_v21) = v3 c
          ∧ r.2.mem ((c.tc : Thread Cert.Reference6Ideal.nD Cert.Reference6Ideal.τ).loc Cert.Reference6Ideal.main_v24) = v4 c
          ∧ r.2.mem ((c.tc : Thread Cert.Reference6Ideal.nD Cert.Reference6Ideal.τ).loc Cert.Reference6Ideal.main_v27) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_all_finite [hKernel7Ideal : Cert.Kernel7Ideal.Facts] [hReference7Ideal : Cert.Reference7Ideal.Facts] [hPre_all_finite : Cert.Pre_all_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_all_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_v32) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_pos_in_rows : Cert.Pre_pos_in_rows.Facts) (hPre_te_in_experts : Cert.Pre_te_in_experts.Facts) (hPre_all_finite : Cert.Pre_all_finite.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal) (hPre_pos_in_rows := hPre_pos_in_rows)
    ∧ quiescent_Reference (hReference := hReference) (hPre_pos_in_rows := hPre_pos_in_rows)
    ∧ quiescent_Kernel2 (hKernel2 := hKernel2) (hPre_te_in_experts := hPre_te_in_experts)
    ∧ quiescent_Kernel2Ideal (hKernel2Ideal := hKernel2Ideal) (hPre_te_in_experts := hPre_te_in_experts)
    ∧ quiescent_Reference2Ideal (hReference2Ideal := hReference2Ideal) (hPre_te_in_experts := hPre_te_in_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_all_finite (hKernel7Ideal := hKernel7Ideal) (hPre_all_finite := hPre_all_finite)
    ∧ quiescent_Reference7Ideal (hReference7Ideal := hReference7Ideal)
    ∧ quiescent_Reference7Ideal_pre_all_finite (hReference7Ideal := hReference7Ideal) (hPre_all_finite := hPre_all_finite)
    ∧ preserves_Kernel_KernelIdeal
    ∧ algebraic_KernelIdeal_ReferenceIdeal (hKernelIdeal := hKernelIdeal) (hReferenceIdeal := hReferenceIdeal) (hPre_pos_in_rows := hPre_pos_in_rows)
    ∧ bitexact_Kernel_Reference (hKernel := hKernel) (hReference := hReference) (hPre_pos_in_rows := hPre_pos_in_rows)
    ∧ preserves_Kernel2_Kernel2Ideal
    ∧ algebraic_Kernel2Ideal_Reference2Ideal (hKernel2Ideal := hKernel2Ideal) (hReference2Ideal := hReference2Ideal) (hPre_te_in_experts := hPre_te_in_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_all_finite (hKernel7Ideal := hKernel7Ideal) (hReference7Ideal := hReference7Ideal) (hPre_all_finite := hPre_all_finite)
-- ==== Pre_all_finite.lean ====
abbrev S16384x1024 : Shape := ⟨2, ![16384, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S1 : Shape := ⟨1, ![1]⟩
abbrev S5 : Shape := ⟨1, ![5]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S1024x8 .f32) (main_v3 : IVec S_ 1) (main_v8 : IVec S_ 1) (main_v12 : IVec S_ 1) (main_v15 : IVec S1024 1) (main_c_5 : IVec S_ 1) : IVec S5 1 :=
  let main_v16 : IVec S_ 1 := (fun x v => Host.reduce IntOp.andi x v reducesTo_S1024_S_d0 h_S_) main_v15 main_c_5
  let main_v17 : FVec F S1024x8 .f32 := Host.absf main_arg4
  let main_cst_6 : FVec F S_ .f32 := constant S_ .f32 0x7F800000#32
  let main_v18 : FVec F S1024x8 .f32 := broadcastInDim S1024x8 ![] bcast_S_S1024x8 main_cst_6
  let main_v19 : IVec S1024x8 1 := cmpf .olt main_v17 main_v18
  let main_c_7 : IVec S_ 1 := constantI S_ 1 1#1
  let main_v20 : IVec S_ 1 := (fun x v => Host.reduce IntOp.andi x v reducesTo_S1024x8_S_d0_1 h_S_) main_v19 main_c_7
  let main_v21 : IVec S1 1 := broadcastInDim S1 ![] bcast_S_S1 main_v3
  let main_v22 : IVec S1 1 := broadcastInDim S1 ![] bcast_S_S1 main_v8
  let main_v23 : IVec S1 1 := broadcastInDim S1 ![] bcast_S_S1 main_v12
  let main_v24 : IVec S1 1 := broadcastInDim S1 ![] bcast_S_S1 main_v16
  let main_v25 : IVec S1 1 := broadcastInDim S1 ![] bcast_S_S1 main_v20
  let main_v26 : IVec S5 1 := concatenate S5 0 [⟨S1, main_v21⟩, ⟨S1, main_v22⟩, ⟨S1, main_v23⟩, ⟨S1, main_v24⟩, ⟨S1, main_v25⟩] concatenates_S1_S1_S1_S1_S1_S5_d0
  main_v26

def fn {F : FTy → Type} [FloatOps F] (main_arg0 : FVec F S16384x1024 .f32) (main_arg1 : FVec F S16384x1024 .bf16) (main_arg2 : FVec F S1024x1024 .f32) (main_arg3 : FVec F S1024 .f32) (main_arg4 : FVec F S1024x8 .f32) : IVec S5 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : FVec F S1024 .f32 := Host.absf main_arg3
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg4 main_v3 main_v8 main_v12 main_v15 main_c_5
-- ==== Pre_pos_in_rows.lean ====
abbrev S2x34816x256 : Shape := ⟨3, ![2, 34816, 256]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : IVec S2x34816x256 32) (main_arg1 : IVec S32768 32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 34816#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Pre_te_in_experts.lean ====
abbrev S136 : Shape := ⟨1, ![136]⟩
abbrev S1 : Shape := ⟨1, ![1]⟩
abbrev S2x34816x256 : Shape := ⟨3, ![2, 34816, 256]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S1 32) (main_arg2 : IVec S136 32) (main_arg3 : IVec S2x34816x256 32) (main_arg4 : FVec F S8x1024x3584 .bf16) (main_arg5 : FVec F S8x1024x3584 .bf16) (main_arg6 : FVec F S8x3584x1024 .bf16) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  main_v4
-- ==== Kernel.lean ====
abbrev S2x34816x256 : Shape := ⟨3, ![2, 34816, 256]⟩
abbrev S32768 : Shape := ⟨1, ![32768]⟩
abbrev S2 : Shape := ⟨1, ![2]⟩
abbrev S2x1 : Shape := ⟨2, ![2, 1]⟩
abbrev S_ : Shape := ⟨0, ![]⟩
abbrev S1x32768 : Shape := ⟨2, ![1, 32768]⟩
abbrev S2x32768 : Shape := ⟨2, ![2, 32768]⟩
abbrev S65536 : Shape := ⟨1, ![65536]⟩
abbrev S69632x2x128 : Shape := ⟨3, ![69632, 2, 128]⟩
abbrev S1x65536 : Shape := ⟨2, ![1, 65536]⟩
abbrev S65536x2x128 : Shape := ⟨3, ![65536, 2, 128]⟩
abbrev S2x1x128 : Shape := ⟨3, ![2, 1, 128]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S1x128x2x128 : Shape := ⟨4, ![1, 128, 2, 128]⟩
abbrev S128x2x128 : Shape := ⟨3, ![128, 2, 128]⟩
abbrev S128 : Shape := ⟨1, ![128]⟩
abbrev S2x32768x256 : Shape := ⟨3, ![2, 32768, 256]⟩

abbrev nBuf : Table → Nat
  | .hbm => 16
  | .local .scVector .vmem => 2
  | _ => 0

abbrev bufTy : (tb : Table) → Fin (nBuf tb) → BufTy
  | .hbm, ⟨0, _⟩ => ⟨S2x34816x256, .i32⟩
  | .hbm, ⟨1, _⟩ => ⟨S32768, .i32⟩
  | .hbm, ⟨2, _⟩ => ⟨S2, .i32⟩
  | .hbm, ⟨3, _⟩ => ⟨S2x1, .i32⟩
  | .hbm, ⟨4, _⟩ => ⟨S_, .i32⟩
  | .hbm, ⟨5, _⟩ => ⟨S2x1, .i32⟩
  | .hbm, ⟨6, _⟩ => ⟨S2x1, .i32⟩
  | .hbm, ⟨7, _⟩ => ⟨S1x32768, .i32⟩
  | .hbm, ⟨8, _⟩ => ⟨S2x32768, .i32⟩
  | .hbm, ⟨9, _⟩ => ⟨S2x32768, .i32⟩
  | .hbm, ⟨10, _⟩ => ⟨S2x32768, .i32⟩
  | .hbm, ⟨11, _⟩ => ⟨S65536, .i32⟩
  | .hbm, ⟨12, _⟩ => ⟨S69632x2x128, .i32⟩
  | .hbm, ⟨13, _⟩ => ⟨S1x65536, .i32⟩
  | .hbm, ⟨14, _⟩ => ⟨S65536x2x128, .i32⟩
  | .hbm, ⟨15, _⟩ => ⟨S2x32768x256, .i32⟩
  | .local .scVector .vmem, ⟨0, _⟩ => ⟨S2x1x128, .i32⟩
  | .local .scVector .vmem, ⟨1, _⟩ => ⟨S2x128x2x128, .i32⟩
  | _, _ => ⟨S2x34816x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v9_scv : Ref sig .scVector := ⟨.hbm, 12, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k0_off2 (i : grid0.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k0_off4 (arg6_r0 : BitVec 32) : Fin 3 → Nat :=
  let c2_i32_104_r0 : BitVec 32 := 2#32
  let v144_r0 : BitVec 32 := Scalar.remui arg6_r0 c2_i32_104_r0
  let c0_i32_106_r0 : BitVec 32 := 0#32
  let c0_i32_107_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c16_i32_67_r0 : BitVec 32 := 16#32
  let v74_r0 : BitVec 1 := Scalar.cmpi .eq v73_r0 c16_i32_67_r0
  let c0_i32_68_r0 : BitVec 32 := 0#32
  let v75_r0 : BitVec 32 := Scalar.select v74_r0 c0_i32_68_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_73_r0 : BitVec 32 := 15#32
  let v83_r0 : BitVec 1 := Scalar.cmpi .sge arg5_r0 c15_i32_73_r0
  let true_74_r0 : BitVec 1 := 1#1
  let v84_r0 : BitVec 1 := Scalar.xori v83_r0 true_74_r0
  let v85_r0 : BitVec 1 := Scalar.andi v82_r0 v84_r0
  let true_75_r0 : BitVec 1 := 1#1
  let v86_r0 : BitVec 1 := Scalar.andi v85_r0 true_75_r0
  let v87_r0 : BitVec 32 := Scalar.extui v86_r0
  let c0_i32_76_r0 : BitVec 32 := 0#32
  let v88_r0 : BitVec 1 := Scalar.cmpi .ne v87_r0 c0_i32_76_r0
  v88_r0

def k0_off5 (i : grid0.Coords) (arg10_r0 : BitVec 32) : Fin 2 → Nat :=
  let c0_i32_108_r0 : BitVec 32 := 0#32
  let c128_i32_105_r0 : BitVec 32 := 128#32
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c16_i32_67_r0 : BitVec 32 := 16#32
  let v74_r0 : BitVec 1 := Scalar.cmpi .eq v73_r0 c16_i32_67_r0
  let c0_i32_68_r0 : BitVec 32 := 0#32
  let v75_r0 : BitVec 32 := Scalar.select v74_r0 c0_i32_68_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_105_r0 v76_r0
  ![0, v145_r0.toNat]
def k0_off6 (arg6_r0 : BitVec 32) : Fin 1 → Nat :=
  let c2_i32_104_r0 : BitVec 32 := 2#32
  let v144_r0 : BitVec 32 := Scalar.remui arg6_r0 c2_i32_104_r0
  ![v144_r0.toNat]
def k0_off7 (arg7_r0 : BitVec 32) : Fin 3 → Nat :=
  let c2_i32_105_r0 : BitVec 32 := 2#32
  let v145_r0 : BitVec 32 := Scalar.remui arg7_r0 c2_i32_105_r0
  let c0_i32_106_r0 : BitVec 32 := 0#32
  let c0_i32_107_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c15_i32_64_r0 : BitVec 32 := 15#32
  let v70_r0 : BitVec 32 := Scalar.select v69_r0 c15_i32_64_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_59_r0 : BitVec 32 := 0#32
  let v64_r0 : BitVec 1 := Scalar.cmpi .eq arg5_r0 c0_i32_59_r0
  let v97_r0 : BitVec 1 := Scalar.ori v96_r0 v64_r0
  let c0_i32_81_r0 : BitVec 32 := 0#32
  let v98_r0 : BitVec 1 := Scalar.cmpi .sge arg5_r0 c0_i32_81_r0
  let v99_r0 : BitVec 1 := Scalar.andi v97_r0 v98_r0
  let v100_r0 : BitVec 32 := Scalar.extui v99_r0
  let c0_i32_82_r0 : BitVec 32 := 0#32
  let v101_r0 : BitVec 1 := Scalar.cmpi .ne v100_r0 c0_i32_82_r0
  v101_r0

def k0_off8 (i : grid0.Coords) (arg10_r0 : BitVec 32) : Fin 2 → Nat :=
  let c0_i32_108_r0 : BitVec 32 := 0#32
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_104_r0 v66_r0
  ![0, v144_r0.toNat]
def k0_off9 (arg7_r0 : BitVec 32) : Fin 1 → Nat :=
  let c2_i32_105_r0 : BitVec 32 := 2#32
  let v145_r0 : BitVec 32 := Scalar.remui arg7_r0 c2_i32_105_r0
  ![v145_r0.toNat]
def k0_off10 (arg8_r0 : BitVec 32) : Fin 4 → Nat :=
  let c2_i32_86_r0 : BitVec 32 := 2#32
  let v109_r0 : BitVec 32 := Scalar.remui arg8_r0 c2_i32_86_r0
  let c0_i32_104_r1 : BitVec 32 := 0#32
  let c0_i32_105_r1 : BitVec 32 := 0#32
  let c0_i32_106_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_85_r0 : BitVec 32 := 2#32
  let v108_r0 : BitVec 32 := Scalar.remui arg7_r0 c2_i32_85_r0
  let c0_i32_107_r1 : BitVec 32 := 0#32
  let c0_i32_108_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_104_r0 : BitVec 32 := 2#32
  let v144_r0 : BitVec 32 := Scalar.remui arg8_r0 c2_i32_104_r0
  let c0_i32_106_r0 : BitVec 32 := 0#32
  let c0_i32_107_r0 : BitVec 32 := 0#32
  let c0_i32_108_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c16_i32_67_r0 : BitVec 32 := 16#32
  let v74_r0 : BitVec 1 := Scalar.cmpi .eq v73_r0 c16_i32_67_r0
  let c0_i32_68_r0 : BitVec 32 := 0#32
  let v75_r0 : BitVec 32 := Scalar.select v74_r0 c0_i32_68_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_60_r0 : BitVec 32 := 15#32
  let v65_r0 : BitVec 1 := Scalar.cmpi .eq arg5_r0 c15_i32_60_r0
  let v116_r0 : BitVec 1 := Scalar.ori v115_r0 v65_r0
  let v117_r0 : BitVec 32 := Scalar.extui v116_r0
  let c0_i32_89_r0 : BitVec 32 := 0#32
  let v118_r0 : BitVec 1 := Scalar.cmpi .ne v117_r0 c0_i32_89_r0
  v118_r0

def k0_off13 (i : grid0.Coords) (arg10_r0 : BitVec 32) : Fin 3 → Nat :=
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_105_r0 v66_r0
  let c0_i32_109_r0 : BitVec 32 := 0#32
  let c0_i32_110_r0 : BitVec 32 := 0#32
  ![v145_r0.toNat, 0, 0]
def k0_off14 (arg8_r0 : BitVec 32) : Fin 1 → Nat :=
  let c2_i32_104_r0 : BitVec 32 := 2#32
  let v144_r0 : BitVec 32 := Scalar.remui arg8_r0 c2_i32_104_r0
  ![v144_r0.toNat]
def k0_off15 (arg9_r0 : BitVec 32) : Fin 4 → Nat :=
  let c2_i32_104_r0 : BitVec 32 := 2#32
  let v144_r0 : BitVec 32 := Scalar.remui arg9_r0 c2_i32_104_r0
  let c0_i32_106_r0 : BitVec 32 := 0#32
  let c0_i32_107_r0 : BitVec 32 := 0#32
  let c0_i32_108_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c15_i32_64_r0 : BitVec 32 := 15#32
  let v70_r0 : BitVec 32 := Scalar.select v69_r0 c15_i32_64_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_59_r0 : BitVec 32 := 0#32
  let v64_r0 : BitVec 1 := Scalar.cmpi .eq arg5_r0 c0_i32_59_r0
  let true_95_r0 : BitVec 1 := 1#1
  let v129_r0 : BitVec 1 := Scalar.xori v64_r0 true_95_r0
  let v130_r0 : BitVec 1 := Scalar.andi v128_r0 v129_r0
  let v131_r0 : BitVec 32 := Scalar.extui v130_r0
  let c0_i32_96_r0 : BitVec 32 := 0#32
  let v132_r0 : BitVec 1 := Scalar.cmpi .ne v131_r0 c0_i32_96_r0
  v132_r0

def k0_off16 (i : grid0.Coords) (arg10_r0 : BitVec 32) : Fin 3 → Nat :=
  let c128_i32_105_r0 : BitVec 32 := 128#32
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c15_i32_64_r0 : BitVec 32 := 15#32
  let v70_r0 : BitVec 32 := Scalar.select v69_r0 c15_i32_64_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_105_r0 v71_r0
  let c0_i32_109_r0 : BitVec 32 := 0#32
  let c0_i32_110_r0 : BitVec 32 := 0#32
  ![v145_r0.toNat, 0, 0]
def k0_off17 (arg9_r0 : BitVec 32) : Fin 1 → Nat :=
  let c2_i32_104_r0 : BitVec 32 := 2#32
  let v144_r0 : BitVec 32 := Scalar.remui arg9_r0 c2_i32_104_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x65536.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x65536.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S65536x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S65536x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x65536.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x65536.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S65536x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S65536x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  let c0_i32_51_r0 : BitVec 32 := 0#32
  ![v54_r0.toNat, 0, 0, 0]

def k0_off19 (i : grid0.Coords) (v33_4_r0 : BitVec 32) : Fin 3 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_52_r0 : BitVec 32 := 0#32
  let c0_i32_53_r0 : BitVec 32 := 0#32
  ![v55_r0.toNat, 0, 0]

def k0_chk5 (i : grid0.Coords) (v33_4_r0 : BitVec 32) : Prop :=
  (∀ a, (k0_off19 i v33_4_r0) a + S128x2x128.size a ≤ S65536x2x128.size a)
theorem k0_off19_inb : ∀ (i : grid0.Coords) (v33_4_r0 : BitVec 32) (k0_hw5 : k0_chk5 i v33_4_r0), ∀ a, (k0_off19 i v33_4_r0) a + S128x2x128.size a ≤ S65536x2x128.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 4 → Nat :=
  let c2_i32_47_r0 : BitVec 32 := 2#32
  let v54_r0 : BitVec 32 := Scalar.remui v33_3_r0 c2_i32_47_r0
  let c0_i32_56_r0 : BitVec 32 := 0#32
  let c0_i32_57_r0 : BitVec 32 := 0#32
  let c0_i32_58_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x34816x256 : Shape := ⟨3, ![2, 34816, 256]⟩
abbrev S32768 : Shape := ⟨1, ![32768]⟩
abbrev S_ : Shape := ⟨0, ![]⟩
abbrev S32768x1 : Shape := ⟨2, ![32768, 1]⟩
abbrev S2x32768x256 : Shape := ⟨3, ![2, 32768, 256]⟩

abbrev nBuf : Space → Nat
  | .hbm => 11
  | .vmem => 0
  | .smem => 0
  | _ => 0

abbrev bufTy : (tb : Table) → Fin (tcTables nBuf tb) → BufTy
  | .hbm, ⟨0, _⟩ => ⟨S2x34816x256, .i32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S2x32768x256, .i32⟩
  | _, _ => ⟨S2x34816x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S136 : Shape := ⟨1, ![136]⟩
abbrev S1 : Shape := ⟨1, ![1]⟩
abbrev S2x34816x256 : Shape := ⟨3, ![2, 34816, 256]⟩
abbrev S8x1024x3584 : Shape := ⟨3, ![8, 1024, 3584]⟩
abbrev S8x3584x1024 : Shape := ⟨3, ![8, 3584, 1024]⟩
abbrev S4x34816x256 : Shape := ⟨3, ![4, 34816, 256]⟩
abbrev S2x256x256 : Shape := ⟨3, ![2, 256, 256]⟩
abbrev S1x1024x3584 : Shape := ⟨3, ![1, 1024, 3584]⟩
abbrev S1x3584x1024 : Shape := ⟨3, ![1, 3584, 1024]⟩
abbrev S4x256x256 : Shape := ⟨3, ![4, 256, 256]⟩
abbrev S256x3584 : Shape := ⟨2, ![256, 3584]⟩
abbrev S1x256x256 : Shape := ⟨3, ![1, 256, 256]⟩
abbrev S256x256 : Shape := ⟨2, ![256, 256]⟩
abbrev S256x512 : Shape := ⟨2, ![256, 512]⟩
abbrev S256x1024 : Shape := ⟨2, ![256, 1024]⟩
abbrev S1x1024x512 : Shape := ⟨3, ![1, 1024, 512]⟩
abbrev S1024x512 : Shape := ⟨2, ![1024, 512]⟩
abbrev S3584x1024 : Shape := ⟨2, ![3584, 1024]⟩

abbrev nBuf : Space → Nat
  | .hbm => 5
  | .vmem => 11
  | .smem => 3
  | _ => 0

abbrev bufTy : (tb : Table) → Fin (tcTables nBuf tb) → BufTy
  | .hbm, ⟨0, _⟩ => ⟨S2x34816x256, .i32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S4x34816x256, .bf16⟩
  | .local _ .vmem, ⟨0, _⟩ => ⟨S2x256x256, .i32⟩
  | .local _ .vmem, ⟨1, _⟩ => ⟨S2x256x256, .i32⟩
  | .local _ .vmem, ⟨2, _⟩ => ⟨S1x1024x3584, .bf16⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x3584x1024, .bf16⟩
  | .local _ .vmem, ⟨7, _⟩ => ⟨S1x3584x1024, .bf16⟩
  | .local _ .vmem, ⟨8, _⟩ => ⟨S4x256x256, .bf16⟩
  | .local _ .vmem, ⟨9, _⟩ => ⟨S4x256x256, .bf16⟩
  | .local _ .vmem, ⟨10, _⟩ => ⟨S256x3584, .bf16⟩
  | .local _ .smem, ⟨0, _⟩ => ⟨S136, .i32⟩
  | .local _ .smem, ⟨1, _⟩ => ⟨S1, .i32⟩
  | .local _ .smem, ⟨2, _⟩ => ⟨S136, .i32⟩
  | _, _ => ⟨S2x34816x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v14 : Index := Scalar.indexCast arg0
  ![v14.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S136 : Shape := ⟨1, ![136]⟩
abbrev S1 : Shape := ⟨1, ![1]⟩
abbrev S2x34816x256 : Shape := ⟨3, ![2, 34816, 256]⟩
abbrev S8x1024x3584 : Shape := ⟨3, ![8, 1024, 3584]⟩
abbrev S8x3584x1024 : Shape := ⟨3, ![8, 3584, 1024]⟩
abbrev S34816x2x256 : Shape := ⟨3, ![34816, 2, 256]⟩
abbrev S34816x512 : Shape := ⟨2, ![34816, 512]⟩
abbrev S_ : Shape := ⟨0, ![]⟩
abbrev S34816x1024 : Shape := ⟨2, ![34816, 1024]⟩
abbrev S136x256 : Shape := ⟨2, ![136, 256]⟩
abbrev S136x1 : Shape := ⟨2, ![136, 1]⟩
abbrev S136x256x1 : Shape := ⟨3, ![136, 256, 1]⟩
abbrev S136x1x1 : Shape := ⟨3, ![136, 1, 1]⟩
abbrev S8 : Shape := ⟨1, ![8]⟩
abbrev S1x1x8 : Shape := ⟨3, ![1, 1, 8]⟩
abbrev S136x1x8 : Shape := ⟨3, ![136, 1, 8]⟩
abbrev S136x256x8 : Shape := ⟨3, ![136, 256, 8]⟩
abbrev S34816x8 : Shape := ⟨2, ![34816, 8]⟩
abbrev S34816x8x3584 : Shape := ⟨3, ![34816, 8, 3584]⟩
abbrev S8x34816x1024 : Shape := ⟨3, ![8, 34816, 1024]⟩
abbrev S34816x4x256 : Shape := ⟨3, ![34816, 4, 256]⟩
abbrev S4x34816x256 : Shape := ⟨3, ![4, 34816, 256]⟩

abbrev nBuf : Space → Nat
  | .hbm => 59
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S136, .i32⟩
  | .hbm, ⟨3, _⟩ => ⟨S2x34816x256, .i32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S34816x2x256, .i32⟩
  | .hbm, ⟨8, _⟩ => ⟨S34816x512, .i32⟩
  | .hbm, ⟨9, _⟩ => ⟨S_, .i32⟩
  | .hbm, ⟨10, _⟩ => ⟨S34816x512, .i32⟩
  | .hbm, ⟨11, _⟩ => ⟨S34816x512, .i32⟩
  | .hbm, ⟨12, _⟩ => ⟨S34816x512, .f32⟩
  | .hbm, ⟨13, _⟩ => ⟨S_, .i32⟩
  | .hbm, ⟨14, _⟩ => ⟨S34816x512, .i32⟩
  | .hbm, ⟨15, _⟩ => ⟨S34816x512, .i32⟩
  | .hbm, ⟨16, _⟩ => ⟨S34816x512, .f32⟩
  | .hbm, ⟨17, _⟩ => ⟨S34816x1024, .f32⟩
  | .hbm, ⟨18, _⟩ => ⟨S136x256, .i32⟩
  | .hbm, ⟨19, _⟩ => ⟨S136x1, .i32⟩
  | .hbm, ⟨20, _⟩ => ⟨S136x256, .i32⟩
  | .hbm, ⟨21, _⟩ => ⟨S136x256, .i1⟩
  | .hbm, ⟨22, _⟩ => ⟨S136x256, .i32⟩
  | .hbm, ⟨23, _⟩ => ⟨S_, .i32⟩
  | .hbm, ⟨24, _⟩ => ⟨S136x256, .i32⟩
  | .hbm, ⟨25, _⟩ => ⟨S136x256, .i1⟩
  | .hbm, ⟨26, _⟩ => ⟨S136x256, .i1⟩
  | .hbm, ⟨27, _⟩ => ⟨S136x256x1, .i1⟩
  | .hbm, ⟨28, _⟩ => ⟨S136x1x1, .i32⟩
  | .hbm, ⟨29, _⟩ => ⟨S8, .i32⟩
  | .hbm, ⟨30, _⟩ => ⟨S1x1x8, .i32⟩
  | .hbm, ⟨31, _⟩ => ⟨S136x1x8, .i32⟩
  | .hbm, ⟨32, _⟩ => ⟨S136x1x8, .i32⟩
  | .hbm, ⟨33, _⟩ => ⟨S136x1x8, .i1⟩
  | .hbm, ⟨34, _⟩ => ⟨S136x256x8, .i1⟩
  | .hbm, ⟨35, _⟩ => ⟨S136x256x8, .i1⟩
  | .hbm, ⟨36, _⟩ => ⟨S136x256x8, .i1⟩
  | .hbm, ⟨37, _⟩ => ⟨S34816x8, .i1⟩
  | .hbm, ⟨38, _⟩ => ⟨S34816x8, .f32⟩
  | .hbm, ⟨39, _⟩ => ⟨S8x1024x3584, .f32⟩
  | .hbm, ⟨40, _⟩ => ⟨S34816x8x3584, .f32⟩
  | .hbm, ⟨41, _⟩ => ⟨S34816x8x3584, .f32⟩
  | .hbm, ⟨42, _⟩ => ⟨S34816x8x3584, .f32⟩
  | .hbm, ⟨43, _⟩ => ⟨S_, .f32⟩
  | .hbm, ⟨44, _⟩ => ⟨S34816x8x3584, .f32⟩
  | .hbm, ⟨45, _⟩ => ⟨S34816x8x3584, .f32⟩
  | .hbm, ⟨46, _⟩ => ⟨S_, .f32⟩
  | .hbm, ⟨47, _⟩ => ⟨S34816x8x3584, .f32⟩
  | .hbm, ⟨48, _⟩ => ⟨S34816x8x3584, .f32⟩
  | .hbm, ⟨49, _⟩ => ⟨S34816x8x3584, .f32⟩
  | .hbm, ⟨50, _⟩ => ⟨S8x1024x3584, .f32⟩
  | .hbm, ⟨51, _⟩ => ⟨S34816x8x3584, .f32⟩
  | .hbm, ⟨52, _⟩ => ⟨S34816x8x3584, .f32⟩
  | .hbm, ⟨53, _⟩ => ⟨S8x3584x1024, .f32⟩
  | .hbm, ⟨54, _⟩ => ⟨S8x34816x1024, .f32⟩
  | .hbm, ⟨55, _⟩ => ⟨S34816x1024, .f32⟩
  | .hbm, ⟨56, _⟩ => ⟨S34816x1024, .bf16⟩
  | .hbm, ⟨57, _⟩ => ⟨S34816x4x256, .bf16⟩
  | .hbm, ⟨58, _⟩ => ⟨S4x34816x256, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel3.lean ====
abbrev S16384x1024 : Shape := ⟨2, ![16384, 1024]⟩
abbrev S2x32768x256 : Shape := ⟨3, ![2, 32768, 256]⟩
abbrev S16384x128 : Shape := ⟨2, ![16384, 128]⟩
abbrev S1024 : Shape := ⟨1, ![1024]⟩
abbrev S1x1024 : Shape := ⟨2, ![1, 1024]⟩
abbrev S1024x1024 : Shape := ⟨2, ![1024, 1024]⟩
abbrev S2x1024x256 : Shape := ⟨3, ![2, 1024, 256]⟩
abbrev S1024x128 : Shape := ⟨2, ![1024, 128]⟩
abbrev S1x1024x256 : Shape := ⟨3, ![1, 1024, 256]⟩
abbrev S1024x256 : Shape := ⟨2, ![1024, 256]⟩
abbrev S1024x512 : Shape := ⟨2, ![1024, 512]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S2x32768x256, .i32⟩
  | .hbm, ⟨2, _⟩ => ⟨S16384x128, .f32⟩
  | .hbm, ⟨3, _⟩ => ⟨S1024, .f32⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024x256, .i32⟩
  | .local _ .vmem, ⟨3, _⟩ => ⟨S2x1024x256, .i32⟩
  | .local _ .vmem, ⟨4, _⟩ => ⟨S2x1024x256, .i32⟩
  | .local _ .vmem, ⟨5, _⟩ => ⟨S2x1024x256, .i32⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S2x32768x256 : Shape := ⟨3, ![2, 32768, 256]⟩
abbrev S16384x128 : Shape := ⟨2, ![16384, 128]⟩
abbrev S1024 : Shape := ⟨1, ![1024]⟩
abbrev S32768x2x256 : Shape := ⟨3, ![32768, 2, 256]⟩
abbrev S32768x512 : Shape := ⟨2, ![32768, 512]⟩
abbrev S_ : Shape := ⟨0, ![]⟩
abbrev S32768x1024 : Shape := ⟨2, ![32768, 1024]⟩
abbrev S2x16384x1024 : Shape := ⟨3, ![2, 16384, 1024]⟩
abbrev S16384x2 : Shape := ⟨2, ![16384, 2]⟩
abbrev S16384 : Shape := ⟨1, ![16384]⟩
abbrev S16384x1 : Shape := ⟨2, ![16384, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x32768x256, .i32⟩
  | .hbm, ⟨2, _⟩ => ⟨S16384x128, .f32⟩
  | .hbm, ⟨3, _⟩ => ⟨S1024, .f32⟩
  | .hbm, ⟨4, _⟩ => ⟨S32768x2x256, .i32⟩
  | .hbm, ⟨5, _⟩ => ⟨S32768x512, .i32⟩
  | .hbm, ⟨6, _⟩ => ⟨S_, .i32⟩
  | .hbm, ⟨7, _⟩ => ⟨S32768x512, .i32⟩
  | .hbm, ⟨8, _⟩ => ⟨S32768x512, .i32⟩
  | .hbm, ⟨9, _⟩ => ⟨S32768x512, .f32⟩
  | .hbm, ⟨10, _⟩ => ⟨S_, .i32⟩
  | .hbm, ⟨11, _⟩ => ⟨S32768x512, .i32⟩
  | .hbm, ⟨12, _⟩ => ⟨S32768x512, .i32⟩
  | .hbm, ⟨13, _⟩ => ⟨S32768x512, .f32⟩
  | .hbm, ⟨14, _⟩ => ⟨S32768x1024, .f32⟩
  | .hbm, ⟨15, _⟩ => ⟨S2x16384x1024, .f32⟩
  | .hbm, ⟨16, _⟩ => ⟨S16384x2, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1024x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1024x2816, .f32⟩
  | .hbm, ⟨30, _⟩ => ⟨S1024x2816, .f32⟩
  | .hbm, ⟨31, _⟩ => ⟨S2816x1024, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x3088 : Shape := ⟨2, ![1024, 3088]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S1x1024 : Shape := ⟨2, ![1, 1024]⟩
abbrev S16384x128 : Shape := ⟨2, ![16384, 128]⟩
abbrev S1024x1024 : Shape := ⟨2, ![1024, 1024]⟩
abbrev S1024x1 : Shape := ⟨2, ![1024, 1]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S1024x3072, .f32⟩
  | .hbm, ⟨4, _⟩ => ⟨S1024x16, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x3200, .f32⟩
  | .hbm, ⟨9, _⟩ => ⟨S1024x3200, .bf16⟩
  | .hbm, ⟨10, _⟩ => ⟨S1x1024, .f32⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x1024 : Shape := ⟨2, ![16384, 1024]⟩
abbrev S1024 : Shape := ⟨1, ![1024]⟩
abbrev S1024x3088 : Shape := ⟨2, ![1024, 3088]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3088 : Shape := ⟨2, ![16384, 3088]⟩
abbrev S16384x16 : Shape := ⟨2, ![16384, 16]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3088, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x16, .f32⟩
  | .hbm, ⟨24, _⟩ => ⟨S16384x1024, .bf16⟩
  | .hbm, ⟨25, _⟩ => ⟨S_, .i32⟩
  | .hbm, ⟨26, _⟩ => ⟨S_, .f32⟩
  | .hbm, ⟨27, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x2568 : Shape := ⟨2, ![1024, 2568]⟩
abbrev S2x1024x2816 : Shape := ⟨3, ![2, 1024, 2816]⟩
abbrev S2x2816x1024 : Shape := ⟨3, ![2, 2816, 1024]⟩
abbrev S1024x2560 : Shape := ⟨2, ![1024, 2560]⟩
abbrev S1024x8 : Shape := ⟨2, ![1024, 8]⟩
abbrev S_ : Shape := ⟨0, ![]⟩
abbrev S1024x128 : Shape := ⟨2, ![1024, 128]⟩
abbrev S1024x2688 : Shape := ⟨2, ![1024, 2688]⟩
abbrev S1x1024 : Shape := ⟨2, ![1, 1024]⟩
abbrev S2048x2816 : Shape := ⟨2, ![2048, 2816]⟩
abbrev S5632x1024 : Shape := ⟨2, ![5632, 1024]⟩
abbrev S16384x1536 : Shape := ⟨2, ![16384, 1536]⟩
abbrev S16384x128 : Shape := ⟨2, ![16384, 128]⟩
abbrev S1024x2816 : Shape := ⟨2, ![1024, 2816]⟩
abbrev S2816x1024 : Shape := ⟨2, ![2816, 1024]⟩
abbrev S1024x1024 : Shape := ⟨2, ![1024, 1024]⟩
abbrev S64x2816 : Shape := ⟨2, ![64, 2816]⟩
abbrev S176x1024 : Shape := ⟨2, ![176, 1024]⟩
abbrev S1024x1536 : Shape := ⟨2, ![1024, 1536]⟩
abbrev S1024x1 : Shape := ⟨2, ![1024, 1]⟩

abbrev nBuf : Space → Nat
  | .hbm => 23
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2568, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1024x2560, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2688, .f32⟩
  | .hbm, ⟨12, _⟩ => ⟨S1024x2688, .bf16⟩
  | .hbm, ⟨13, _⟩ => ⟨S1x1024, .f32⟩
  | .hbm, ⟨14, _⟩ => ⟨S2048x2816, .f32⟩
  | .hbm, ⟨15, _⟩ => ⟨S2048x2816, .f32⟩
  | .hbm, ⟨16, _⟩ => ⟨S5632x1024, .f32⟩
  | .hbm, ⟨17, _⟩ => ⟨S16384x1024, .f32⟩
  | .hbm, ⟨18, _⟩ => ⟨S16384x1536, .bf16⟩
  | .hbm, ⟨19, _⟩ => ⟨S16384x128, .f32⟩
  | .hbm, ⟨20, _⟩ => ⟨S1024x2816, .bf16⟩
  | .hbm, ⟨21, _⟩ => ⟨S1024x2816, .bf16⟩
  | .hbm, ⟨22, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2688, .bf16⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S176x1024, .f32⟩
  | .local _ .vmem, ⟨9, _⟩ => ⟨S176x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1536, .bf16⟩
  | .local _ .vmem, ⟨13, _⟩ => ⟨S1024x1536, .bf16⟩
  | .local _ .vmem, ⟨14, _⟩ => ⟨S1024x128, .f32⟩
  | .local _ .vmem, ⟨15, _⟩ => ⟨S1024x128, .f32⟩
  | .local _ .vmem, ⟨16, _⟩ => ⟨S64x2816, .bf16⟩
  | .local _ .vmem, ⟨17, _⟩ => ⟨S64x2816, .bf16⟩
  | .local _ .vmem, ⟨18, _⟩ => ⟨S64x2816, .bf16⟩
  | .local _ .vmem, ⟨19, _⟩ => ⟨S64x2816, .bf16⟩
  | .local _ .vmem, ⟨20, _⟩ => ⟨S176x1024, .bf16⟩
  | .local _ .vmem, ⟨21, _⟩ => ⟨S176x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S16384x1024 : Shape := ⟨2, ![16384, 1024]⟩
abbrev S1024 : Shape := ⟨1, ![1024]⟩
abbrev S1024x2568 : Shape := ⟨2, ![1024, 2568]⟩
abbrev S2x1024x2816 : Shape := ⟨3, ![2, 1024, 2816]⟩
abbrev S2x2816x1024 : Shape := ⟨3, ![2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2568 : Shape := ⟨2, ![16384, 2568]⟩
abbrev S16384x1536 : Shape := ⟨2, ![16384, 1536]⟩
abbrev S16384x8 : Shape := ⟨2, ![16384, 8]⟩
abbrev S16384x128 : Shape := ⟨2, ![16384, 128]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2568, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2568, .f32⟩
  | .hbm, ⟨23, _⟩ => ⟨S16384x1024, .f32⟩
  | .hbm, ⟨24, _⟩ => ⟨S16384x1536, .f32⟩
  | .hbm, ⟨25, _⟩ => ⟨S16384x8, .f32⟩
  | .hbm, ⟨26, _⟩ => ⟨S16384x1536, .bf16⟩
  | .hbm, ⟨27, _⟩ => ⟨S_, .i32⟩
  | .hbm, ⟨28, _⟩ => ⟨S_, .f32⟩
  | .hbm, ⟨29, _⟩ => ⟨S16384x128, .f32⟩
  | .hbm, ⟨30, _⟩ => ⟨S1x1024x2816, .f32⟩
  | .hbm, ⟨31, _⟩ => ⟨S1024x2816, .f32⟩
  | .hbm, ⟨32, _⟩ => ⟨S1024x2816, .bf16⟩
  | .hbm, ⟨33, _⟩ => ⟨S1x1024x2816, .f32⟩
  | .hbm, ⟨34, _⟩ => ⟨S1024x2816, .f32⟩
  | .hbm, ⟨35, _⟩ => ⟨S1024x2816, .bf16⟩
  | .hbm, ⟨36, _⟩ => ⟨S1x2816x1024, .f32⟩
  | .hbm, ⟨37, _⟩ => ⟨S2816x1024, .f32⟩
  | .hbm, ⟨38, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S1024 : Shape := ⟨1, ![1024]⟩
abbrev S1024x8 : Shape := ⟨2, ![1024, 8]⟩
abbrev S1x1024 : Shape := ⟨2, ![1, 1024]⟩
abbrev S_ : Shape := ⟨0, ![]⟩
abbrev S1024x128 : Shape := ⟨2, ![1024, 128]⟩
abbrev S4x16384x256 : Shape := ⟨3, ![4, 16384, 256]⟩
abbrev S16384x128 : Shape := ⟨2, ![16384, 128]⟩
abbrev S4x1024x256 : Shape := ⟨3, ![4, 1024, 256]⟩
abbrev S1024x1 : Shape := ⟨2, ![1024, 1]⟩
abbrev S1024x256 : Shape := ⟨2, ![1024, 256]⟩
abbrev S1x1024x256 : Shape := ⟨3, ![1, 1024, 256]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x8, .f32⟩
  | .hbm, ⟨5, _⟩ => ⟨S1024x1024, .bf16⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S16384x1024, .f32⟩
  | .hbm, ⟨11, _⟩ => ⟨S4x16384x256, .bf16⟩
  | .hbm, ⟨12, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x128, .f32⟩
  | .local _ .vmem, ⟨7, _⟩ => ⟨S1024x1024, .f32⟩
  | .local _ .vmem, ⟨8, _⟩ => ⟨S1024x1024, .f32⟩
  | .local _ .vmem, ⟨9, _⟩ => ⟨S4x1024x256, .bf16⟩
  | .local _ .vmem, ⟨10, _⟩ => ⟨S4x1024x256, .bf16⟩
  | .local _ .vmem, ⟨11, _⟩ => ⟨S1024x128, .f32⟩
  | .local _ .vmem, ⟨12, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S16384x1024 : Shape := ⟨2, ![16384, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x4 : Shape := ⟨2, ![16384, 4]⟩
abbrev S16384x4x256 : Shape := ⟨3, ![16384, 4, 256]⟩
abbrev S4x16384x256 : Shape := ⟨3, ![4, 16384, 256]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x8, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x8, .f32⟩
  | .hbm, ⟨24, _⟩ => ⟨S16384x2, .f32⟩
  | .hbm, ⟨25, _⟩ => ⟨S16384x2, .i32⟩
  | .hbm, ⟨26, _⟩ => ⟨S16384x2, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x2, .f32⟩
  | .hbm, ⟨34, _⟩ => ⟨S16384x2, .f32⟩
  | .hbm, ⟨35, _⟩ => ⟨S16384x2, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x2, .f32⟩
  | .hbm, ⟨40, _⟩ => ⟨S16384x2, .f32⟩
  | .hbm, ⟨41, _⟩ => ⟨S16384x4, .f32⟩
  | .hbm, ⟨42, _⟩ => ⟨S16384x1024, .bf16⟩
  | .hbm, ⟨43, _⟩ => ⟨S16384x4x256, .bf16⟩
  | .hbm, ⟨44, _⟩ => ⟨S4x16384x256, .bf16⟩
  | .hbm, ⟨45, _⟩ => ⟨S_, .i32⟩
  | .hbm, ⟨46, _⟩ => ⟨S_, .f32⟩
  | .hbm, ⟨47, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_call0_v0 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Proof.Norm.lean ====
module

public import Idealize.ShloMosaic.Lib.Pipeline.ValueKit
public import Idealize.ShloMosaic.Lib.Pointwise

@[expose] public section

noncomputable section

/-! The normalised row, the same in every call that has one, and the gate of the feed-forward part. -/

namespace Cert.Proof

open Idealize.ShloMosaic

/-- A number of a row of 1024 after its normalisation: the row's number times one over the root of the row's mean square, times the gain. -/
def normRow (z g : Fin 1024 → EReal) (o : Fin 1024) : EReal :=
  z o * Ideal.rsqrt (Ideal.div (∑ k : Fin 1024, z k * z k) (Ideal.ofBits .f32 0x44800000#32) + Ideal.ofBits .f32 0x358637BD#32) * g o

/-- `a · σ(a) · b`. -/
def gated (a b : EReal) : EReal := a * Ideal.div 1 (1 + Ideal.exp (0 - a)) * b

end Cert.Proof

end
-- ==== Proof.Combine.lean ====
module

public import proofs.«01_k».proof.Proof.Norm
public import proofs.«01_k».proof.Proof.Gen.Kernel3Ideal.Value
public import Idealize.ShloMosaic.Lib.Pipeline.Covers
public import Idealize.ShloMosaic.Lib.Pipeline.ReadBack

@[expose] public section

set_option maxRecDepth 16384

noncomputable section

/-! The combination's array at an index: the token's row plus its two experts' rows under their weights, normalised. -/

namespace Cert.Proof.Combine

open Idealize.ShloMosaic Idealize.ShloMosaic.TcCoe Idealize.ShloMosaic.Tactic
open Cert.Kernel3Ideal Cert.Kernel3Ideal.Gen

/-- A number of row `r` of the packed rows: the words' low halves, then their high halves. -/
def packed (x : Vec Ideal S2x32768x256 .i32) (r : Fin 32768) (b : Fin 1024) : EReal :=
  if h : b.val < 512 then
    Ideal.ofBits .f32 (IntOp.shli .vector (if h' : b.val < 256 then x (ix3 0 r ⟨b.val, h'⟩) else x (ix3 1 r ⟨b.val - 256, by omega⟩)) 16#32)
  else
    Ideal.ofBits .f32 (IntOp.andi (if h' : b.val - 512 < 256 then x (ix3 0 r ⟨b.val - 512, h'⟩) else x (ix3 1 r ⟨b.val - 512 - 256, by omega⟩)) 4294901760#32)

/-- The sum of a token's row and its two experts' rows under their weights. -/
def mixAt (h : Vec Ideal S16384x1024 .f32) (y : Vec Ideal S2x32768x256 .i32) (w : Vec Ideal S16384x128 .f32) (r : Fin 16384) (o : Fin 1024) : EReal :=
  h (ix2 r o) + w (ix2 r 2) * packed y ⟨r.val, by omega⟩ o + w (ix2 r 3) * packed y ⟨16384 + r.val, by omega⟩ o

/-- The result. -/
def outAt (h : Vec Ideal S16384x1024 .f32) (y : Vec Ideal S2x32768x256 .i32) (w : Vec Ideal S16384x128 .f32) (g : Vec Ideal S1024 .f32) : Vec Ideal S16384x1024 .f32 :=
  fun i => normRow (mixAt h y w (i 0)) (fun k => g (ix1 k)) (i 1)

section body
variable (x0 : Vec Ideal S1024x1024 .f32) (x1 x2 : Vec Ideal S2x1024x256 .i32) (x3 : Vec Ideal S1024x128 .f32) (x4 : Vec Ideal S1x1024 .f32)

/-- A number of a row of a block of packed rows. -/
def unpacked (x : Vec Ideal S2x1024x256 .i32) (r : Fin 1024) (b : Fin 1024) : EReal :=
  if h : b.val < 512 then
    Ideal.ofBits .f32 (IntOp.shli .vector (if h' : b.val < 256 then x (ix3 0 r ⟨b.val, h'⟩) else x (ix3 1 r ⟨b.val - 256, by omega⟩)) 16#32)
  else
    Ideal.ofBits .f32 (IntOp.andi (if h' : b.val - 512 < 256 then x (ix3 0 r ⟨b.val - 512, h'⟩) else x (ix3 1 r ⟨b.val - 512 - 256, by omega⟩)) 4294901760#32)

/-- The sum as the body forms it from its blocks. -/
theorem sum_apply (a b : Fin 1024) :
    k0_pay2 (View.ld x3 r0_0) (View.ld x1 r0_1) (View.ld x1 r0_2) (View.ld x2 r0_1) (View.ld x2 r0_2) (View.ld x0 r0_3) (ix2 a b)
      = x0 (ix2 a b) + x3 (ix2 a 2) * unpacked x1 a b + x3 (ix2 a 3) * unpacked x2 a b := by
  unfold unpacked
  pointwise [k0_pay2]

/-- The normalisation as the body forms it. -/
theorem norm_apply (z : Vec Ideal S1024x1024 .f32) (g : Vec Ideal S1x1024 .f32) (a b : Fin 1024) :
    k0_pay1 z (k0_pay3 (View.ld g r0_4)) (mulf z z) (ix2 a b) = normRow (fun k => z (ix2 a k)) (fun k => g (ix2 0 k)) b := by
  unfold normRow
  pointwise [k0_pay1, k0_pay3]

/-- The offset of a whole block. -/
theorem zero_offset : (![0, 0] : Fin 2 → Nat) = fun _ => 0 := funext fun a => by fin_cases a <;> rfl

/-- What the body leaves in the result's block. -/
theorem body_apply (a b : Fin 1024) :
    out0_5 x0 x1 x2 x3 x4 (ix2 a b)
      = normRow (fun o => x0 (ix2 a o) + x3 (ix2 a 2) * unpacked x1 a o + x3 (ix2 a 3) * unpacked x2 a o) (fun k => x4 (ix2 0 k)) b := by
  unfold out0_5
  rw [View.canon_unit_zero zero_offset]
  refine (norm_apply _ x4 a b).trans ?_
  simp only [sum_apply]
end body

/-- The tile of a point. -/
theorem coords_lt (i : grid0.Coords) : (i 0).val < 16 := (i 0).isLt.trans_eq (by sl_kernel_rfl)

/-- The row's number in the whole array. -/
def rowOf (i : grid0.Coords) (a : Fin 1024) : Fin 16384 := ⟨1024 * (i 0).val + a.val, by have := coords_lt i; omega⟩

variable (m : (ℓ : Loc nD τ sig) → Buf (Elt Ideal) ℓ)

/-- The word of a point's number. -/
theorem point_word (i : grid0.Coords) : (BitVec.ofNat 32 (i 0).val).toNat = (i 0).val := by
  have := coords_lt i
  rw [BitVec.toNat_ofNat]; omega

/-- The block of the tokens' rows at a point. -/
theorem block0 (c : Dev nD) (t : Fin cfg0.N) (a b : Fin 1024) :
    iblk m c 0 t (ix2 a b) = m ((c.tc : Thread nD τ).loc main_arg0) (ix2 (rowOf (grid0.coords t) a) b) := by
  unfold iblk
  have e := point_word (grid0.coords t)
  refine (congrFun (V_main_arg0 m c) _).trans (congrArg (m ((c.tc : Thread nD τ).loc main_arg0)) (funext fun (d : Fin 2) => Fin.ext ?_))
  match d with
  | 0 => show (BitVec.ofNat 32 (grid0.coords t 0).val).toNat * 1024 + 1 * a.val = 1024 * (grid0.coords t 0).val + a.val; omega
  | 1 => show 0 * 1024 + 1 * b.val = b.val; omega

/-- The block of the first experts' rows. -/
theorem block1 (c : Dev nD) (t : Fin cfg0.N) (p : Fin 2) (a : Fin 1024) (b : Fin 256) :
    iblk m c 1 t (ix3 p a b) = m ((c.tc : Thread nD τ).loc main_arg1) (ix3 p ⟨(rowOf (grid0.coords t) a).val, by omega⟩ b) := by
  unfold iblk
  have e := point_word (grid0.coords t)
  refine (congrFun (V_main_arg1 m c) _).trans (congrArg (m ((c.tc : Thread nD τ).loc main_arg1)) (funext fun (d : Fin 3) => Fin.ext ?_))
  match d with
  | 0 => show 0 * 2 + 1 * p.val = p.val; omega
  | 1 => show (BitVec.ofNat 32 (grid0.coords t 0).val).toNat * 1024 + 1 * a.val = 1024 * (grid0.coords t 0).val + a.val; omega
  | 2 => show 0 * 256 + 1 * b.val = b.val; omega

/-- The block of the second experts' rows. -/
theorem block2 (c : Dev nD) (t : Fin cfg0.N) (p : Fin 2) (a : Fin 1024) (b : Fin 256) :
    iblk m c 2 t (ix3 p a b) = m ((c.tc : Thread nD τ).loc main_arg1) (ix3 p ⟨16384 + (rowOf (grid0.coords t) a).val, by omega⟩ b) := by
  unfold iblk
  have e := point_word (grid0.coords t)
  have hi := coords_lt (grid0.coords t)
  have e' : (BitVec.ofNat 32 16 + BitVec.ofNat 32 (grid0.coords t 0).val).toNat = 16 + (grid0.coords t 0).val := by
    rw [BitVec.toNat_add, BitVec.toNat_ofNat, BitVec.toNat_ofNat]; omega
  refine (congrFun (V_main_arg1 m c) _).trans (congrArg (m ((c.tc : Thread nD τ).loc main_arg1)) (funext fun (d : Fin 3) => Fin.ext ?_))
  match d with
  | 0 => show 0 * 2 + 1 * p.val = p.val; omega
  | 1 => show (BitVec.ofNat 32 16 + BitVec.ofNat 32 (grid0.coords t 0).val).toNat * 1024 + 1 * a.val = 16384 + (1024 * (grid0.coords t 0).val + a.val); omega
  | 2 => show 0 * 256 + 1 * b.val = b.val; omega

/-- The block of the weights. -/
theorem block3 (c : Dev nD) (t : Fin cfg0.N) (a : Fin 1024) (b : Fin 128) :
    iblk m c 3 t (ix2 a b) = m ((c.tc : Thread nD τ).loc main_arg2) (ix2 (rowOf (grid0.coords t) a) b) := by
  unfold iblk
  have e := point_word (grid0.coords t)
  refine (congrFun (V_main_arg2 m c) _).trans (congrArg (m ((c.tc : Thread nD τ).loc main_arg2)) (funext fun (d : Fin 2) => Fin.ext ?_))
  match d with
  | 0 => show (BitVec.ofNat 32 (grid0.coords t 0).val).toNat * 1024 + 1 * a.val = 1024 * (grid0.coords t 0).val + a.val; omega
  | 1 => show 0 * 128 + 1 * b.val = b.val; omega

/-- The gain as the region finds it: the argument, as one row. -/
theorem gain_eq (c : Dev nD) : (V m c main_v0 : Vec Ideal S1x1024 .f32) = shapeCast S1x1024 (s := S1024) (m ((c.tc : Thread nD τ).loc main_arg3)) (by decide) := by
  show StableHlo.after hostOps0 _ _ = _
  after_results_simp
  rfl

/-- The block of the gain, the same at every point. -/
theorem block4 (c : Dev nD) (t : Fin cfg0.N) (b : Fin 1024) :
    iblk m c 4 t (ix2 0 b) = m ((c.tc : Thread nD τ).loc main_arg3) (ix1 b) := by
  have hg : (V m c main_v0 : Vec Ideal S1x1024 .f32) (ix2 0 b) = m ((c.tc : Thread nD τ).loc main_arg3) (ix1 b) := by
    rw [gain_eq]; pointwise
  refine Eq.trans ?_ hg
  unfold iblk
  refine congrArg (V m c main_v0 : Vec Ideal S1x1024 .f32) (funext fun (d : Fin 2) => Fin.ext ?_)
  match d with
  | 0 => rfl
  | 1 => show 0 * 1024 + 1 * b.val = b.val; omega

/-- The rows of the blocks of packed rows, unpacked. -/
theorem unpacked_eq (x : Vec Ideal S2x1024x256 .i32) (y : Vec Ideal S2x32768x256 .i32) (a : Fin 1024) (r : Fin 32768)
    (h : ∀ (p : Fin 2) (j : Fin 256), x (ix3 p a j) = y (ix3 p r j)) (o : Fin 1024) : unpacked x a o = packed y r o := by
  unfold unpacked packed
  simp only [h]

/-- The array the call leaves. -/
theorem final (c : Dev nD) : (dats m 0 c).arrAt 5 cfg0.N = outAt (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ ?_ fun t hf y => ?_
  · refine (cfg0.win 5).covers_of_indexMap_surj rfl (fun a => (show ∀ a : Fin 2, 0 < S1024x1024.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_5]
    have key (y : S1024x1024.Idx) (j : S16384x1024.Idx) (h0 : (j 0).val = 1024 * (grid0.coords t 0).val + (y 0).val) (h1 : (j 1).val = (y 1).val) :
        out0_5 (iblk m c 0 t) (iblk m c 1 t) (iblk m c 2 t) (iblk m c 3 t) (iblk m c 4 t) y
          = outAt (m ((c.tc : Thread nD τ).loc main_arg0)) (m ((c.tc : Thread nD τ).loc main_arg1)) (m ((c.tc : Thread nD τ).loc main_arg2)) (m ((c.tc : Thread nD τ).loc main_arg3)) j := by
      have hj0 : j 0 = rowOf (grid0.coords t) (y 0) := Fin.ext h0
      have hj1 : j 1 = y 1 := Fin.ext h1
      rw [eq_ix2 y]
      refine (body_apply _ _ _ _ _ (y 0) (y 1)).trans ?_
      unfold outAt mixAt
      rw [hj0, hj1]
      simp only [block4, unpacked_eq _ _ (y 0) _ (fun p j => block1 m c t p (y 0) j), unpacked_eq _ _ (y 0) _ (fun p j => block2 m c t p (y 0) j)]
      refine congrArg (fun z => normRow z _ (y 1)) (funext fun o => ?_)
      exact Ideal.add_congr (Ideal.add_congr (block0 m c t (y 0) o) (Ideal.mul_congr (block3 m c t (y 0) 2) rfl)) (Ideal.mul_congr (block3 m c t (y 0) 3) rfl)
    refine key y _ ?_ ?_
    · show (BitVec.ofNat 32 (grid0.coords t 0).val).toNat * 1024 + 1 * (y (0 : Fin 2)).val = 1024 * (grid0.coords t 0).val + (y (0 : Fin 2)).val
      rw [point_word]; omega
    · show 0 * 1024 + 1 * (y (1 : Fin 2)).val = (y (1 : Fin 2)).val; omega

end Cert.Proof.Combine

end
-- ==== Proof.CombineRef.lean ====
module

public import proofs.«01_k».proof.Proof.Combine
public import proofs.«01_k».proof.Proof.Gen.Reference3Ideal.Run
public import Idealize.ShloMosaic.Lib.Tactic.CleanTypes
public import Idealize.ShloMosaic.Lib.KernelVsHost

@[expose] public section

set_option maxRecDepth 16384

noncomputable section

/-! The combination's reference at an index, and that it is the kernel's number. -/

namespace Cert.Proof.Combine

open Idealize.ShloMosaic Idealize.ShloMosaic.TcCoe Idealize.ShloMosaic.Tactic
open Cert.Reference3Ideal Cert.Reference3Ideal.Gen
open Idealize.SL.Sem

/-- The reference's sum at a place: the token's number and, over its two experts, the weight times the expert's. -/
def sumAt (h : Vec Ideal S16384x1024 .f32) (y : Vec Ideal S2x32768x256 .i32) (w : Vec Ideal S16384x128 .f32) (r : Fin 16384) (o : Fin 1024) : EReal :=
  h (ix2 r o) + ∑ x : Fin 2, w (ix2 r ⟨2 + x.val, by omega⟩) *
    (if hl : o.val < 512 then
      Ideal.ofBits .f32 (IntOp.shli .host (y (ix3 ⟨o.val / 256, by omega⟩ ⟨x.val * 16384 + r.val, by omega⟩ ⟨o.val % 256, by omega⟩)) 16#32)
    else
      Ideal.ofBits .f32 (IntOp.andi (y (ix3 ⟨(o.val - 512) / 256, by omega⟩ ⟨x.val * 16384 + r.val, by omega⟩ ⟨(o.val - 512) % 256, by omega⟩)) 4294901760#32))

/-- The same at a place of the row's first half. -/
def lowAt (h : Vec Ideal S16384x1024 .f32) (y : Vec Ideal S2x32768x256 .i32) (w : Vec Ideal S16384x128 .f32) (r : Fin 16384) (k : Fin 512) : EReal :=
  h (ix2 r ⟨k.val, by omega⟩) + ∑ x : Fin 2, w (ix2 r ⟨2 + x.val, by omega⟩) *
    Ideal.ofBits .f32 (IntOp.shli .host (y (ix3 ⟨k.val / 256, by omega⟩ ⟨x.val * 16384 + r.val, by omega⟩ ⟨k.val % 256, by omega⟩)) 16#32)

/-- The same at a place of the row's second half. -/
def highAt (h : Vec Ideal S16384x1024 .f32) (y : Vec Ideal S2x32768x256 .i32) (w : Vec Ideal S16384x128 .f32) (r : Fin 16384) (k : Fin 512) : EReal :=
  h (ix2 r ⟨512 + k.val, by omega⟩) + ∑ x : Fin 2, w (ix2 r ⟨2 + x.val, by omega⟩) *
    Ideal.ofBits .f32 (IntOp.andi (y (ix3 ⟨k.val / 256, by omega⟩ ⟨x.val * 16384 + r.val, by omega⟩ ⟨k.val % 256, by omega⟩)) 4294901760#32)

/-- The reference's number. -/
def refAt (h : Vec Ideal S16384x1024 .f32) (y : Vec Ideal S2x32768x256 .i32) (w : Vec Ideal S16384x128 .f32) (g : Vec Ideal S1024 .f32) (r : Fin 16384) (o : Fin 1024) : EReal :=
  sumAt h y w r o * Ideal.rsqrt (Ideal.div (∑ k : Fin 512, lowAt h y w r k * lowAt h y w r k + ∑ k : Fin 512, highAt h y w r k * highAt h y w r k)
    (Ideal.ofBits .f32 0x44800000#32) + Ideal.ofBits .f32 0x358637BD#32) * g (ix1 o)

/-- The word at a place of a packed row, as the kernel and as the reference find it. -/
theorem word_eq (y : Vec Ideal S2x32768x256 .i32) (r : Fin 32768) (k : Fin 512) :
    (if h : k.val < 256 then y (ix3 0 r ⟨k.val, h⟩) else y (ix3 1 r ⟨k.val - 256, by omega⟩)) = y (ix3 ⟨k.val / 256, by omega⟩ r ⟨k.val % 256, by omega⟩) := by
  split
  · refine congrArg y (funext fun (b : Fin 3) => Fin.ext ?_)
    match b with
    | 0 => show 0 = k.val / 256; omega
    | 1 => rfl
    | 2 => show k.val = k.val % 256; omega
  · refine congrArg y (funext fun (b : Fin 3) => Fin.ext ?_)
    match b with
    | 0 => show 1 = k.val / 256; omega
    | 1 => rfl
    | 2 => show k.val - 256 = k.val % 256; omega

/-- A packed row's number in its first half. -/
theorem packed_low (y : Vec Ideal S2x32768x256 .i32) (r : Fin 32768) (o : Fin 1024) (h : o.val < 512) :
    packed y r o = Ideal.ofBits .f32 (IntOp.shli .host (y (ix3 ⟨o.val / 256, by omega⟩ r ⟨o.val % 256, by omega⟩)) 16#32) := by
  unfold packed
  rw [dif_pos h, word_eq y r ⟨o.val, h⟩, ValueIdx.shli_host]

/-- A packed row's number in its second half. -/
theorem packed_high (y : Vec Ideal S2x32768x256 .i32) (r : Fin 32768) (o : Fin 1024) (h : ¬ o.val < 512) :
    packed y r o = Ideal.ofBits .f32 (IntOp.andi (y (ix3 ⟨(o.val - 512) / 256, by omega⟩ r ⟨(o.val - 512) % 256, by omega⟩)) 4294901760#32) := by
  unfold packed
  rw [dif_neg h, word_eq y r ⟨o.val - 512, by omega⟩]

/-- The sum over the two experts, written out. -/
theorem two_experts (h : Vec Ideal S16384x1024 .f32) (w : Vec Ideal S16384x128 .f32) (r : Fin 16384) (o : Fin 1024) (f : Fin 32768 → EReal) :
    h (ix2 r o) + ∑ x : Fin 2, w (ix2 r ⟨2 + x.val, by omega⟩) * f ⟨x.val * 16384 + r.val, by omega⟩
      = h (ix2 r o) + w (ix2 r 2) * f ⟨r.val, by omega⟩ + w (ix2 r 3) * f ⟨16384 + r.val, by omega⟩ := by
  rw [Fin.sum_univ_two, ← add_assoc]
  refine Ideal.add_congr (Ideal.add_congr rfl (Ideal.mul_congr rfl (congrArg f (Fin.ext ?_)))) (Ideal.mul_congr rfl (congrArg f (Fin.ext ?_)))
  · show 0 * 16384 + r.val = r.val; omega
  · show 1 * 16384 + r.val = 16384 + r.val; omega

/-- The reference's sum is the kernel's. -/
theorem sumAt_eq (h : Vec Ideal S16384x1024 .f32) (y : Vec Ideal S2x32768x256 .i32) (w : Vec Ideal S16384x128 .f32) (r : Fin 16384) (o : Fin 1024) :
    sumAt h y w r o = mixAt h y w r o := by
  refine Eq.trans ?_ (two_experts h w r o fun q => packed y q o)
  unfold sumAt
  refine Ideal.add_congr rfl (Finset.sum_congr rfl fun x _ => Ideal.mul_congr rfl ?_)
  split
  · rename_i hl; exact (packed_low y _ o hl).symm
  · rename_i hl; exact (packed_high y _ o hl).symm

/-- In the first half too. -/
theorem lowAt_eq (h : Vec Ideal S16384x1024 .f32) (y : Vec Ideal S2x32768x256 .i32) (w : Vec Ideal S16384x128 .f32) (r : Fin 16384) (k : Fin 512) :
    lowAt h y w r k = mixAt h y w r (Fin.castAdd 512 k) := by
  refine Eq.trans ?_ (two_experts h w r (Fin.castAdd 512 k) fun q => packed y q (Fin.castAdd 512 k))
  unfold lowAt
  exact Ideal.add_congr rfl (Finset.sum_congr rfl fun x _ => Ideal.mul_congr rfl (packed_low y _ (Fin.castAdd 512 k) k.isLt).symm)

/-- And in the second. -/
theorem highAt_eq (h : Vec Ideal S16384x1024 .f32) (y : Vec Ideal S2x32768x256 .i32) (w : Vec Ideal S16384x128 .f32) (r : Fin 16384) (k : Fin 512) :
    highAt h y w r k = mixAt h y w r (Fin.natAdd 512 k) := by
  have hk : ¬ (Fin.natAdd 512 k).val < 512 := by show ¬ 512 + k.val < 512; omega
  have e : 512 + k.val - 512 = k.val := by omega
  refine Eq.trans ?_ (two_experts h w r (Fin.natAdd 512 k) fun q => packed y q (Fin.natAdd 512 k))
  unfold highAt
  refine Ideal.add_congr rfl (Finset.sum_congr rfl fun x _ => Ideal.mul_congr rfl ((packed_high y _ (Fin.natAdd 512 k) hk).trans ?_).symm)
  refine congrArg (fun i => Ideal.ofBits .f32 (IntOp.andi (y i) 4294901760#32)) (funext fun (b : Fin 3) => Fin.ext ?_)
  match b with
  | 0 => show (512 + k.val - 512) / 256 = k.val / 256; rw [e]
  | 1 => rfl
  | 2 => show (512 + k.val - 512) % 256 = k.val % 256; rw [e]

/-- The reference's number is the kernel's. -/
theorem refAt_eq (h : Vec Ideal S16384x1024 .f32) (y : Vec Ideal S2x32768x256 .i32) (w : Vec Ideal S16384x128 .f32) (g : Vec Ideal S1024 .f32) (r : Fin 16384) (o : Fin 1024) :
    refAt h y w g r o = normRow (mixAt h y w r) (fun k => g (ix1 k)) o := by
  unfold refAt normRow
  have e : ∑ k : Fin 1024, mixAt h y w r k * mixAt h y w r k
      = ∑ k : Fin 512, lowAt h y w r k * lowAt h y w r k + ∑ k : Fin 512, highAt h y w r k * highAt h y w r k := by
    simp only [lowAt_eq, highAt_eq]
    exact Fin.sum_univ_add (a := 512) (b := 512) (fun k : Fin 1024 => mixAt h y w r k * mixAt h y w r k)
  rw [sumAt_eq, e]

/-- The reference's run, at an index. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = (fun i => refAt (m ((c.tc : Thread nD τ).loc main_arg0)) (m ((c.tc : Thread nD τ).loc main_arg1)) (m ((c.tc : Thread nD τ).loc main_arg2))
        (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.Reference3Ideal.Value.run m ρ)
  clear h
  funext i
  conv_lhs => rw [eq_ix2 i]
  unfold refAt sumAt lowAt highAt
  clean_types
  pointwise

end Cert.Proof.Combine

end
-- ==== Proof.FfnTile.lean ====
module

public import proofs.«01_k».proof.Proof.Norm
public import proofs.«01_k».proof.Proof.Gen.Kernel4Ideal.Value
public import Idealize.ShloMosaic.Lib.Pipeline.Covers
public import Idealize.ShloMosaic.Lib.Pipeline.ReadBack
public import Idealize.ShloMosaic.Lib.Tactic.RunNames

@[expose] public section

set_option maxRecDepth 16384

noncomputable section

/-! What the feed-forward part's body leaves in its block, at an index. -/

namespace Cert.Proof.Ffn

open Idealize.ShloMosaic Idealize.ShloMosaic.TcCoe Idealize.ShloMosaic.Tactic
open Cert.Kernel4Ideal Cert.Kernel4Ideal.Gen

/-- 256 columns of a table of first weights, as a load brings them. -/
abbrev cols (u : Vec Ideal S1024x2816 .bf16) (n : ℕ) (h : ∀ a, (![0, n] : Fin 2 → ℕ) a + (![1024, 256] : Fin 2 → ℕ) a ≤ S1024x2816.size a) :
    Vec Ideal S1024x256 .bf16 :=
  View.ld u (Rect.unit ![0, n] ![1024, 256] h)

/-- A product of a tile's rows with a column of the first weights. -/
def lin (X : FVec Ideal S512x1024 .bf16) (u : Vec Ideal S1024x2816 .bf16) (a : Fin 512) (f : Fin 2816) : EReal :=
  ∑ k : Fin 1024, X (ix2 a k) * u (ix2 k f)

/-- The hidden layer of a tile. -/
def hidden (X : FVec Ideal S512x1024 .bf16) (u v : Vec Ideal S1024x2816 .bf16) : Vec Ideal S512x2816 .bf16 :=
  fun j => gated (lin X u (j 0) (j 1)) (lin X v (j 0) (j 1))

/-- A column of such a load is a column of the weights. -/
theorem lin_cols (X : FVec Ideal S512x1024 .bf16) (u : Vec Ideal S1024x2816 .bf16) (n : ℕ) (h) (a : Fin 512) (b : Fin 256) (f : Fin 2816) (hf : f.val = n + b.val) :
    ∑ k : Fin 1024, X (ix2 a k) * cols u n h (ix2 k b) = lin X u a f := by
  refine Finset.sum_congr rfl fun k _ => Ideal.mul_congr rfl ?_
  refine congrArg u (funext fun (c : Fin 2) => Fin.ext ?_)
  match c with
  | 0 => show 0 + 1 * k.val = k.val; omega
  | 1 => show n + 1 * b.val = f.val; omega

/-- What each of the eleven slices holds. -/
def sliceAt (X : FVec Ideal S512x1024 .bf16) (U G : Vec Ideal S1024x256 .bf16) (a : Fin 512) (b : Fin 256) : EReal :=
  gated (∑ k : Fin 1024, X (ix2 a k) * U (ix2 k b)) (∑ k : Fin 1024, X (ix2 a k) * G (ix2 k b))

section slices
variable (x0 : Vec Ideal S512x1024 .f32) (x1 x2 : Vec Ideal S512x512 .bf16) (p q : Vec Ideal S512x1024 .bf16) (g : Vec Ideal S1x1024 .f32)
variable (X : FVec Ideal S512x1024 .bf16) (U G : Vec Ideal S1024x256 .bf16) (a : Fin 512) (b : Fin 256)

/-- The first slice. -/
theorem slice0 : k0_pay9 (k0_pay5 x0 x1 p x2 q g U) (k0_pay6 x0 x1 p x2 q g G) (k0_pay7 x0 x1 p x2 q g U) k0_pay8 (ix2 a b) = sliceAt (k0_pay4 x0 x1 p x2 q g) U G a b := by
  unfold sliceAt gated; pointwise [k0_pay9, k0_pay5, k0_pay6, k0_pay7, k0_pay8]
/-- The second slice. -/
theorem slice1 : k0_pay10 X U G (ix2 a b) = sliceAt X U G a b := by
  unfold sliceAt gated; pointwise [k0_pay10]
/-- The third slice. -/
theorem slice2 : k0_pay14 (k0_pay11 X U) (k0_pay12 X G) (k0_pay13 X U) (FloatOps.ofBits FTy.f32 1065353216#32) (ix2 a b) = sliceAt X U G a b := by
  unfold sliceAt gated; pointwise [k0_pay14, k0_pay11, k0_pay12, k0_pay13]
/-- The fourth slice. -/
theorem slice3 : k0_pay15 X U G (ix2 a b) = sliceAt X U G a b := by
  unfold sliceAt gated; pointwise [k0_pay15]
/-- The fifth slice. -/
theorem slice4 : k0_pay19 (k0_pay16 X U) (k0_pay17 X G) (k0_pay18 X U) (ix2 a b) = sliceAt X U G a b := by
  unfold sliceAt gated; pointwise [k0_pay19, k0_pay16, k0_pay17, k0_pay18]
/-- The sixth slice. -/
theorem slice5 : k0_pay20 X U G (ix2 a b) = sliceAt X U G a b := by
  unfold sliceAt gated; pointwise [k0_pay20]
/-- The seventh slice. -/
theorem slice6 : k0_pay22 (k0_pay21 X U G) (ix2 a b) = sliceAt X U G a b := by
  unfold sliceAt gated; pointwise [k0_pay22, k0_pay21]
/-- The eighth slice. -/
theorem slice7 : k0_pay23 X U G (ix2 a b) = sliceAt X U G a b := by
  unfold sliceAt gated; pointwise [k0_pay23]
/-- The ninth slice. -/
theorem slice8 : k0_pay25 (k0_pay24 X U G) (ix2 a b) = sliceAt X U G a b := by
  unfold sliceAt gated; pointwise [k0_pay25, k0_pay24]
/-- The tenth slice. -/
theorem slice9 : k0_pay26 X U G (ix2 a b) = sliceAt X U G a b := by
  unfold sliceAt gated; pointwise [k0_pay26]
/-- The eleventh slice. -/
theorem slice10 : k0_pay1 (k0_pay27 X U G) (ix2 a b) = sliceAt X U G a b := by
  unfold sliceAt gated; pointwise [k0_pay1, k0_pay27]
end slices

/-- Slices of 256 columns of the loads are slices of the hidden layer. -/
theorem sliceAt_cols (X : FVec Ideal S512x1024 .bf16) (u v : Vec Ideal S1024x2816 .bf16) (n : ℕ) (h h') (a : Fin 512) (b : Fin 256) (y : S512x2816.Idx)
    (h0 : (y 0).val = a.val) (h1 : (y 1).val = n + b.val) :
    sliceAt X (cols u n h) (cols v n h') a b = hidden X u v y := by
  have ha : y 0 = a := Fin.ext h0
  unfold sliceAt hidden
  rw [lin_cols X u n h a b (y 1) h1, lin_cols X v n h' a b (y 1) h1, ha]

section body
variable (x0 : Vec Ideal S512x1024 .f32) (x1 x2 : Vec Ideal S512x512 .bf16) (p q : Vec Ideal S512x1024 .bf16) (g : Vec Ideal S1x1024 .f32)
variable (u v : Vec Ideal S1024x2816 .bf16)

/-- The stores into the scratch, the last first. -/
abbrev slices : List (View.Piece (Elt Ideal) S512x2816 .bf16) :=
  [⟨Rect.unit ![0, 2560] ![512, 256] inb_S512x2816_S512x256_0_2560,
      k0_pay1 (k0_pay27 (k0_pay4 x0 x1 p x2 q g) (cols u 2560 inb_S1024x2816_S1024x256_0_2560) (cols v 2560 inb_S1024x2816_S1024x256_0_2560))⟩,
    ⟨Rect.unit ![0, 2304] ![512, 256] inb_S512x2816_S512x256_0_2304,
      k0_pay26 (k0_pay4 x0 x1 p x2 q g) (cols u 2304 inb_S1024x2816_S1024x256_0_2304) (cols v 2304 inb_S1024x2816_S1024x256_0_2304)⟩,
    ⟨Rect.unit ![0, 2048] ![512, 256] inb_S512x2816_S512x256_0_2048,
      k0_pay25 (k0_pay24 (k0_pay4 x0 x1 p x2 q g) (cols u 2048 inb_S1024x2816_S1024x256_0_2048) (cols v 2048 inb_S1024x2816_S1024x256_0_2048))⟩,
    ⟨Rect.unit ![0, 1792] ![512, 256] inb_S512x2816_S512x256_0_1792,
      k0_pay23 (k0_pay4 x0 x1 p x2 q g) (cols u 1792 inb_S1024x2816_S1024x256_0_1792) (cols v 1792 inb_S1024x2816_S1024x256_0_1792)⟩,
    ⟨Rect.unit ![0, 1536] ![512, 256] inb_S512x2816_S512x256_0_1536,
      k0_pay22 (k0_pay21 (k0_pay4 x0 x1 p x2 q g) (cols u 1536 inb_S1024x2816_S1024x256_0_1536) (cols v 1536 inb_S1024x2816_S1024x256_0_1536))⟩,
    ⟨Rect.unit ![0, 1280] ![512, 256] inb_S512x2816_S512x256_0_1280,
      k0_pay20 (k0_pay4 x0 x1 p x2 q g) (cols u 1280 inb_S1024x2816_S1024x256_0_1280) (cols v 1280 inb_S1024x2816_S1024x256_0_1280)⟩,
    ⟨Rect.unit ![0, 1024] ![512, 256] inb_S512x2816_S512x256_0_1024,
      k0_pay19 (k0_pay16 (k0_pay4 x0 x1 p x2 q g) (cols u 1024 inb_S1024x2816_S1024x256_0_1024)) (k0_pay17 (k0_pay4 x0 x1 p x2 q g) (cols v 1024 inb_S1024x2816_S1024x256_0_1024)) (k0_pay18 (k0_pay4 x0 x1 p x2 q g) (cols u 1024 inb_S1024x2816_S1024x256_0_1024))⟩,
    ⟨Rect.unit ![0, 768] ![512, 256] inb_S512x2816_S512x256_0_768,
      k0_pay15 (k0_pay4 x0 x1 p x2 q g) (cols u 768 inb_S1024x2816_S1024x256_0_768) (cols v 768 inb_S1024x2816_S1024x256_0_768)⟩,
    ⟨Rect.unit ![0, 512] ![512, 256] inb_S512x2816_S512x256_0_512,
      k0_pay14 (k0_pay11 (k0_pay4 x0 x1 p x2 q g) (cols u 512 inb_S1024x2816_S1024x256_0_512)) (k0_pay12 (k0_pay4 x0 x1 p x2 q g) (cols v 512 inb_S1024x2816_S1024x256_0_512)) (k0_pay13 (k0_pay4 x0 x1 p x2 q g) (cols u 512 inb_S1024x2816_S1024x256_0_512)) (FloatOps.ofBits FTy.f32 1065353216#32)⟩,
    ⟨Rect.unit ![0, 256] ![512, 256] inb_S512x2816_S512x256_0_256,
      k0_pay10 (k0_pay4 x0 x1 p x2 q g) (cols u 256 inb_S1024x2816_S1024x256_0_256) (cols v 256 inb_S1024x2816_S1024x256_0_256)⟩,
    ⟨Rect.unit ![0, 0] ![512, 256] inb_S512x2816_S512x256_0_0,
      k0_pay9 (k0_pay5 x0 x1 p x2 q g (cols u 0 inb_S1024x2816_S1024x256_0_0)) (k0_pay6 x0 x1 p x2 q g (cols v 0 inb_S1024x2816_S1024x256_0_0)) (k0_pay7 x0 x1 p x2 q g (cols u 0 inb_S1024x2816_S1024x256_0_0)) k0_pay8⟩]

/-- They leave the hidden layer. -/
theorem slices_apply (y : S512x2816.Idx) : View.canon (slices x0 x1 x2 p q g u v) y = hidden (k0_pay4 x0 x1 p x2 q g) u v y := by
  unfold slices
  canon_tiles x h
  all_goals rw [eq_ix2 x]
  · exact (slice10 _ _ _ _ _).trans (sliceAt_cols _ u v 2560 _ _ _ _ y h0 h1)
  · exact (slice9 _ _ _ _ _).trans (sliceAt_cols _ u v 2304 _ _ _ _ y h0 h1)
  · exact (slice8 _ _ _ _ _).trans (sliceAt_cols _ u v 2048 _ _ _ _ y h0 h1)
  · exact (slice7 _ _ _ _ _).trans (sliceAt_cols _ u v 1792 _ _ _ _ y h0 h1)
  · exact (slice6 _ _ _ _ _).trans (sliceAt_cols _ u v 1536 _ _ _ _ y h0 h1)
  · exact (slice5 _ _ _ _ _).trans (sliceAt_cols _ u v 1280 _ _ _ _ y h0 h1)
  · exact (slice4 _ _ _ _ _).trans (sliceAt_cols _ u v 1024 _ _ _ _ y h0 h1)
  · exact (slice3 _ _ _ _ _).trans (sliceAt_cols _ u v 768 _ _ _ _ y h0 h1)
  · exact (slice2 _ _ _ _ _).trans (sliceAt_cols _ u v 512 _ _ _ _ y h0 h1)
  · exact (slice1 _ _ _ _ _).trans (sliceAt_cols _ u v 256 _ _ _ _ y h0 h1)
  · exact (slice0 _ _ _ _ _ _ _ _ _ _).trans (sliceAt_cols _ u v 0 _ _ _ _ y h0 (h1.trans (Nat.zero_add _).symm))

/-- The load of the scratch after them is the hidden layer. -/
theorem hidden_read {κ : Kind} {sp : Space} (V : View sig κ sp S512x2816 .bf16) :
    V.readCov (slices x0 x1 x2 p q g u v) (Rect.unit ![0, 0] ![512, 2816] inb_S512x2816_S512x2816_0_0).toLoadRect = hidden (k0_pay4 x0 x1 p x2 q g) u v := by
  rw [View.readCov_eq_canon']
  funext j
  refine (slices_apply x0 x1 x2 p q g u v _).trans (congrArg (hidden (k0_pay4 x0 x1 p x2 q g) u v) (funext fun (a : Fin 2) => Fin.ext ?_))
  match a with
  | 0 => show 0 + 1 * (j 0).val = (j 0).val; omega
  | 1 => show 0 + 1 * (j 1).val = (j 1).val; omega

/-- The rows of a tile after the mixers, from its blocks. -/
def mixB (x3 : Vec Ideal S1024x1024 .bf16) (a : Fin 512) (o : Fin 1024) : EReal :=
  x0 (ix2 a o) + ∑ k : Fin 512, x1 (ix2 a k) * x3 (ix2 ⟨k.val, by omega⟩ o) + ∑ k : Fin 512, x2 (ix2 a k) * x3 (ix2 ⟨512 + k.val, by omega⟩ o)

/-- The two halves of the output projection's weights, as the loads bring them. -/
abbrev topHalf (x3 : Vec Ideal S1024x1024 .bf16) : Vec Ideal S512x1024 .bf16 := View.ld x3 (Rect.unit ![0, 0] ![512, 1024] inb_S1024x1024_S512x1024_0_0)
/-- The second half. -/
abbrev lowHalf (x3 : Vec Ideal S1024x1024 .bf16) : Vec Ideal S512x1024 .bf16 := View.ld x3 (Rect.unit ![512, 0] ![512, 1024] inb_S1024x1024_S512x1024_512_0)

/-- The body forms these rows. -/
theorem mix_apply (x3 : Vec Ideal S1024x1024 .bf16) (a : Fin 512) (o : Fin 1024) :
    k0_pay3 x0 x1 (topHalf x3) x2 (lowHalf x3) (ix2 a o) = mixB x0 x1 x2 x3 a o := by
  unfold mixB topHalf lowHalf
  pointwise [k0_pay3]

/-- And normalises them. -/
theorem norm_apply (a : Fin 512) (o : Fin 1024) :
    k0_pay4 x0 x1 p x2 q g (ix2 a o) = normRow (fun k => k0_pay3 x0 x1 p x2 q (ix2 a k)) (fun k => g (ix2 0 k)) o := by
  unfold k0_pay4
  generalize k0_pay3 x0 x1 p x2 q = z
  unfold normRow
  pointwise

/-- The product with the second weights, added to the rows. -/
theorem out_apply (z : FVec Ideal S512x1024 .f32) (H : Vec Ideal S512x2816 .bf16) (d : Vec Ideal S2816x1024 .bf16) (a : Fin 512) (o : Fin 1024) :
    k0_pay2 z H d (ix2 a o) = z (ix2 a o) + ∑ f : Fin 2816, H (ix2 a f) * d (ix2 f o) := by
  pointwise [k0_pay2]

/-- What a tile's body leaves, from its blocks. -/
def bodyAt (x3 : Vec Ideal S1024x1024 .bf16) (d : Vec Ideal S2816x1024 .bf16) (a : Fin 512) (o : Fin 1024) : EReal :=
  mixB x0 x1 x2 x3 a o + ∑ f : Fin 2816,
    gated (∑ k : Fin 1024, normRow (mixB x0 x1 x2 x3 a) (fun k => g (ix2 0 k)) k * u (ix2 k f))
      (∑ k : Fin 1024, normRow (mixB x0 x1 x2 x3 a) (fun k => g (ix2 0 k)) k * v (ix2 k f)) * d (ix2 f o)

/-- The body's value. -/
theorem value_apply (x3 : Vec Ideal S1024x1024 .bf16) (d : Vec Ideal S2816x1024 .bf16) (a : Fin 512) (o : Fin 1024) :
    k0_pay2 (k0_pay3 x0 x1 (topHalf x3) x2 (lowHalf x3)) (hidden (k0_pay4 x0 x1 (topHalf x3) x2 (lowHalf x3) g) u v) d (ix2 a o)
      = bodyAt x0 x1 x2 g u v x3 d a o := by
  refine (out_apply _ _ _ a o).trans ?_
  unfold bodyAt
  refine Ideal.add_congr (mix_apply x0 x1 x2 x3 a o) (Finset.sum_congr rfl fun f _ => Ideal.mul_congr ?_ rfl)
  have e (k : Fin 1024) : k0_pay4 x0 x1 (topHalf x3) x2 (lowHalf x3) g (ix2 a k) = normRow (mixB x0 x1 x2 x3 a) (fun k => g (ix2 0 k)) k :=
    (norm_apply x0 x1 x2 (topHalf x3) (lowHalf x3) g a k).trans (congrArg (fun z => normRow z (fun k => g (ix2 0 k)) k) (funext fun k => mix_apply x0 x1 x2 x3 a k))
  show gated (lin _ u a f) (lin _ v a f) = _
  unfold lin
  simp only [e]

set_option maxHeartbeats 2000000 in
/-- What the run leaves in the result's block. -/
theorem body_apply (c : Dev nD) (i : grid0.Coords) (arg1 : Memref sig .tc .vmem S512x1024 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x2816 .bf16) (harg6 : arg6.IsWhole)
    (arg7 : Memref sig .tc .vmem S1024x2816 .bf16) (harg7 : arg7.IsWhole) (arg8 : Memref sig .tc .vmem S2816x1024 .bf16) (harg8 : arg8.IsWhole)
    (arg9 : Memref sig .tc .vmem S512x1024 .f32) (harg9 : arg9.IsWhole) (arg10 : Memref sig .tc .vmem S512x2816 .bf16) (harg10 : arg10.IsWhole)
    (x3 : Vec Ideal S1024x1024 .bf16) (d : Vec Ideal S2816x1024 .bf16) (a : Fin 512) (o : Fin 1024) :
    out0_A_8 c i arg1 harg1 arg2 harg2 arg3 harg3 arg4 harg4 arg5 harg5 arg6 harg6 arg7 harg7 arg8 harg8 arg9 harg9 arg10 harg10 x0 x1 x2 x3 g u v d (ix2 a o)
      = bodyAt x0 x1 x2 g u v x3 d a o := by
  unfold out0_A_8
  frame_out
  rw [hidden_read]
  exact value_apply x0 x1 x2 g u v x3 d a o
end body

end Cert.Proof.Ffn

end
-- ==== Proof.Ffn.lean ====
module

public import proofs.«01_k».proof.Proof.FfnTile

@[expose] public section

set_option maxRecDepth 16384

noncomputable section

/-! The feed-forward part's array at an index: the mixers' output projected onto the row, and the gated feed-forward part of the normalised row. -/

namespace Cert.Proof.Ffn

open Idealize.ShloMosaic Idealize.ShloMosaic.TcCoe Idealize.ShloMosaic.Tactic
open Cert.Kernel4Ideal Cert.Kernel4Ideal.Gen

/-- A token's row after the mixers. -/
def mixAt (h : Vec Ideal S16384x1024 .f32) (ya yb : Vec Ideal S16384x512 .bf16) (wo : Vec Ideal S1024x1024 .f32) (r : Fin 16384) (o : Fin 1024) : EReal :=
  h (ix2 r o) + ∑ k : Fin 512, ya (ix2 r k) * wo (ix2 ⟨k.val, by omega⟩ o) + ∑ k : Fin 512, yb (ix2 r k) * wo (ix2 ⟨512 + k.val, by omega⟩ o)

/-- The feed-forward part of a row `z` with the gain `g`, added to it. -/
def ffnAt (z : Fin 1024 → EReal) (g : Vec Ideal S1024 .f32) (w1 w3 : Vec Ideal S1024x2816 .bf16) (w2 : Vec Ideal S2816x1024 .bf16) (o : Fin 1024) : EReal :=
  z o + ∑ f : Fin 2816,
    gated (∑ k : Fin 1024, normRow z (fun k => g (ix1 k)) k * w1 (ix2 k f))
      (∑ k : Fin 1024, normRow z (fun k => g (ix1 k)) k * w3 (ix2 k f)) * w2 (ix2 f o)

/-- The result. -/
def outAt (h : Vec Ideal S16384x1024 .f32) (ya yb : Vec Ideal S16384x512 .bf16) (wo : Vec Ideal S1024x1024 .f32) (g : Vec Ideal S1024 .f32)
    (w1 w3 : Vec Ideal S1024x2816 .bf16) (w2 : Vec Ideal S2816x1024 .bf16) : Vec Ideal S16384x1024 .f32 :=
  fun i => ffnAt (mixAt h ya yb wo (i 0)) g w1 w3 w2 (i 1)

/-- The tile of a point. -/
theorem coords_lt (i : grid0.Coords) : (i 0).val < 32 := (i 0).isLt.trans_eq (by sl_kernel_rfl)

/-- The row's number in the whole array. -/
def rowOf (i : grid0.Coords) (a : Fin 512) : Fin 16384 := ⟨512 * (i 0).val + a.val, by have := coords_lt i; omega⟩

variable (m : (ℓ : Loc nD τ sig) → Buf (Elt Ideal) ℓ)

/-- The word of a point's number. -/
theorem point_word (i : grid0.Coords) : (BitVec.ofNat 32 (i 0).val).toNat = (i 0).val := by
  have := coords_lt i
  rw [BitVec.toNat_ofNat]; omega

/-- The block of window 0 at a point: 512 rows of its array. -/
theorem block0 (c : Dev nD) (t : Fin cfg0.N) (a : Fin 512) (b : Fin 1024) :
    iblk m c 0 t (ix2 a b) = m ((c.tc : Thread nD τ).loc main_arg0) (ix2 (rowOf (grid0.coords t) a) b) := by
  unfold iblk
  have e := point_word (grid0.coords t)
  refine (congrFun (V_main_arg0 m c) _).trans (congrArg (m ((c.tc : Thread nD τ).loc main_arg0)) (funext fun (d : Fin 2) => Fin.ext ?_))
  match d with
  | 0 => show (BitVec.ofNat 32 (grid0.coords t 0).val).toNat * 512 + 1 * a.val = 512 * (grid0.coords t 0).val + a.val; omega
  | 1 => show 0 * 1024 + 1 * b.val = b.val; omega

/-- The block of window 1 at a point: 512 rows of its array. -/
theorem block1 (c : Dev nD) (t : Fin cfg0.N) (a : Fin 512) (b : Fin 512) :
    iblk m c 1 t (ix2 a b) = m ((c.tc : Thread nD τ).loc main_arg1) (ix2 (rowOf (grid0.coords t) a) b) := by
  unfold iblk
  have e := point_word (grid0.coords t)
  refine (congrFun (V_main_arg1 m c) _).trans (congrArg (m ((c.tc : Thread nD τ).loc main_arg1)) (funext fun (d : Fin 2) => Fin.ext ?_))
  match d with
  | 0 => show (BitVec.ofNat 32 (grid0.coords t 0).val).toNat * 512 + 1 * a.val = 512 * (grid0.coords t 0).val + a.val; omega
  | 1 => show 0 * 512 + 1 * b.val = b.val; omega

/-- The block of window 2 at a point: 512 rows of its array. -/
theorem block2 (c : Dev nD) (t : Fin cfg0.N) (a : Fin 512) (b : Fin 512) :
    iblk m c 2 t (ix2 a b) = m ((c.tc : Thread nD τ).loc main_arg2) (ix2 (rowOf (grid0.coords t) a) b) := by
  unfold iblk
  have e := point_word (grid0.coords t)
  refine (congrFun (V_main_arg2 m c) _).trans (congrArg (m ((c.tc : Thread nD τ).loc main_arg2)) (funext fun (d : Fin 2) => Fin.ext ?_))
  match d with
  | 0 => show (BitVec.ofNat 32 (grid0.coords t 0).val).toNat * 512 + 1 * a.val = 512 * (grid0.coords t 0).val + a.val; omega
  | 1 => show 0 * 512 + 1 * b.val = b.val; omega

/-- The output projection's weights as the region finds them: the argument, cast. -/
theorem proj_eq (c : Dev nD) : (V m c main_v0 : Vec Ideal S1024x1024 .bf16) = truncf (F := Ideal) .bf16 (m ((c.tc : Thread nD τ).loc main_arg3) : FVec Ideal S1024x1024 .f32) bitsLt_bf16_f32 := by
  show StableHlo.after hostOps0 _ _ = _
  after_results_simp

/-- Their block, the same at every point. -/
theorem block3 (c : Dev nD) (t : Fin cfg0.N) (a b : Fin 1024) :
    iblk m c 3 t (ix2 a b) = m ((c.tc : Thread nD τ).loc main_arg3) (ix2 a b) := by
  have hg : (V m c main_v0 : Vec Ideal S1024x1024 .bf16) (ix2 a b) = m ((c.tc : Thread nD τ).loc main_arg3) (ix2 a b) := by
    rw [proj_eq]; rfl
  refine Eq.trans ?_ hg
  unfold iblk
  refine congrArg (V m c main_v0 : Vec Ideal S1024x1024 .bf16) (funext fun (d : Fin 2) => Fin.ext ?_)
  match d with
  | 0 => show 0 * 1024 + 1 * a.val = a.val; omega
  | 1 => show 0 * 1024 + 1 * b.val = b.val; omega

/-- The gain as the region finds it: the argument, as one row. -/
theorem gain_eq (c : Dev nD) : (V m c main_v1 : Vec Ideal S1x1024 .f32) = shapeCast S1x1024 (s := S1024) (m ((c.tc : Thread nD τ).loc main_arg4)) (by decide) := by
  show StableHlo.after hostOps0 _ _ = _
  after_results_simp
  rfl

/-- The block of the gain, the same at every point. -/
theorem block4 (c : Dev nD) (t : Fin cfg0.N) (b : Fin 1024) :
    iblk m c 4 t (ix2 0 b) = m ((c.tc : Thread nD τ).loc main_arg4) (ix1 b) := by
  have hg : (V m c main_v1 : Vec Ideal S1x1024 .f32) (ix2 0 b) = m ((c.tc : Thread nD τ).loc main_arg4) (ix1 b) := by
    rw [gain_eq]; pointwise
  refine Eq.trans ?_ hg
  unfold iblk
  refine congrArg (V m c main_v1 : Vec Ideal S1x1024 .f32) (funext fun (d : Fin 2) => Fin.ext ?_)
  match d with
  | 0 => rfl
  | 1 => show 0 * 1024 + 1 * b.val = b.val; omega

/-- The block of window 5, the same at every point: its whole array. -/
theorem block5 (c : Dev nD) (t : Fin cfg0.N) (a : Fin 1024) (b : Fin 2816) :
    iblk m c 5 t (ix2 a b) = m ((c.tc : Thread nD τ).loc main_arg5) (ix2 a b) := by
  unfold iblk
  refine (congrFun (V_main_arg5 m c) _).trans (congrArg (m ((c.tc : Thread nD τ).loc main_arg5)) (funext fun (d : Fin 2) => Fin.ext ?_))
  match d with
  | 0 => show 0 * 1024 + 1 * a.val = a.val; omega
  | 1 => show 0 * 2816 + 1 * b.val = b.val; omega

/-- The block of window 6, the same at every point: its whole array. -/
theorem block6 (c : Dev nD) (t : Fin cfg0.N) (a : Fin 1024) (b : Fin 2816) :
    iblk m c 6 t (ix2 a b) = m ((c.tc : Thread nD τ).loc main_arg6) (ix2 a b) := by
  unfold iblk
  refine (congrFun (V_main_arg6 m c) _).trans (congrArg (m ((c.tc : Thread nD τ).loc main_arg6)) (funext fun (d : Fin 2) => Fin.ext ?_))
  match d with
  | 0 => show 0 * 1024 + 1 * a.val = a.val; omega
  | 1 => show 0 * 2816 + 1 * b.val = b.val; omega

/-- The block of window 7, the same at every point: its whole array. -/
theorem block7 (c : Dev nD) (t : Fin cfg0.N) (a : Fin 2816) (b : Fin 1024) :
    iblk m c 7 t (ix2 a b) = m ((c.tc : Thread nD τ).loc main_arg7) (ix2 a b) := by
  unfold iblk
  refine (congrFun (V_main_arg7 m c) _).trans (congrArg (m ((c.tc : Thread nD τ).loc main_arg7)) (funext fun (d : Fin 2) => Fin.ext ?_))
  match d with
  | 0 => show 0 * 2816 + 1 * a.val = a.val; omega
  | 1 => show 0 * 1024 + 1 * b.val = b.val; omega

/-- The body's value at an index of its block is the result's at that index of the array. -/
theorem bodyAt_eq (c : Dev nD) (t : Fin cfg0.N) (a : Fin 512) (o : Fin 1024) :
    bodyAt (iblk m c 0 t) (iblk m c 1 t) (iblk m c 2 t) (iblk m c 4 t) (iblk m c 5 t) (iblk m c 6 t) (iblk m c 3 t) (iblk m c 7 t) a o
      = ffnAt (mixAt (m ((c.tc : Thread nD τ).loc main_arg0)) (m ((c.tc : Thread nD τ).loc main_arg1)) (m ((c.tc : Thread nD τ).loc main_arg2)) (m ((c.tc : Thread nD τ).loc main_arg3)) (rowOf (grid0.coords t) a)) (m ((c.tc : Thread nD τ).loc main_arg4)) (m ((c.tc : Thread nD τ).loc main_arg5)) (m ((c.tc : Thread nD τ).loc main_arg6)) (m ((c.tc : Thread nD τ).loc main_arg7)) o := by
  have hz : mixB (iblk m c 0 t) (iblk m c 1 t) (iblk m c 2 t) (iblk m c 3 t) a = mixAt (m ((c.tc : Thread nD τ).loc main_arg0)) (m ((c.tc : Thread nD τ).loc main_arg1)) (m ((c.tc : Thread nD τ).loc main_arg2)) (m ((c.tc : Thread nD τ).loc main_arg3)) (rowOf (grid0.coords t) a) := by
    refine funext fun o => ?_
    exact Ideal.add_congr (Ideal.add_congr (block0 m c t a o)
      (Finset.sum_congr rfl fun k _ => Ideal.mul_congr (block1 m c t a k) (block3 m c t _ o)))
      (Finset.sum_congr rfl fun k _ => Ideal.mul_congr (block2 m c t a k) (block3 m c t _ o))
  have hg : (fun k : Fin 1024 => iblk m c 4 t (ix2 0 k)) = fun k => m ((c.tc : Thread nD τ).loc main_arg4) (ix1 k) := funext fun k => block4 m c t k
  have hn (k : Fin 1024) : normRow (mixB (iblk m c 0 t) (iblk m c 1 t) (iblk m c 2 t) (iblk m c 3 t) a) (fun k => iblk m c 4 t (ix2 0 k)) k
      = normRow (mixAt (m ((c.tc : Thread nD τ).loc main_arg0)) (m ((c.tc : Thread nD τ).loc main_arg1)) (m ((c.tc : Thread nD τ).loc main_arg2)) (m ((c.tc : Thread nD τ).loc main_arg3)) (rowOf (grid0.coords t) a)) (fun k => m ((c.tc : Thread nD τ).loc main_arg4) (ix1 k)) k :=
    congrArg₂ (fun z g => normRow z g k) hz hg
  refine Ideal.add_congr (congrFun hz o) (Finset.sum_congr rfl fun f _ => Ideal.mul_congr ?_ (block7 m c t f o))
  exact congrArg₂ gated (Finset.sum_congr rfl fun k _ => Ideal.mul_congr (hn k) (block5 m c t k f))
    (Finset.sum_congr rfl fun k _ => Ideal.mul_congr (hn k) (block6 m c t k f))

/-- The array the call leaves. -/
theorem final (c : Dev nD) : (dats m 0 c).arrAt 8 cfg0.N = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 8 _ ?_ fun t hf y => ?_
  · refine (cfg0.win 8).covers_of_indexMap_surj rfl (fun a => (show ∀ a : Fin 2, 0 < S512x1024.size a from by decide) a) fun β => ?_
    have b0 : (β (0 : Fin 2)).val < 32 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_8]
    have key (y : S512x1024.Idx) (j : S16384x1024.Idx) (h0 : (j 0).val = 512 * (grid0.coords t 0).val + (y 0).val) (h1 : (j 1).val = (y 1).val) :
        outsAt0 m c t y = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) j := by
      have hj0 : j 0 = rowOf (grid0.coords t) (y 0) := Fin.ext h0
      have hj1 : j 1 = y 1 := Fin.ext h1
      rw [eq_ix2 y]
      unfold outAt
      rw [hj0, hj1]
      refine Eq.trans ?_ (bodyAt_eq m c t (y 0) (y 1))
      exact body_apply _ _ _ _ _ _ c _ _ _ _ _ _ _ _ _ _ _ _ _ _ _ _ _ _ _ _ _ _ _ _ _
    refine key y _ ?_ ?_
    · show (BitVec.ofNat 32 (grid0.coords t 0).val).toNat * 512 + 1 * (y (0 : Fin 2)).val = 512 * (grid0.coords t 0).val + (y (0 : Fin 2)).val
      rw [point_word]; omega
    · show 0 * 1024 + 1 * (y (1 : Fin 2)).val = (y (1 : Fin 2)).val; omega

end Cert.Proof.Ffn

end
-- ==== Proof.FfnRef.lean ====
module

public import proofs.«01_k».proof.Proof.Ffn
public import proofs.«01_k».proof.Proof.Gen.Reference4Ideal.Run
public import Idealize.ShloMosaic.Lib.Tactic.CleanTypes
public import Idealize.ShloMosaic.Lib.KernelVsHost

@[expose] public section

set_option maxRecDepth 16384

noncomputable section

/-! The feed-forward part's reference at an index, and that it is the kernel's number. -/

namespace Cert.Proof.Ffn

open Idealize.ShloMosaic Idealize.ShloMosaic.TcCoe Idealize.ShloMosaic.Tactic
open Cert.Reference4Ideal Cert.Reference4Ideal.Gen
open Idealize.SL.Sem

section ref
variable (a0 : FVec Ideal S16384x1024 .f32) (a1 a2 : FVec Ideal S16384x512 .bf16) (a3 : FVec Ideal S1024x1024 .f32) (a4 : FVec Ideal S1024 .f32) (a5 a6 : FVec Ideal S1024x2816 .bf16) (a7 : FVec Ideal S2816x1024 .bf16)

/-- The reference's rows after the mixers. -/
abbrev refMix : FVec Ideal S16384x1024 .f32 :=
  addf a0 (Host.dotGeneral dot_S16384x1024_S1024x1024_S16384x1024_1_0_0_1_n_n none (concatenate S16384x1024 1 [⟨S16384x512, (extf .f32 a1 bitsLt_bf16_f32)⟩, ⟨S16384x512, (extf .f32 a2 bitsLt_bf16_f32)⟩] concatenates_S16384x512_S16384x512_S16384x1024_d1) a3)

/-- The reference's normalised rows. -/
abbrev refNorm (Z : FVec Ideal S16384x1024 .f32) : FVec Ideal S16384x1024 .f32 :=
  mulf (mulf Z (broadcastInDim S16384x1024 ![0, 1] bcast_S16384x1_S16384x1024_0_1 (Host.rsqrt (addf (Host.divf (broadcastInDim S16384x1 ![0] bcast_S16384_S16384x1_0 (Host.reduceAdd (mulf Z Z) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a4))

/-- The reference's feed-forward part of normalised rows, added to the rows. -/
abbrev refFfn (Z X : FVec Ideal S16384x1024 .f32) : FVec Ideal S16384x1024 .f32 :=
  addf Z (Host.dotGeneral dot_S16384x2816_S2816x1024_S16384x1024_1_0_0_1_n_n none (mulf (mulf (Host.dotGeneral dot_S16384x1024_S1024x2816_S16384x2816_1_0_0_1_n_n none X (extf .f32 a5 bitsLt_bf16_f32)) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral dot_S16384x1024_S1024x2816_S16384x2816_1_0_0_1_n_n none X (extf .f32 a5 bitsLt_bf16_f32))))))) (Host.dotGeneral dot_S16384x1024_S1024x2816_S16384x2816_1_0_0_1_n_n none X (extf .f32 a6 bitsLt_bf16_f32))) (extf .f32 a7 bitsLt_bf16_f32))

/-- The rows after the mixers, at an index. -/
theorem refMix_apply (r : Fin 16384) (o : Fin 1024) : refMix a0 a1 a2 a3 (ix2 r o) = mixAt a0 a1 a2 a3 r o := by
  unfold refMix mixAt
  clean_types
  pointwise
  exact (add_assoc _ _ _).symm

/-- The normalised rows, at an index. -/
theorem refNorm_apply (Z : FVec Ideal S16384x1024 .f32) (r : Fin 16384) (o : Fin 1024) :
    refNorm a4 Z (ix2 r o) = normRow (fun k => Z (ix2 r k)) (fun k => a4 (ix1 k)) o := by
  unfold refNorm normRow
  clean_types
  pointwise

/-- The feed-forward part, at an index. -/
theorem refFfn_apply (Z X : FVec Ideal S16384x1024 .f32) (r : Fin 16384) (o : Fin 1024) :
    refFfn a5 a6 a7 Z X (ix2 r o) = Z (ix2 r o) + ∑ f : Fin 2816,
      gated (∑ k : Fin 1024, X (ix2 r k) * a5 (ix2 k f)) (∑ k : Fin 1024, X (ix2 r k) * a6 (ix2 k f)) * a7 (ix2 f o) := by
  unfold refFfn gated
  clean_types
  pointwise
  simp only [zero_sub]

/-- The reference's result, at an index. -/
theorem ref_apply (i : S16384x1024.Idx) :
    refFfn a5 a6 a7 (refMix a0 a1 a2 a3) (refNorm a4 (refMix a0 a1 a2 a3)) i = outAt a0 a1 a2 a3 a4 a5 a6 a7 i := by
  rw [eq_ix2 i]
  refine (refFfn_apply a5 a6 a7 _ _ (i 0) (i 1)).trans ?_
  have hz : (fun k => refMix a0 a1 a2 a3 (ix2 (i 0) k)) = mixAt a0 a1 a2 a3 (i 0) := funext fun k => refMix_apply a0 a1 a2 a3 (i 0) k
  have hn (k : Fin 1024) : refNorm a4 (refMix a0 a1 a2 a3) (ix2 (i 0) k) = normRow (mixAt a0 a1 a2 a3 (i 0)) (fun k => a4 (ix1 k)) k :=
    (refNorm_apply a4 _ (i 0) k).trans (congrArg (fun z => normRow z (fun k => a4 (ix1 k)) k) hz)
  show _ = ffnAt _ _ _ _ _ _
  unfold ffnAt
  refine Ideal.add_congr (congrFun hz (i 1)) (Finset.sum_congr rfl fun f _ => Ideal.mul_congr ?_ rfl)
  exact congrArg₂ gated (Finset.sum_congr rfl fun k _ => Ideal.mul_congr (hn k) rfl) (Finset.sum_congr rfl fun k _ => Ideal.mul_congr (hn k) rfl)
end ref

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2⟩) (Cert.Reference4Ideal.Value.run m ρ)
  unfold Cert.Reference4Ideal.Value.res_main_v26
  exact funext fun i => ref_apply _ _ _ _ _ _ _ _ i

end Cert.Proof.Ffn

end
-- ==== Proof.Odd.lean ====
module

public import proofs.«01_k».proof.Proof.Norm
public import proofs.«01_k».proof.Proof.Gen.Kernel5Ideal.Value
public import Idealize.ShloMosaic.Lib.Pipeline.Covers
public import Idealize.ShloMosaic.Lib.Pipeline.ReadBack
public import Idealize.ShloMosaic.Lib.Tactic.CleanTypes

@[expose] public section

set_option maxRecDepth 16384

noncomputable section

/-! The odd layer's projection at an index: the normalised row against a column of the weights. -/

namespace Cert.Proof.Odd

open Idealize.ShloMosaic Idealize.ShloMosaic.TcCoe Idealize.ShloMosaic.Tactic
open Cert.Kernel5Ideal Cert.Kernel5Ideal.Gen

/-- The weights with columns of zeros after them. -/
def wideAt (w : Vec Ideal S1024x3088 .f32) (k : Fin 1024) (j : Fin 3200) : EReal :=
  if h : j.val < 3088 then w (ix2 k ⟨j.val, h⟩) else 0

/-- The zero that fills the columns. -/
theorem zero_word : FloatOps.sitofp (F := Ideal) .f32 (0#32) = (0 : EReal) := by
  show (((0#32 : BitVec 32).toInt : ℝ) : EReal) = 0
  simp

/-- The product of a token's normalised row with a column of these. -/
def projAt (h : Vec Ideal S16384x1024 .f32) (g : Vec Ideal S1024 .f32) (w : Vec Ideal S1024x3088 .f32) (r : Fin 16384) (j : Fin 3200) : EReal :=
  ∑ k : Fin 1024, normRow (fun k => h (ix2 r k)) (fun k => g (ix1 k)) k * wideAt w k j

/-- The queries and keys. -/
def qAt (h : Vec Ideal S16384x1024 .f32) (g : Vec Ideal S1024 .f32) (w : Vec Ideal S1024x3088 .f32) : S16384x1024.Idx → EReal :=
  fun i => projAt h g w (i 0) ⟨0 + (i (1 : Fin 2)).val, by have : (i (1 : Fin 2)).val < 1024 := (i (1 : Fin 2)).isLt; omega⟩

/-- The values. -/
def vAt (h : Vec Ideal S16384x1024 .f32) (g : Vec Ideal S1024 .f32) (w : Vec Ideal S1024x3088 .f32) : S16384x1024.Idx → EReal :=
  fun i => projAt h g w (i 0) ⟨1024 + (i (1 : Fin 2)).val, by have : (i (1 : Fin 2)).val < 1024 := (i (1 : Fin 2)).isLt; omega⟩

/-- The gates. -/
def gAt (h : Vec Ideal S16384x1024 .f32) (g : Vec Ideal S1024 .f32) (w : Vec Ideal S1024x3088 .f32) : S16384x1024.Idx → EReal :=
  fun i => projAt h g w (i 0) ⟨2048 + (i (1 : Fin 2)).val, by have : (i (1 : Fin 2)).val < 1024 := (i (1 : Fin 2)).isLt; omega⟩

/-- The low-rank part, zeros after it. -/
def lAt (h : Vec Ideal S16384x1024 .f32) (g : Vec Ideal S1024 .f32) (w : Vec Ideal S1024x3088 .f32) : S16384x128.Idx → EReal :=
  fun i => projAt h g w (i 0) ⟨3072 + (i (1 : Fin 2)).val, by have : (i (1 : Fin 2)).val < 128 := (i (1 : Fin 2)).isLt; omega⟩

/-- The offset of a whole block. -/
theorem zero_offset : (![0, 0] : Fin 2 → Nat) = fun _ => 0 := funext fun a => by fin_cases a <;> rfl

section body
variable (x0 : Vec Ideal S1024x1024 .f32) (x1 : Vec Ideal S1x1024 .f32) (x2 : Vec Ideal S1024x3200 .bf16)

/-- The product of a normalised row of the block with a column of the weights. -/
def rowDot (a : Fin 1024) (j : Fin 3200) : EReal :=
  ∑ k : Fin 1024, normRow (fun k => x0 (ix2 a k)) (fun k => x1 (ix2 0 k)) k * x2 (ix2 k j)

/-- What the body leaves in window 3's block: columns 0 and after of the product. -/
theorem body3 (a : Fin 1024) (b : Fin 1024) : out0_3 x0 x1 x2 (ix2 a b) = rowDot x0 x1 x2 a ⟨0 + b.val, by omega⟩ := by
  unfold out0_3
  rw [View.canon_unit_zero zero_offset]
  unfold rowDot normRow
  pointwise [k0_pay3, k0_pay2]

/-- What the body leaves in window 4's block: columns 1024 and after of the product. -/
theorem body4 (a : Fin 1024) (b : Fin 1024) : out0_4 x0 x1 x2 (ix2 a b) = rowDot x0 x1 x2 a ⟨1024 + b.val, by omega⟩ := by
  unfold out0_4
  rw [View.canon_unit_zero zero_offset]
  unfold rowDot normRow
  pointwise [k0_pay4, k0_pay2]

/-- What the body leaves in window 5's block: columns 2048 and after of the product. -/
theorem body5 (a : Fin 1024) (b : Fin 1024) : out0_5 x0 x1 x2 (ix2 a b) = rowDot x0 x1 x2 a ⟨2048 + b.val, by omega⟩ := by
  unfold out0_5
  rw [View.canon_unit_zero zero_offset]
  unfold rowDot normRow
  pointwise [k0_pay5, k0_pay2]

/-- What the body leaves in window 6's block: columns 3072 and after of the product. -/
theorem body6 (a : Fin 1024) (b : Fin 128) : out0_6 x0 x1 x2 (ix2 a b) = rowDot x0 x1 x2 a ⟨3072 + b.val, by omega⟩ := by
  unfold out0_6
  rw [View.canon_unit_zero zero_offset]
  unfold rowDot normRow
  pointwise [k0_pay1, k0_pay6, k0_pay2]

end body

/-- The tile of a point. -/
theorem coords_lt (i : grid0.Coords) : (i 0).val < 16 := (i 0).isLt.trans_eq (by sl_kernel_rfl)

/-- The row's number in the whole array. -/
def rowOf (i : grid0.Coords) (a : Fin 1024) : Fin 16384 := ⟨1024 * (i 0).val + a.val, by have := coords_lt i; omega⟩

variable (m : (ℓ : Loc nD τ sig) → Buf (Elt Ideal) ℓ)

/-- The word of a point's number. -/
theorem point_word (i : grid0.Coords) : (BitVec.ofNat 32 (i 0).val).toNat = (i 0).val := by
  have := coords_lt i
  rw [BitVec.toNat_ofNat]; omega

/-- The block of the tokens' rows at a point. -/
theorem block0 (c : Dev nD) (t : Fin cfg0.N) (a b : Fin 1024) :
    iblk m c 0 t (ix2 a b) = m ((c.tc : Thread nD τ).loc main_arg0) (ix2 (rowOf (grid0.coords t) a) b) := by
  unfold iblk
  have e := point_word (grid0.coords t)
  refine (congrFun (V_main_arg0 m c) _).trans (congrArg (m ((c.tc : Thread nD τ).loc main_arg0)) (funext fun (d : Fin 2) => Fin.ext ?_))
  match d with
  | 0 => show (BitVec.ofNat 32 (grid0.coords t 0).val).toNat * 1024 + 1 * a.val = 1024 * (grid0.coords t 0).val + a.val; omega
  | 1 => show 0 * 1024 + 1 * b.val = b.val; omega

/-- The gain as the region finds it: the argument, as one row. -/
theorem gain_eq (c : Dev nD) : (V m c main_v5 : Vec Ideal S1x1024 .f32) = shapeCast S1x1024 (s := S1024) (m ((c.tc : Thread nD τ).loc main_arg1)) (by decide) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

/-- The block of the gain, the same at every point. -/
theorem block1 (c : Dev nD) (t : Fin cfg0.N) (b : Fin 1024) :
    iblk m c 1 t (ix2 0 b) = m ((c.tc : Thread nD τ).loc main_arg1) (ix1 b) := by
  have hg : (V m c main_v5 : Vec Ideal S1x1024 .f32) (ix2 0 b) = m ((c.tc : Thread nD τ).loc main_arg1) (ix1 b) := by
    rw [gain_eq]; pointwise
  refine Eq.trans ?_ hg
  unfold iblk
  refine congrArg (V m c main_v5 : Vec Ideal S1x1024 .f32) (funext fun (d : Fin 2) => Fin.ext ?_)
  match d with
  | 0 => rfl
  | 1 => show 0 * 1024 + 1 * b.val = b.val; omega

/-- The weights as the region finds them: the argument with columns of zeros after it, cast. -/
theorem weights_term (c : Dev nD) : (V m c main_v4 : Vec Ideal S1024x3200 .bf16)
    = truncf .bf16 (concatenate S1024x3200 1
        [⟨S1024x3072, extractStridedSlice S1024x3072 ![0, 0] (m ((c.tc : Thread nD τ).loc main_arg2)) slices_S1024x3088_S1024x3072_0_0⟩,
         ⟨S1024x128, pad S1024x128 ![0, 0] ![0, 112] ![0, 0]
            (extractStridedSlice S1024x16 ![0, 3072] (m ((c.tc : Thread nD τ).loc main_arg2)) slices_S1024x3088_S1024x16_0_3072)
            (sitofp (F := Ideal) .f32 (constantI S_ 32 0#32)) pads_S1024x16_S1024x128_000_01120 h_S_⟩]
        concatenates_S1024x3072_S1024x128_S1024x3200_d1) bitsLt_bf16_f32 := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results

/-- These at an index. -/
theorem weights_eq (c : Dev nD) (k : Fin 1024) (j : Fin 3200) :
    (V m c main_v4 : Vec Ideal S1024x3200 .bf16) (ix2 k j) = wideAt (m ((c.tc : Thread nD τ).loc main_arg2)) k j := by
  rw [weights_term]
  unfold wideAt
  clean_types
  pointwise
  by_cases h : j.val < 3072
  · rw [dif_pos h, dif_pos (by omega)]
  · rw [dif_neg h]
    by_cases h' : j.val - 3072 < 16
    · rw [dif_pos h', dif_pos (by omega)]
      refine congrArg (m ((c.tc : Thread nD τ).loc main_arg2)) (congrArg (ix2 k) (Fin.ext ?_))
      show 3072 + (j.val - 3072) = j.val
      omega
    · rw [dif_neg h', dif_neg (by omega)]
      exact zero_word

/-- The block of the weights, the same at every point. -/
theorem block2 (c : Dev nD) (t : Fin cfg0.N) (k : Fin 1024) (j : Fin 3200) :
    iblk m c 2 t (ix2 k j) = wideAt (m ((c.tc : Thread nD τ).loc main_arg2)) k j := by
  refine Eq.trans ?_ (weights_eq m c k j)
  unfold iblk
  refine congrArg (V m c main_v4 : Vec Ideal S1024x3200 .bf16) (funext fun (d : Fin 2) => Fin.ext ?_)
  match d with
  | 0 => show 0 * 1024 + 1 * k.val = k.val; omega
  | 1 => show 0 * 3200 + 1 * j.val = j.val; omega

/-- A product at a point is the product in the whole arrays. -/
theorem rowDot_eq (c : Dev nD) (t : Fin cfg0.N) (a : Fin 1024) (j : Fin 3200) :
    rowDot (iblk m c 0 t) (iblk m c 1 t) (iblk m c 2 t) a j = projAt (m ((c.tc : Thread nD τ).loc main_arg0)) (m ((c.tc : Thread nD τ).loc main_arg1)) (m ((c.tc : Thread nD τ).loc main_arg2)) (rowOf (grid0.coords t) a) j :=
  Finset.sum_congr rfl fun k _ => Ideal.mul_congr
    (congrArg₂ (fun z g => normRow z g k) (funext fun k => block0 m c t a k) (funext fun k => block1 m c t k)) (block2 m c t k j)

/-- The array of window 3. -/
theorem final3 (c : Dev nD) : (dats m 0 c).arrAt 3 cfg0.N
    = qAt (m ((c.tc : Thread nD τ).loc main_arg0)) (m ((c.tc : Thread nD τ).loc main_arg1)) (m ((c.tc : Thread nD τ).loc main_arg2)) := by
  refine (dats m 0 c).arrAt_eq_of_covers 3 _ ?_ fun t hf y => ?_
  · refine (cfg0.win 3).covers_of_indexMap_surj rfl (fun a => (show ∀ a : Fin 2, 0 < S1024x1024.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_3]
    have key (y : S1024x1024.Idx) (r : Fin 16384) (j : Fin 3200) (h0 : r.val = 1024 * (grid0.coords t 0).val + (y 0).val) (h1 : j.val = 0 + (y 1).val) :
        out0_3 (iblk m c 0 t) (iblk m c 1 t) (iblk m c 2 t) y = projAt (m ((c.tc : Thread nD τ).loc main_arg0)) (m ((c.tc : Thread nD τ).loc main_arg1)) (m ((c.tc : Thread nD τ).loc main_arg2)) r j := by
      have hr : r = rowOf (grid0.coords t) (y 0) := Fin.ext h0
      have hj : j = ⟨0 + (y 1).val, by omega⟩ := Fin.ext h1
      rw [eq_ix2 y, hr, hj]
      exact (body3 _ _ _ (y 0) (y 1)).trans (rowDot_eq m c t (y 0) _)
    refine key y _ _ ?_ ?_
    · show (BitVec.ofNat 32 (grid0.coords t 0).val).toNat * 1024 + 1 * (y (0 : Fin 2)).val = 1024 * (grid0.coords t 0).val + (y (0 : Fin 2)).val
      rw [point_word]; omega
    · show 0 + (0 * 1024 + 1 * (y (1 : Fin 2)).val) = 0 + (y (1 : Fin 2)).val; omega

/-- The array of window 4. -/
theorem final4 (c : Dev nD) : (dats m 0 c).arrAt 4 cfg0.N
    = vAt (m ((c.tc : Thread nD τ).loc main_arg0)) (m ((c.tc : Thread nD τ).loc main_arg1)) (m ((c.tc : Thread nD τ).loc main_arg2)) := by
  refine (dats m 0 c).arrAt_eq_of_covers 4 _ ?_ fun t hf y => ?_
  · refine (cfg0.win 4).covers_of_indexMap_surj rfl (fun a => (show ∀ a : Fin 2, 0 < S1024x1024.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_4]
    have key (y : S1024x1024.Idx) (r : Fin 16384) (j : Fin 3200) (h0 : r.val = 1024 * (grid0.coords t 0).val + (y 0).val) (h1 : j.val = 1024 + (y 1).val) :
        out0_4 (iblk m c 0 t) (iblk m c 1 t) (iblk m c 2 t) y = projAt (m ((c.tc : Thread nD τ).loc main_arg0)) (m ((c.tc : Thread nD τ).loc main_arg1)) (m ((c.tc : Thread nD τ).loc main_arg2)) r j := by
      have hr : r = rowOf (grid0.coords t) (y 0) := Fin.ext h0
      have hj : j = ⟨1024 + (y 1).val, by omega⟩ := Fin.ext h1
      rw [eq_ix2 y, hr, hj]
      exact (body4 _ _ _ (y 0) (y 1)).trans (rowDot_eq m c t (y 0) _)
    refine key y _ _ ?_ ?_
    · show (BitVec.ofNat 32 (grid0.coords t 0).val).toNat * 1024 + 1 * (y (0 : Fin 2)).val = 1024 * (grid0.coords t 0).val + (y (0 : Fin 2)).val
      rw [point_word]; omega
    · show 1024 + (0 * 1024 + 1 * (y (1 : Fin 2)).val) = 1024 + (y (1 : Fin 2)).val; omega

/-- The array of window 5. -/
theorem final5 (c : Dev nD) : (dats m 0 c).arrAt 5 cfg0.N
    = gAt (m ((c.tc : Thread nD τ).loc main_arg0)) (m ((c.tc : Thread nD τ).loc main_arg1)) (m ((c.tc : Thread nD τ).loc main_arg2)) := by
  refine (dats m 0 c).arrAt_eq_of_covers 5 _ ?_ fun t hf y => ?_
  · refine (cfg0.win 5).covers_of_indexMap_surj rfl (fun a => (show ∀ a : Fin 2, 0 < S1024x1024.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_5]
    have key (y : S1024x1024.Idx) (r : Fin 16384) (j : Fin 3200) (h0 : r.val = 1024 * (grid0.coords t 0).val + (y 0).val) (h1 : j.val = 2048 + (y 1).val) :
        out0_5 (iblk m c 0 t) (iblk m c 1 t) (iblk m c 2 t) y = projAt (m ((c.tc : Thread nD τ).loc main_arg0)) (m ((c.tc : Thread nD τ).loc main_arg1)) (m ((c.tc : Thread nD τ).loc main_arg2)) r j := by
      have hr : r = rowOf (grid0.coords t) (y 0) := Fin.ext h0
      have hj : j = ⟨2048 + (y 1).val, by omega⟩ := Fin.ext h1
      rw [eq_ix2 y, hr, hj]
      exact (body5 _ _ _ (y 0) (y 1)).trans (rowDot_eq m c t (y 0) _)
    refine key y _ _ ?_ ?_
    · show (BitVec.ofNat 32 (grid0.coords t 0).val).toNat * 1024 + 1 * (y (0 : Fin 2)).val = 1024 * (grid0.coords t 0).val + (y (0 : Fin 2)).val
      rw [point_word]; omega
    · show 2048 + (0 * 1024 + 1 * (y (1 : Fin 2)).val) = 2048 + (y (1 : Fin 2)).val; omega

/-- The array of window 6. -/
theorem final6 (c : Dev nD) : (dats m 0 c).arrAt 6 cfg0.N
    = lAt (m ((c.tc : Thread nD τ).loc main_arg0)) (m ((c.tc : Thread nD τ).loc main_arg1)) (m ((c.tc : Thread nD τ).loc main_arg2)) := by
  refine (dats m 0 c).arrAt_eq_of_covers 6 _ ?_ fun t hf y => ?_
  · refine (cfg0.win 6).covers_of_indexMap_surj rfl (fun a => (show ∀ a : Fin 2, 0 < S1024x128.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_6]
    have key (y : S1024x128.Idx) (r : Fin 16384) (j : Fin 3200) (h0 : r.val = 1024 * (grid0.coords t 0).val + (y 0).val) (h1 : j.val = 3072 + (y 1).val) :
        out0_6 (iblk m c 0 t) (iblk m c 1 t) (iblk m c 2 t) y = projAt (m ((c.tc : Thread nD τ).loc main_arg0)) (m ((c.tc : Thread nD τ).loc main_arg1)) (m ((c.tc : Thread nD τ).loc main_arg2)) r j := by
      have hr : r = rowOf (grid0.coords t) (y 0) := Fin.ext h0
      have hj : j = ⟨3072 + (y 1).val, by omega⟩ := Fin.ext h1
      rw [eq_ix2 y, hr, hj]
      exact (body6 _ _ _ (y 0) (y 1)).trans (rowDot_eq m c t (y 0) _)
    refine key y _ _ ?_ ?_
    · show (BitVec.ofNat 32 (grid0.coords t 0).val).toNat * 1024 + 1 * (y (0 : Fin 2)).val = 1024 * (grid0.coords t 0).val + (y (0 : Fin 2)).val
      rw [point_word]; omega
    · show 3072 + (0 * 128 + 1 * (y (1 : Fin 2)).val) = 3072 + (y (1 : Fin 2)).val; omega

end Cert.Proof.Odd

end
-- ==== Proof.OddRef.lean ====
module

public import proofs.«01_k».proof.Proof.Odd
public import proofs.«01_k».proof.Proof.Gen.Reference5Ideal.Run
public import Idealize.ShloMosaic.Lib.KernelVsHost

@[expose] public section

set_option maxRecDepth 16384

noncomputable section

/-! The odd layer's projection's reference at an index, and that it is the kernel's number. -/

namespace Cert.Proof.Odd

open Idealize.ShloMosaic Idealize.ShloMosaic.TcCoe Idealize.ShloMosaic.Tactic
open Cert.Reference5Ideal Cert.Reference5Ideal.Gen
open Idealize.SL.Sem

section ref
variable (a0 : FVec Ideal S16384x1024 .f32) (a1 : FVec Ideal S1024 .f32) (a2 : FVec Ideal S1024x3088 .f32)

/-- The reference's normalised rows. -/
abbrev refNorm : FVec Ideal S16384x1024 .f32 :=
  mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))

/-- The reference's product. -/
abbrev refProj : FVec Ideal S16384x3088 .f32 :=
  Host.dotGeneral dot_S16384x1024_S1024x3088_S16384x3088_1_0_0_1_n_n none (refNorm a0 a1) a2

/-- The normalised rows, at an index. -/
theorem refNorm_apply (r : Fin 16384) (o : Fin 1024) :
    refNorm a0 a1 (ix2 r o) = normRow (fun k => a0 (ix2 r k)) (fun k => a1 (ix1 k)) o := by
  unfold refNorm normRow
  clean_types
  pointwise

/-- The product, at an index: a column within the weights. -/
theorem refProj_apply (r : Fin 16384) (o : Fin 3088) (j : Fin 3200) (hj : j.val = o.val) :
    refProj a0 a1 a2 (ix2 r o) = projAt a0 a1 a2 r j := by
  have h : refProj a0 a1 a2 (ix2 r o) = (∑ k : Fin 1024, refNorm a0 a1 (ix2 r k) * a2 (ix2 k o) : EReal) := by
    unfold refProj
    generalize refNorm a0 a1 = z
    pointwise
  rw [h]
  unfold projAt
  refine Finset.sum_congr rfl fun k _ => ?_
  refine Ideal.mul_congr (refNorm_apply a0 a1 r k) ?_
  unfold wideAt
  rw [dif_pos (by omega)]
  exact congrArg a2 (congrArg (ix2 k) (Fin.ext hj.symm))

/-- The queries and keys, at an index. -/
theorem ref_q (i : S16384x1024.Idx) :
    (extractStridedSlice S16384x1024 ![0, 0] (refProj a0 a1 a2) slices_S16384x3088_S16384x1024_0_0) i = qAt a0 a1 a2 i := by
  have hp := refProj_apply a0 a1 a2 (i 0) ⟨0 + (i (1 : Fin 2)).val, by have : (i (1 : Fin 2)).val < 1024 := (i (1 : Fin 2)).isLt; omega⟩ ⟨0 + (i (1 : Fin 2)).val, by have : (i (1 : Fin 2)).val < 1024 := (i (1 : Fin 2)).isLt; omega⟩ rfl
  refine Eq.trans ?_ hp
  generalize refProj a0 a1 a2 = z
  rw [eq_ix2 i]
  clean_types
  pointwise

/-- The values, at an index. -/
theorem ref_v (i : S16384x1024.Idx) :
    (truncf .bf16 (extractStridedSlice S16384x1024 ![0, 1024] (refProj a0 a1 a2) slices_S16384x3088_S16384x1024_0_1024) bitsLt_bf16_f32) i = vAt a0 a1 a2 i := by
  have hp := refProj_apply a0 a1 a2 (i 0) ⟨1024 + (i (1 : Fin 2)).val, by have : (i (1 : Fin 2)).val < 1024 := (i (1 : Fin 2)).isLt; omega⟩ ⟨1024 + (i (1 : Fin 2)).val, by have : (i (1 : Fin 2)).val < 1024 := (i (1 : Fin 2)).isLt; omega⟩ rfl
  refine Eq.trans ?_ hp
  generalize refProj a0 a1 a2 = z
  rw [eq_ix2 i]
  clean_types
  pointwise

/-- The gates, at an index. -/
theorem ref_g (i : S16384x1024.Idx) :
    (extractStridedSlice S16384x1024 ![0, 2048] (refProj a0 a1 a2) slices_S16384x3088_S16384x1024_0_2048) i = gAt a0 a1 a2 i := by
  have hp := refProj_apply a0 a1 a2 (i 0) ⟨2048 + (i (1 : Fin 2)).val, by have : (i (1 : Fin 2)).val < 1024 := (i (1 : Fin 2)).isLt; omega⟩ ⟨2048 + (i (1 : Fin 2)).val, by have : (i (1 : Fin 2)).val < 1024 := (i (1 : Fin 2)).isLt; omega⟩ rfl
  refine Eq.trans ?_ hp
  generalize refProj a0 a1 a2 = z
  rw [eq_ix2 i]
  clean_types
  pointwise

/-- The low-rank part, zeros after it, at an index. -/
theorem ref_l (i : S16384x128.Idx) :
    (pad S16384x128 ![0, 0] ![0, 112] ![0, 0] (extractStridedSlice S16384x16 ![0, 3072] (refProj a0 a1 a2) slices_S16384x3088_S16384x16_0_3072) (sitofp .f32 (constantI S_ 32 0#32)) pads_S16384x16_S16384x128_000_01120 h_S_) i = lAt a0 a1 a2 i := by
  have hp (h : (i (1 : Fin 2)).val < 16) := refProj_apply a0 a1 a2 (i 0) ⟨3072 + (i (1 : Fin 2)).val, by omega⟩ ⟨3072 + (i (1 : Fin 2)).val, by omega⟩ rfl
  have hz (h : ¬ (i (1 : Fin 2)).val < 16) : lAt a0 a1 a2 i = 0 := by
    unfold lAt projAt
    refine Finset.sum_eq_zero fun k _ => ?_
    unfold wideAt
    rw [dif_neg (by show ¬ 3072 + (i (1 : Fin 2)).val < 3088; omega), mul_zero]
  unfold lAt at hz ⊢
  generalize refProj a0 a1 a2 = z at hp
  rw [eq_ix2 i]
  clean_types
  pointwise
  by_cases h : (i (1 : Fin 2)).val < 16
  · rw [dif_pos h]; exact hp h
  · rw [dif_neg h]; exact zero_word.trans (hz h).symm

end ref

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = qAt (m ((c.tc : Thread nD τ).loc main_arg0)) (m ((c.tc : Thread nD τ).loc main_arg1)) (m ((c.tc : Thread nD τ).loc main_arg2))
      ∧ r.2.mem ((c.tc : Thread nD τ).loc main_v18) = vAt (m ((c.tc : Thread nD τ).loc main_arg0)) (m ((c.tc : Thread nD τ).loc main_arg1)) (m ((c.tc : Thread nD τ).loc main_arg2))
      ∧ r.2.mem ((c.tc : Thread nD τ).loc main_v16) = gAt (m ((c.tc : Thread nD τ).loc main_arg0)) (m ((c.tc : Thread nD τ).loc main_arg1)) (m ((c.tc : Thread nD τ).loc main_arg2))
      ∧ r.2.mem ((c.tc : Thread nD τ).loc main_v19) = lAt (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2.1.trans ?_, (h c).2.2.2.2⟩) (Cert.Reference5Ideal.Value.run m ρ)
  · exact funext fun i => ref_q _ _ _ i
  · exact funext fun i => ref_v _ _ _ i
  · exact funext fun i => ref_g _ _ _ i
  · exact funext fun i => ref_l _ _ _ i

end Cert.Proof.Odd

end
-- ==== Proof.Even.lean ====
module

public import proofs.«01_k».proof.Proof.Norm
public import proofs.«01_k».proof.Proof.Gen.Kernel6Ideal.Value
public import Idealize.ShloMosaic.Lib.Pipeline.Covers
public import Idealize.ShloMosaic.Lib.Pipeline.ReadBack
public import Idealize.ShloMosaic.Lib.Tactic.CleanTypes

@[expose] public section

set_option maxRecDepth 16384

noncomputable section

/-! The even layer's projection at an index: the normalised row against a column of the weights. -/

namespace Cert.Proof.Even

open Idealize.ShloMosaic Idealize.ShloMosaic.TcCoe Idealize.ShloMosaic.Tactic
open Cert.Kernel6Ideal Cert.Kernel6Ideal.Gen

/-- The weights with columns of zeros after them. -/
def wideAt (w : Vec Ideal S1024x2568 .f32) (k : Fin 1024) (j : Fin 2688) : EReal :=
  if h : j.val < 2568 then w (ix2 k ⟨j.val, h⟩) else 0

/-- The zero that fills the columns. -/
theorem zero_word : FloatOps.sitofp (F := Ideal) .f32 (0#32) = (0 : EReal) := by
  show (((0#32 : BitVec 32).toInt : ℝ) : EReal) = 0
  simp

/-- The product of a token's normalised row with a column of these. -/
def projAt (h : Vec Ideal S16384x1024 .f32) (g : Vec Ideal S1024 .f32) (w : Vec Ideal S1024x2568 .f32) (r : Fin 16384) (j : Fin 2688) : EReal :=
  ∑ k : Fin 1024, normRow (fun k => h (ix2 r k)) (fun k => g (ix1 k)) k * wideAt w k j

/-- The RG-LRU and its gate. -/
def xAt (h : Vec Ideal S16384x1024 .f32) (g : Vec Ideal S1024 .f32) (w : Vec Ideal S1024x2568 .f32) : S16384x1024.Idx → EReal :=
  fun i => projAt h g w (i 0) ⟨0 + (i (1 : Fin 2)).val, by have : (i (1 : Fin 2)).val < 1024 := (i (1 : Fin 2)).isLt; omega⟩

/-- The queries, keys and values. -/
def qAt (h : Vec Ideal S16384x1024 .f32) (g : Vec Ideal S1024 .f32) (w : Vec Ideal S1024x2568 .f32) : S16384x1536.Idx → EReal :=
  fun i => projAt h g w (i 0) ⟨1024 + (i (1 : Fin 2)).val, by have : (i (1 : Fin 2)).val < 1536 := (i (1 : Fin 2)).isLt; omega⟩

/-- The forget gates, zeros after them. -/
def fAt (h : Vec Ideal S16384x1024 .f32) (g : Vec Ideal S1024 .f32) (w : Vec Ideal S1024x2568 .f32) : S16384x128.Idx → EReal :=
  fun i => projAt h g w (i 0) ⟨2560 + (i (1 : Fin 2)).val, by have : (i (1 : Fin 2)).val < 128 := (i (1 : Fin 2)).isLt; omega⟩

/-- The first of two layers' weights. -/
def first1024 (w : Vec Ideal S2x1024x2816 .f32) : S1024x2816.Idx → EReal := fun i => w (ix3 0 (i 0) (i 1))

/-- The first of two layers' weights. -/
def first2816 (w : Vec Ideal S2x2816x1024 .f32) : S2816x1024.Idx → EReal := fun i => w (ix3 0 (i 0) (i 1))

/-- The offset of a whole block. -/
theorem zero_offset : (![0, 0] : Fin 2 → Nat) = fun _ => 0 := funext fun a => by fin_cases a <;> rfl

section body
variable (x0 : Vec Ideal S1024x1024 .f32) (x1 : Vec Ideal S1x1024 .f32) (x2 : Vec Ideal S1024x2688 .bf16) (x3 x4 : Vec Ideal S64x2816 .f32) (x5 : Vec Ideal S176x1024 .f32)

/-- The product of a normalised row of the block with a column of the weights. -/
def rowDot (a : Fin 1024) (j : Fin 2688) : EReal :=
  ∑ k : Fin 1024, normRow (fun k => x0 (ix2 a k)) (fun k => x1 (ix2 0 k)) k * x2 (ix2 k j)

/-- What the body leaves in window 6's block: columns 0 and after of the product. -/
theorem body6 (a : Fin 1024) (b : Fin 1024) : out0_6 x0 x1 x2 x3 x4 x5 (ix2 a b) = rowDot x0 x1 x2 a ⟨0 + b.val, by omega⟩ := by
  unfold out0_6
  rw [View.canon_unit_zero zero_offset]
  unfold rowDot normRow
  pointwise [k0_pay7, k0_pay6]

/-- What the body leaves in window 7's block: columns 1024 and after of the product. -/
theorem body7 (a : Fin 1024) (b : Fin 1536) : out0_7 x0 x1 x2 x3 x4 x5 (ix2 a b) = rowDot x0 x1 x2 a ⟨1024 + b.val, by omega⟩ := by
  unfold out0_7
  rw [View.canon_unit_zero zero_offset]
  unfold rowDot normRow
  pointwise [k0_pay8, k0_pay1, k0_pay6]

/-- What the body leaves in window 8's block: columns 2560 and after of the product. -/
theorem body8 (a : Fin 1024) (b : Fin 128) : out0_8 x0 x1 x2 x3 x4 x5 (ix2 a b) = rowDot x0 x1 x2 a ⟨2560 + b.val, by omega⟩ := by
  unfold out0_8
  rw [View.canon_unit_zero zero_offset]
  unfold rowDot normRow
  pointwise [k0_pay8, k0_pay2, k0_pay6]

/-- What the body leaves in window 9's block: the block of window 3, cast. -/
theorem body9 (a : Fin 64) (b : Fin 2816) : out0_9 x0 x1 x2 x3 x4 x5 (ix2 a b) = x3 (ix2 a b) := by
  unfold out0_9
  rw [View.canon_unit_zero zero_offset]
  pointwise [k0_pay3]

/-- What the body leaves in window 10's block: the block of window 4, cast. -/
theorem body10 (a : Fin 64) (b : Fin 2816) : out0_10 x0 x1 x2 x3 x4 x5 (ix2 a b) = x4 (ix2 a b) := by
  unfold out0_10
  rw [View.canon_unit_zero zero_offset]
  pointwise [k0_pay4]

/-- What the body leaves in window 11's block: the block of window 5, cast. -/
theorem body11 (a : Fin 176) (b : Fin 1024) : out0_11 x0 x1 x2 x3 x4 x5 (ix2 a b) = x5 (ix2 a b) := by
  unfold out0_11
  rw [View.canon_unit_zero zero_offset]
  pointwise [k0_pay5]

end body

/-- The tile of a point. -/
theorem coords_lt (i : grid0.Coords) : (i 0).val < 16 := (i 0).isLt.trans_eq (by sl_kernel_rfl)

/-- The row's number in the whole array. -/
def rowOf (i : grid0.Coords) (a : Fin 1024) : Fin 16384 := ⟨1024 * (i 0).val + a.val, by have := coords_lt i; omega⟩

variable (m : (ℓ : Loc nD τ sig) → Buf (Elt Ideal) ℓ)

/-- The word of a point's number. -/
theorem point_word (i : grid0.Coords) : (BitVec.ofNat 32 (i 0).val).toNat = (i 0).val := by
  have := coords_lt i
  rw [BitVec.toNat_ofNat]; omega

/-- The block of the tokens' rows at a point. -/
theorem block0 (c : Dev nD) (t : Fin cfg0.N) (a b : Fin 1024) :
    iblk m c 0 t (ix2 a b) = m ((c.tc : Thread nD τ).loc main_arg0) (ix2 (rowOf (grid0.coords t) a) b) := by
  unfold iblk
  have e := point_word (grid0.coords t)
  refine (congrFun (V_main_arg0 m c) _).trans (congrArg (m ((c.tc : Thread nD τ).loc main_arg0)) (funext fun (d : Fin 2) => Fin.ext ?_))
  match d with
  | 0 => show (BitVec.ofNat 32 (grid0.coords t 0).val).toNat * 1024 + 1 * a.val = 1024 * (grid0.coords t 0).val + a.val; omega
  | 1 => show 0 * 1024 + 1 * b.val = b.val; omega

/-- The gain as the region finds it: the argument, as one row. -/
theorem gain_eq (c : Dev nD) : (V m c main_v5 : Vec Ideal S1x1024 .f32) = shapeCast S1x1024 (s := S1024) (m ((c.tc : Thread nD τ).loc main_arg1)) (by decide) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

/-- The block of the gain, the same at every point. -/
theorem block1 (c : Dev nD) (t : Fin cfg0.N) (b : Fin 1024) :
    iblk m c 1 t (ix2 0 b) = m ((c.tc : Thread nD τ).loc main_arg1) (ix1 b) := by
  have hg : (V m c main_v5 : Vec Ideal S1x1024 .f32) (ix2 0 b) = m ((c.tc : Thread nD τ).loc main_arg1) (ix1 b) := by
    rw [gain_eq]; pointwise
  refine Eq.trans ?_ hg
  unfold iblk
  refine congrArg (V m c main_v5 : Vec Ideal S1x1024 .f32) (funext fun (d : Fin 2) => Fin.ext ?_)
  match d with
  | 0 => rfl
  | 1 => show 0 * 1024 + 1 * b.val = b.val; omega

/-- The weights as the region finds them: the argument with columns of zeros after it, cast. -/
theorem weights_term (c : Dev nD) : (V m c main_v4 : Vec Ideal S1024x2688 .bf16)
    = truncf .bf16 (concatenate S1024x2688 1
        [⟨S1024x2560, extractStridedSlice S1024x2560 ![0, 0] (m ((c.tc : Thread nD τ).loc main_arg2)) slices_S1024x2568_S1024x2560_0_0⟩,
         ⟨S1024x128, pad S1024x128 ![0, 0] ![0, 120] ![0, 0]
            (extractStridedSlice S1024x8 ![0, 2560] (m ((c.tc : Thread nD τ).loc main_arg2)) slices_S1024x2568_S1024x8_0_2560)
            (sitofp (F := Ideal) .f32 (constantI S_ 32 0#32)) pads_S1024x8_S1024x128_000_01200 h_S_⟩]
        concatenates_S1024x2560_S1024x128_S1024x2688_d1) bitsLt_bf16_f32 := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results

/-- These at an index. -/
theorem weights_eq (c : Dev nD) (k : Fin 1024) (j : Fin 2688) :
    (V m c main_v4 : Vec Ideal S1024x2688 .bf16) (ix2 k j) = wideAt (m ((c.tc : Thread nD τ).loc main_arg2)) k j := by
  rw [weights_term]
  unfold wideAt
  clean_types
  pointwise
  by_cases h : j.val < 2560
  · rw [dif_pos h, dif_pos (by omega)]
  · rw [dif_neg h]
    by_cases h' : j.val - 2560 < 8
    · rw [dif_pos h', dif_pos (by omega)]
      refine congrArg (m ((c.tc : Thread nD τ).loc main_arg2)) (congrArg (ix2 k) (Fin.ext ?_))
      show 2560 + (j.val - 2560) = j.val
      omega
    · rw [dif_neg h', dif_neg (by omega)]
      exact zero_word

/-- The block of the weights, the same at every point. -/
theorem block2 (c : Dev nD) (t : Fin cfg0.N) (k : Fin 1024) (j : Fin 2688) :
    iblk m c 2 t (ix2 k j) = wideAt (m ((c.tc : Thread nD τ).loc main_arg2)) k j := by
  refine Eq.trans ?_ (weights_eq m c k j)
  unfold iblk
  refine congrArg (V m c main_v4 : Vec Ideal S1024x2688 .bf16) (funext fun (d : Fin 2) => Fin.ext ?_)
  match d with
  | 0 => show 0 * 1024 + 1 * k.val = k.val; omega
  | 1 => show 0 * 2688 + 1 * j.val = j.val; omega

/-- A product at a point is the product in the whole arrays. -/
theorem rowDot_eq (c : Dev nD) (t : Fin cfg0.N) (a : Fin 1024) (j : Fin 2688) :
    rowDot (iblk m c 0 t) (iblk m c 1 t) (iblk m c 2 t) a j = projAt (m ((c.tc : Thread nD τ).loc main_arg0)) (m ((c.tc : Thread nD τ).loc main_arg1)) (m ((c.tc : Thread nD τ).loc main_arg2)) (rowOf (grid0.coords t) a) j :=
  Finset.sum_congr rfl fun k _ => Ideal.mul_congr
    (congrArg₂ (fun z g => normRow z g k) (funext fun k => block0 m c t a k) (funext fun k => block1 m c t k)) (block2 m c t k j)

/-- The weights of window 3 as the region finds them: the argument's layers, one after the other. -/
theorem layers3_eq (c : Dev nD) : (V m c main_v6 : Vec Ideal S2048x2816 .f32) = shapeCast S2048x2816 (s := S2x1024x2816) (m ((c.tc : Thread nD τ).loc main_arg3)) (by decide) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

/-- A row of the first layer in these. -/
theorem layers3_apply (c : Dev nD) (r : Fin 1024) (b : Fin 2816) :
    (V m c main_v6 : Vec Ideal S2048x2816 .f32) (ix2 ⟨r.val, by omega⟩ b) = (m ((c.tc : Thread nD τ).loc main_arg3)) (ix3 0 r b) := by
  rw [layers3_eq]
  pointwise
  refine congrArg (m ((c.tc : Thread nD τ).loc main_arg3)) (congrArg₂ (fun l r => ix3 l r b) (Fin.ext ?_) (Fin.ext ?_))
  · show r.val / 1024 = 0; omega
  · show r.val % 1024 = r.val; omega

/-- The row of a block's row. -/
def castRow3 (i : grid0.Coords) (a : Fin 64) : Fin 1024 := ⟨64 * (i 0).val + a.val, by have := coords_lt i; omega⟩

/-- The block of window 3 at a point. -/
theorem block3 (c : Dev nD) (t : Fin cfg0.N) (a : Fin 64) (b : Fin 2816) :
    iblk m c 3 t (ix2 a b) = (m ((c.tc : Thread nD τ).loc main_arg3)) (ix3 0 (castRow3 (grid0.coords t) a) b) := by
  refine Eq.trans ?_ (layers3_apply m c (castRow3 (grid0.coords t) a) b)
  unfold iblk
  have e := point_word (grid0.coords t)
  refine congrArg (V m c main_v6 : Vec Ideal S2048x2816 .f32) (funext fun (d : Fin 2) => Fin.ext ?_)
  match d with
  | 0 => show (0#32 + BitVec.ofNat 32 (grid0.coords t 0).val).toNat * 64 + 1 * a.val = 64 * (grid0.coords t 0).val + a.val; rw [BitVec.zero_add]; omega
  | 1 => show 0 * 2816 + 1 * b.val = b.val; omega

/-- The weights of window 4 as the region finds them: the argument's layers, one after the other. -/
theorem layers4_eq (c : Dev nD) : (V m c main_v7 : Vec Ideal S2048x2816 .f32) = shapeCast S2048x2816 (s := S2x1024x2816) (m ((c.tc : Thread nD τ).loc main_arg4)) (by decide) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

/-- A row of the first layer in these. -/
theorem layers4_apply (c : Dev nD) (r : Fin 1024) (b : Fin 2816) :
    (V m c main_v7 : Vec Ideal S2048x2816 .f32) (ix2 ⟨r.val, by omega⟩ b) = (m ((c.tc : Thread nD τ).loc main_arg4)) (ix3 0 r b) := by
  rw [layers4_eq]
  pointwise
  refine congrArg (m ((c.tc : Thread nD τ).loc main_arg4)) (congrArg₂ (fun l r => ix3 l r b) (Fin.ext ?_) (Fin.ext ?_))
  · show r.val / 1024 = 0; omega
  · show r.val % 1024 = r.val; omega

/-- The row of a block's row. -/
def castRow4 (i : grid0.Coords) (a : Fin 64) : Fin 1024 := ⟨64 * (i 0).val + a.val, by have := coords_lt i; omega⟩

/-- The block of window 4 at a point. -/
theorem block4 (c : Dev nD) (t : Fin cfg0.N) (a : Fin 64) (b : Fin 2816) :
    iblk m c 4 t (ix2 a b) = (m ((c.tc : Thread nD τ).loc main_arg4)) (ix3 0 (castRow4 (grid0.coords t) a) b) := by
  refine Eq.trans ?_ (layers4_apply m c (castRow4 (grid0.coords t) a) b)
  unfold iblk
  have e := point_word (grid0.coords t)
  refine congrArg (V m c main_v7 : Vec Ideal S2048x2816 .f32) (funext fun (d : Fin 2) => Fin.ext ?_)
  match d with
  | 0 => show (0#32 + BitVec.ofNat 32 (grid0.coords t 0).val).toNat * 64 + 1 * a.val = 64 * (grid0.coords t 0).val + a.val; rw [BitVec.zero_add]; omega
  | 1 => show 0 * 2816 + 1 * b.val = b.val; omega

/-- The weights of window 5 as the region finds them: the argument's layers, one after the other. -/
theorem layers5_eq (c : Dev nD) : (V m c main_v8 : Vec Ideal S5632x1024 .f32) = shapeCast S5632x1024 (s := S2x2816x1024) (m ((c.tc : Thread nD τ).loc main_arg5)) (by decide) := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

/-- A row of the first layer in these. -/
theorem layers5_apply (c : Dev nD) (r : Fin 2816) (b : Fin 1024) :
    (V m c main_v8 : Vec Ideal S5632x1024 .f32) (ix2 ⟨r.val, by omega⟩ b) = (m ((c.tc : Thread nD τ).loc main_arg5)) (ix3 0 r b) := by
  rw [layers5_eq]
  pointwise
  refine congrArg (m ((c.tc : Thread nD τ).loc main_arg5)) (congrArg₂ (fun l r => ix3 l r b) (Fin.ext ?_) (Fin.ext ?_))
  · show r.val / 2816 = 0; omega
  · show r.val % 2816 = r.val; omega

/-- The row of a block's row. -/
def castRow5 (i : grid0.Coords) (a : Fin 176) : Fin 2816 := ⟨176 * (i 0).val + a.val, by have := coords_lt i; omega⟩

/-- The block of window 5 at a point. -/
theorem block5 (c : Dev nD) (t : Fin cfg0.N) (a : Fin 176) (b : Fin 1024) :
    iblk m c 5 t (ix2 a b) = (m ((c.tc : Thread nD τ).loc main_arg5)) (ix3 0 (castRow5 (grid0.coords t) a) b) := by
  refine Eq.trans ?_ (layers5_apply m c (castRow5 (grid0.coords t) a) b)
  unfold iblk
  have e := point_word (grid0.coords t)
  refine congrArg (V m c main_v8 : Vec Ideal S5632x1024 .f32) (funext fun (d : Fin 2) => Fin.ext ?_)
  match d with
  | 0 => show (0#32 + BitVec.ofNat 32 (grid0.coords t 0).val).toNat * 176 + 1 * a.val = 176 * (grid0.coords t 0).val + a.val; rw [BitVec.zero_add]; omega
  | 1 => show 0 * 1024 + 1 * b.val = b.val; omega

/-- The array of window 6. -/
theorem final6 (c : Dev nD) : (dats m 0 c).arrAt 6 cfg0.N = xAt (m ((c.tc : Thread nD τ).loc main_arg0)) (m ((c.tc : Thread nD τ).loc main_arg1)) (m ((c.tc : Thread nD τ).loc main_arg2)) := by
  refine (dats m 0 c).arrAt_eq_of_covers 6 _ ?_ fun t hf y => ?_
  · refine (cfg0.win 6).covers_of_indexMap_surj rfl (fun a => (show ∀ a : Fin 2, 0 < S1024x1024.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_6]
    have key (y : S1024x1024.Idx) (r : Fin 16384) (j : Fin 2688) (h0 : r.val = 1024 * (grid0.coords t 0).val + (y 0).val) (h1 : j.val = 0 + (y 1).val) :
        out0_6 (iblk m c 0 t) (iblk m c 1 t) (iblk m c 2 t) (iblk m c 3 t) (iblk m c 4 t) (iblk m c 5 t) y = projAt (m ((c.tc : Thread nD τ).loc main_arg0)) (m ((c.tc : Thread nD τ).loc main_arg1)) (m ((c.tc : Thread nD τ).loc main_arg2)) r j := by
      have hr : r = rowOf (grid0.coords t) (y 0) := Fin.ext h0
      have hj : j = ⟨0 + (y 1).val, by omega⟩ := Fin.ext h1
      rw [eq_ix2 y, hr, hj]
      exact (body6 _ _ _ _ _ _ (y 0) (y 1)).trans (rowDot_eq m c t (y 0) _)
    refine key y _ _ ?_ ?_
    · show (BitVec.ofNat 32 (grid0.coords t 0).val).toNat * 1024 + 1 * (y (0 : Fin 2)).val = 1024 * (grid0.coords t 0).val + (y (0 : Fin 2)).val
      rw [point_word]; omega
    · show 0 + (0 * 1024 + 1 * (y (1 : Fin 2)).val) = 0 + (y (1 : Fin 2)).val; omega

/-- The array of window 7. -/
theorem final7 (c : Dev nD) : (dats m 0 c).arrAt 7 cfg0.N = qAt (m ((c.tc : Thread nD τ).loc main_arg0)) (m ((c.tc : Thread nD τ).loc main_arg1)) (m ((c.tc : Thread nD τ).loc main_arg2)) := by
  refine (dats m 0 c).arrAt_eq_of_covers 7 _ ?_ fun t hf y => ?_
  · refine (cfg0.win 7).covers_of_indexMap_surj rfl (fun a => (show ∀ a : Fin 2, 0 < S1024x1536.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_7]
    have key (y : S1024x1536.Idx) (r : Fin 16384) (j : Fin 2688) (h0 : r.val = 1024 * (grid0.coords t 0).val + (y 0).val) (h1 : j.val = 1024 + (y 1).val) :
        out0_7 (iblk m c 0 t) (iblk m c 1 t) (iblk m c 2 t) (iblk m c 3 t) (iblk m c 4 t) (iblk m c 5 t) y = projAt (m ((c.tc : Thread nD τ).loc main_arg0)) (m ((c.tc : Thread nD τ).loc main_arg1)) (m ((c.tc : Thread nD τ).loc main_arg2)) r j := by
      have hr : r = rowOf (grid0.coords t) (y 0) := Fin.ext h0
      have hj : j = ⟨1024 + (y 1).val, by omega⟩ := Fin.ext h1
      rw [eq_ix2 y, hr, hj]
      exact (body7 _ _ _ _ _ _ (y 0) (y 1)).trans (rowDot_eq m c t (y 0) _)
    refine key y _ _ ?_ ?_
    · show (BitVec.ofNat 32 (grid0.coords t 0).val).toNat * 1024 + 1 * (y (0 : Fin 2)).val = 1024 * (grid0.coords t 0).val + (y (0 : Fin 2)).val
      rw [point_word]; omega
    · show 1024 + (0 * 1536 + 1 * (y (1 : Fin 2)).val) = 1024 + (y (1 : Fin 2)).val; omega

/-- The array of window 8. -/
theorem final8 (c : Dev nD) : (dats m 0 c).arrAt 8 cfg0.N = fAt (m ((c.tc : Thread nD τ).loc main_arg0)) (m ((c.tc : Thread nD τ).loc main_arg1)) (m ((c.tc : Thread nD τ).loc main_arg2)) := by
  refine (dats m 0 c).arrAt_eq_of_covers 8 _ ?_ fun t hf y => ?_
  · refine (cfg0.win 8).covers_of_indexMap_surj rfl (fun a => (show ∀ a : Fin 2, 0 < S1024x128.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_8]
    have key (y : S1024x128.Idx) (r : Fin 16384) (j : Fin 2688) (h0 : r.val = 1024 * (grid0.coords t 0).val + (y 0).val) (h1 : j.val = 2560 + (y 1).val) :
        out0_8 (iblk m c 0 t) (iblk m c 1 t) (iblk m c 2 t) (iblk m c 3 t) (iblk m c 4 t) (iblk m c 5 t) y = projAt (m ((c.tc : Thread nD τ).loc main_arg0)) (m ((c.tc : Thread nD τ).loc main_arg1)) (m ((c.tc : Thread nD τ).loc main_arg2)) r j := by
      have hr : r = rowOf (grid0.coords t) (y 0) := Fin.ext h0
      have hj : j = ⟨2560 + (y 1).val, by omega⟩ := Fin.ext h1
      rw [eq_ix2 y, hr, hj]
      exact (body8 _ _ _ _ _ _ (y 0) (y 1)).trans (rowDot_eq m c t (y 0) _)
    refine key y _ _ ?_ ?_
    · show (BitVec.ofNat 32 (grid0.coords t 0).val).toNat * 1024 + 1 * (y (0 : Fin 2)).val = 1024 * (grid0.coords t 0).val + (y (0 : Fin 2)).val
      rw [point_word]; omega
    · show 2560 + (0 * 128 + 1 * (y (1 : Fin 2)).val) = 2560 + (y (1 : Fin 2)).val; omega

/-- The array of window 9. -/
theorem final9 (c : Dev nD) : (dats m 0 c).arrAt 9 cfg0.N = first1024 (m ((c.tc : Thread nD τ).loc main_arg3)) := by
  refine (dats m 0 c).arrAt_eq_of_covers 9 _ ?_ fun t hf y => ?_
  · refine (cfg0.win 9).covers_of_indexMap_surj rfl (fun a => (show ∀ a : Fin 2, 0 < S64x2816.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_9]
    have key (y : S64x2816.Idx) (r : Fin 1024) (j : Fin 2816) (h0 : r.val = 64 * (grid0.coords t 0).val + (y 0).val) (h1 : j.val = (y 1).val) :
        out0_9 (iblk m c 0 t) (iblk m c 1 t) (iblk m c 2 t) (iblk m c 3 t) (iblk m c 4 t) (iblk m c 5 t) y = (m ((c.tc : Thread nD τ).loc main_arg3)) (ix3 0 r j) := by
      have hr : r = castRow3 (grid0.coords t) (y 0) := Fin.ext h0
      have hj : j = y 1 := Fin.ext h1
      rw [eq_ix2 y, hr, hj]
      exact (body9 _ _ _ _ _ _ (y 0) (y 1)).trans (block3 m c t (y 0) (y 1))
    refine key y _ _ ?_ ?_
    · show (BitVec.ofNat 32 (grid0.coords t 0).val).toNat * 64 + 1 * (y (0 : Fin 2)).val = 64 * (grid0.coords t 0).val + (y (0 : Fin 2)).val
      rw [point_word]; omega
    · show 0 * 2816 + 1 * (y (1 : Fin 2)).val = (y (1 : Fin 2)).val; omega

/-- The array of window 10. -/
theorem final10 (c : Dev nD) : (dats m 0 c).arrAt 10 cfg0.N = first1024 (m ((c.tc : Thread nD τ).loc main_arg4)) := by
  refine (dats m 0 c).arrAt_eq_of_covers 10 _ ?_ fun t hf y => ?_
  · refine (cfg0.win 10).covers_of_indexMap_surj rfl (fun a => (show ∀ a : Fin 2, 0 < S64x2816.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_10]
    have key (y : S64x2816.Idx) (r : Fin 1024) (j : Fin 2816) (h0 : r.val = 64 * (grid0.coords t 0).val + (y 0).val) (h1 : j.val = (y 1).val) :
        out0_10 (iblk m c 0 t) (iblk m c 1 t) (iblk m c 2 t) (iblk m c 3 t) (iblk m c 4 t) (iblk m c 5 t) y = (m ((c.tc : Thread nD τ).loc main_arg4)) (ix3 0 r j) := by
      have hr : r = castRow4 (grid0.coords t) (y 0) := Fin.ext h0
      have hj : j = y 1 := Fin.ext h1
      rw [eq_ix2 y, hr, hj]
      exact (body10 _ _ _ _ _ _ (y 0) (y 1)).trans (block4 m c t (y 0) (y 1))
    refine key y _ _ ?_ ?_
    · show (BitVec.ofNat 32 (grid0.coords t 0).val).toNat * 64 + 1 * (y (0 : Fin 2)).val = 64 * (grid0.coords t 0).val + (y (0 : Fin 2)).val
      rw [point_word]; omega
    · show 0 * 2816 + 1 * (y (1 : Fin 2)).val = (y (1 : Fin 2)).val; omega

/-- The array of window 11. -/
theorem final11 (c : Dev nD) : (dats m 0 c).arrAt 11 cfg0.N = first2816 (m ((c.tc : Thread nD τ).loc main_arg5)) := by
  refine (dats m 0 c).arrAt_eq_of_covers 11 _ ?_ fun t hf y => ?_
  · refine (cfg0.win 11).covers_of_indexMap_surj rfl (fun a => (show ∀ a : Fin 2, 0 < S176x1024.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_11]
    have key (y : S176x1024.Idx) (r : Fin 2816) (j : Fin 1024) (h0 : r.val = 176 * (grid0.coords t 0).val + (y 0).val) (h1 : j.val = (y 1).val) :
        out0_11 (iblk m c 0 t) (iblk m c 1 t) (iblk m c 2 t) (iblk m c 3 t) (iblk m c 4 t) (iblk m c 5 t) y = (m ((c.tc : Thread nD τ).loc main_arg5)) (ix3 0 r j) := by
      have hr : r = castRow5 (grid0.coords t) (y 0) := Fin.ext h0
      have hj : j = y 1 := Fin.ext h1
      rw [eq_ix2 y, hr, hj]
      exact (body11 _ _ _ _ _ _ (y 0) (y 1)).trans (block5 m c t (y 0) (y 1))
    refine key y _ _ ?_ ?_
    · show (BitVec.ofNat 32 (grid0.coords t 0).val).toNat * 176 + 1 * (y (0 : Fin 2)).val = 176 * (grid0.coords t 0).val + (y (0 : Fin 2)).val
      rw [point_word]; omega
    · show 0 * 1024 + 1 * (y (1 : Fin 2)).val = (y (1 : Fin 2)).val; omega

end Cert.Proof.Even

end
-- ==== Proof.EvenRef.lean ====
module

public import proofs.«01_k».proof.Proof.Even
public import proofs.«01_k».proof.Proof.Gen.Reference6Ideal.Run
public import Idealize.ShloMosaic.Lib.KernelVsHost

@[expose] public section

set_option maxRecDepth 16384

noncomputable section

/-! The even layer's projection's reference at an index, and that it is the kernel's number. -/

namespace Cert.Proof.Even

open Idealize.ShloMosaic Idealize.ShloMosaic.TcCoe Idealize.ShloMosaic.Tactic
open Cert.Reference6Ideal Cert.Reference6Ideal.Gen
open Idealize.SL.Sem

section ref
variable (a0 : FVec Ideal S16384x1024 .f32) (a1 : FVec Ideal S1024 .f32) (a2 : FVec Ideal S1024x2568 .f32)

/-- The reference's normalised rows. -/
abbrev refNorm : FVec Ideal S16384x1024 .f32 :=
  mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))

/-- The reference's product. -/
abbrev refProj : FVec Ideal S16384x2568 .f32 :=
  Host.dotGeneral dot_S16384x1024_S1024x2568_S16384x2568_1_0_0_1_n_n none (refNorm a0 a1) a2

/-- The normalised rows, at an index. -/
theorem refNorm_apply (r : Fin 16384) (o : Fin 1024) :
    refNorm a0 a1 (ix2 r o) = normRow (fun k => a0 (ix2 r k)) (fun k => a1 (ix1 k)) o := by
  unfold refNorm normRow
  clean_types
  pointwise

/-- The product, at an index: a column within the weights. -/
theorem refProj_apply (r : Fin 16384) (o : Fin 2568) (j : Fin 2688) (hj : j.val = o.val) :
    refProj a0 a1 a2 (ix2 r o) = projAt a0 a1 a2 r j := by
  have h : refProj a0 a1 a2 (ix2 r o) = (∑ k : Fin 1024, refNorm a0 a1 (ix2 r k) * a2 (ix2 k o) : EReal) := by
    unfold refProj
    generalize refNorm a0 a1 = z
    pointwise
  rw [h]
  unfold projAt
  refine Finset.sum_congr rfl fun k _ => ?_
  refine Ideal.mul_congr (refNorm_apply a0 a1 r k) ?_
  unfold wideAt
  rw [dif_pos (by omega)]
  exact congrArg a2 (congrArg (ix2 k) (Fin.ext hj.symm))

/-- The RG-LRU and its gate, at an index. -/
theorem ref_x (i : S16384x1024.Idx) : (extractStridedSlice S16384x1024 ![0, 0] (refProj a0 a1 a2) slices_S16384x2568_S16384x1024_0_0) i = xAt a0 a1 a2 i := by
  have hp := refProj_apply a0 a1 a2 (i 0) ⟨0 + (i (1 : Fin 2)).val, by have : (i (1 : Fin 2)).val < 1024 := (i (1 : Fin 2)).isLt; omega⟩ ⟨0 + (i (1 : Fin 2)).val, by have : (i (1 : Fin 2)).val < 1024 := (i (1 : Fin 2)).isLt; omega⟩ rfl
  refine Eq.trans ?_ hp
  generalize refProj a0 a1 a2 = z
  rw [eq_ix2 i]
  clean_types
  pointwise

/-- The queries, keys and values, at an index. -/
theorem ref_q (i : S16384x1536.Idx) : (truncf .bf16 (extractStridedSlice S16384x1536 ![0, 1024] (refProj a0 a1 a2) slices_S16384x2568_S16384x1536_0_1024) bitsLt_bf16_f32) i = qAt a0 a1 a2 i := by
  have hp := refProj_apply a0 a1 a2 (i 0) ⟨1024 + (i (1 : Fin 2)).val, by have : (i (1 : Fin 2)).val < 1536 := (i (1 : Fin 2)).isLt; omega⟩ ⟨1024 + (i (1 : Fin 2)).val, by have : (i (1 : Fin 2)).val < 1536 := (i (1 : Fin 2)).isLt; omega⟩ rfl
  refine Eq.trans ?_ hp
  generalize refProj a0 a1 a2 = z
  rw [eq_ix2 i]
  clean_types
  pointwise

/-- The forget gates, zeros after them, at an index. -/
theorem ref_f (i : S16384x128.Idx) : (pad S16384x128 ![0, 0] ![0, 120] ![0, 0] (extractStridedSlice S16384x8 ![0, 2560] (refProj a0 a1 a2) slices_S16384x2568_S16384x8_0_2560) (sitofp .f32 (constantI S_ 32 0#32)) pads_S16384x8_S16384x128_000_01200 h_S_) i = fAt a0 a1 a2 i := by
  have hp (h : (i (1 : Fin 2)).val < 8) := refProj_apply a0 a1 a2 (i 0) ⟨2560 + (i (1 : Fin 2)).val, by omega⟩ ⟨2560 + (i (1 : Fin 2)).val, by omega⟩ rfl
  have hz (h : ¬ (i (1 : Fin 2)).val < 8) : fAt a0 a1 a2 i = 0 := by
    unfold fAt projAt
    refine Finset.sum_eq_zero fun k _ => ?_
    unfold wideAt
    rw [dif_neg (by show ¬ 2560 + (i (1 : Fin 2)).val < 2568; omega), mul_zero]
  unfold fAt at hz ⊢
  generalize refProj a0 a1 a2 = z at hp
  rw [eq_ix2 i]
  clean_types
  pointwise
  by_cases h : (i (1 : Fin 2)).val < 8
  · rw [dif_pos h]; exact hp h
  · rw [dif_neg h]; exact zero_word.trans (hz h).symm

end ref

/-- The first layer's weights cast, at an index. -/
theorem ref_a (a3 : FVec Ideal S2x1024x2816 .f32) (i : S1024x2816.Idx) : (truncf .bf16 (shapeCast S1024x2816 (extractStridedSlice S1x1024x2816 ![0, 0, 0] a3 slices_S2x1024x2816_S1x1024x2816_0_0_0) shapeCasts_S1x1024x2816_S1024x2816) bitsLt_bf16_f32) i = first1024 a3 i := by
  unfold first1024
  rw [eq_ix2 i]
  clean_types
  pointwise

/-- The first layer's weights cast, at an index. -/
theorem ref_b (a4 : FVec Ideal S2x1024x2816 .f32) (i : S1024x2816.Idx) : (truncf .bf16 (shapeCast S1024x2816 (extractStridedSlice S1x1024x2816 ![0, 0, 0] a4 slices_S2x1024x2816_S1x1024x2816_0_0_0) shapeCasts_S1x1024x2816_S1024x2816) bitsLt_bf16_f32) i = first1024 a4 i := by
  unfold first1024
  rw [eq_ix2 i]
  clean_types
  pointwise

/-- The first layer's weights cast, at an index. -/
theorem ref_c (a5 : FVec Ideal S2x2816x1024 .f32) (i : S2816x1024.Idx) : (truncf .bf16 (shapeCast S2816x1024 (extractStridedSlice S1x2816x1024 ![0, 0, 0] a5 slices_S2x2816x1024_S1x2816x1024_0_0_0) shapeCasts_S1x2816x1024_S2816x1024) bitsLt_bf16_f32) i = first2816 a5 i := by
  unfold first2816
  rw [eq_ix2 i]
  clean_types
  pointwise

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = xAt (m ((c.tc : Thread nD τ).loc main_arg0)) (m ((c.tc : Thread nD τ).loc main_arg1)) (m ((c.tc : Thread nD τ).loc main_arg2))
      ∧ r.2.mem ((c.tc : Thread nD τ).loc main_v17) = qAt (m ((c.tc : Thread nD τ).loc main_arg0)) (m ((c.tc : Thread nD τ).loc main_arg1)) (m ((c.tc : Thread nD τ).loc main_arg2))
      ∧ r.2.mem ((c.tc : Thread nD τ).loc main_v18) = fAt (m ((c.tc : Thread nD τ).loc main_arg0)) (m ((c.tc : Thread nD τ).loc main_arg1)) (m ((c.tc : Thread nD τ).loc main_arg2))
      ∧ r.2.mem ((c.tc : Thread nD τ).loc main_v21) = first1024 (m ((c.tc : Thread nD τ).loc main_arg3))
      ∧ r.2.mem ((c.tc : Thread nD τ).loc main_v24) = first1024 (m ((c.tc : Thread nD τ).loc main_arg4))
      ∧ r.2.mem ((c.tc : Thread nD τ).loc main_v27) = first2816 (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference6Ideal.Value.run m ρ)
  · exact funext fun i => ref_x _ _ _ i
  · exact funext fun i => ref_q _ _ _ i
  · exact funext fun i => ref_f _ _ _ i
  · exact funext fun i => ref_a _ i
  · exact funext fun i => ref_b _ i
  · exact funext fun i => ref_c _ i

end Cert.Proof.Even

end
-- ==== Proof.Finite.lean ====
module

public import proofs.«01_k».proof.Proof.Norm

@[expose] public section

noncomputable section

/-! Numbers that are not infinite, and that the normalisation of such a row has only such numbers. -/

namespace Cert.Proof

open Idealize.ShloMosaic

/-- A number that is not infinite. -/
def IsReal (x : EReal) : Prop := ∃ r : ℝ, x = (r : EReal)

/-- A number whose size is below the infinite is not infinite. -/
theorem isReal_of_abs {x : EReal} (h : max x (-x) < ⊤) : IsReal x := by
  induction x using EReal.rec with
  | bot => simp at h
  | top => simp at h
  | coe r => exact ⟨r, rfl⟩

/-- Such a number is above the negative infinite. -/
theorem IsReal.bot_lt {x : EReal} (h : IsReal x) : ⊥ < x := by
  obtain ⟨r, rfl⟩ := h; exact EReal.bot_lt_coe r

/-- Their sum. -/
theorem IsReal.add {x y : EReal} (hx : IsReal x) (hy : IsReal y) : IsReal (x + y) := by
  obtain ⟨r, rfl⟩ := hx; obtain ⟨s, rfl⟩ := hy; exact ⟨r + s, (EReal.coe_add r s).symm⟩

/-- Their product. -/
theorem IsReal.mul {x y : EReal} (hx : IsReal x) (hy : IsReal y) : IsReal (x * y) := by
  obtain ⟨r, rfl⟩ := hx; obtain ⟨s, rfl⟩ := hy; exact ⟨r * s, (EReal.coe_mul r s).symm⟩

/-- Such a number less itself is zero. -/
theorem IsReal.sub_self {x : EReal} (hx : IsReal x) : x - x = 0 := by
  obtain ⟨r, rfl⟩ := hx; rw [← EReal.coe_sub, _root_.sub_self, EReal.coe_zero]

/-- A sum of products of them. -/
theorem isReal_sum {ι : Type} (s : Finset ι) (f : ι → EReal) (hf : ∀ i, IsReal (f i)) : IsReal (∑ i ∈ s, f i) := by
  classical
  induction s using Finset.induction_on with
  | empty => exact ⟨0, by simp⟩
  | insert a s ha ih => rw [Finset.sum_insert ha]; exact (hf a).add ih

/-- The row's length, as a number. -/
theorem length_word : Ideal.ofBits .f32 0x44800000#32 = ((1024 : ℝ) : EReal) := by
  simp [Ideal.ofBits, Ideal.ieee, -EReal.coe_mul]; norm_num

/-- What is added under the root, as a number: above zero. -/
theorem eps_word : ∃ e : ℝ, 0 < e ∧ Ideal.ofBits .f32 0x358637BD#32 = (e : EReal) := by
  refine ⟨_, ?_, by simp [Ideal.ofBits, Ideal.ieee, -EReal.coe_mul]; rfl⟩
  norm_num

/-- A sum of squares is not below zero. -/
theorem squares (z : Fin 1024 → EReal) (hz : ∀ k, IsReal (z k)) : ∃ r : ℝ, 0 ≤ r ∧ (∑ k : Fin 1024, z k * z k) = (r : EReal) := by
  obtain ⟨r, hr⟩ := isReal_sum Finset.univ (fun k => z k * z k) fun k => (hz k).mul (hz k)
  refine ⟨r, ?_, hr⟩
  have h : (0 : EReal) ≤ ∑ k : Fin 1024, z k * z k := Finset.sum_nonneg fun k _ => by
    obtain ⟨s, hs⟩ := hz k
    rw [hs, ← EReal.coe_mul]
    exact EReal.coe_nonneg.mpr (mul_self_nonneg s)
  rw [hr] at h
  exact EReal.coe_nonneg.mp h

/-- The normalised row has no infinite number. -/
theorem isReal_normRow (z g : Fin 1024 → EReal) (hz : ∀ k, IsReal (z k)) (hg : ∀ k, IsReal (g k)) (o : Fin 1024) : IsReal (normRow z g o) := by
  unfold normRow
  refine ((hz o).mul ?_).mul (hg o)
  obtain ⟨r, hr0, hr⟩ := squares z hz
  obtain ⟨e, he0, he⟩ := eps_word
  rw [hr, he, length_word]
  have h : Ideal.div (r : EReal) ((1024 : ℝ) : EReal) + (e : EReal) = ((r * (1024 : ℝ)⁻¹ + e : ℝ) : EReal) := by
    unfold Ideal.div
    rw [if_neg (by exact_mod_cast (by norm_num : (1024 : ℝ) ≠ 0)), ← EReal.coe_inv, ← EReal.coe_mul, ← EReal.coe_add]
  rw [h]
  have hpos : 0 < r * (1024 : ℝ)⁻¹ + e := by positivity
  refine ⟨(Real.sqrt (r * (1024 : ℝ)⁻¹ + e))⁻¹, ?_⟩
  show (if r * (1024 : ℝ)⁻¹ + e < 0 then ⊥ else if r * (1024 : ℝ)⁻¹ + e = 0 then ⊤ else (((Real.sqrt (r * (1024 : ℝ)⁻¹ + e))⁻¹ : ℝ) : EReal)) = _
  rw [if_neg (not_lt.mpr hpos.le), if_neg hpos.ne']

/-- The weight of the greater of two numbers: its exponential over the sum of both. -/
theorem weight_first {a b : EReal} (ha : IsReal a) (hb : IsReal b) :
    Ideal.div (Ideal.exp (a - a)) (Ideal.exp (a - a) + Ideal.exp (b - a)) = Ideal.div 1 (1 + Ideal.exp (b - a)) := by
  have h1 : Ideal.exp (a - a) = 1 := by
    rw [ha.sub_self]
    show ((Real.exp 0 : ℝ) : EReal) = 1
    simp
  rw [h1]

/-- The weight of the other. -/
theorem weight_second {a b : EReal} (ha : IsReal a) (hb : IsReal b) :
    Ideal.div (Ideal.exp (b - a)) (Ideal.exp (a - a) + Ideal.exp (b - a)) = Ideal.exp (b - a) * Ideal.div 1 (1 + Ideal.exp (b - a)) := by
  have h1 : Ideal.exp (a - a) = 1 := by
    rw [ha.sub_self]
    show ((Real.exp 0 : ℝ) : EReal) = 1
    simp
  rw [h1]
  obtain ⟨r, rfl⟩ := ha; obtain ⟨s, rfl⟩ := hb
  rw [← EReal.coe_sub]
  have he : Ideal.exp ((s - r : ℝ) : EReal) = ((Real.exp (s - r) : ℝ) : EReal) := rfl
  rw [he]
  have hne : (1 : EReal) + ((Real.exp (s - r) : ℝ) : EReal) ≠ 0 := by
    rw [← EReal.coe_one, ← EReal.coe_add, ← EReal.coe_zero]
    exact fun h => absurd (EReal.coe_eq_coe_iff.mp h) (by positivity)
  unfold Ideal.div
  rw [if_neg hne, if_neg hne, one_mul]

end Cert.Proof

end
-- ==== Proof.Pair.lean ====
module

public import Idealize.ShloMosaic.PureOps.Ideal
public import Idealize.ShloMosaic.Lib.Tactic.CleanTypes

@[expose] public section

noncomputable section

/-! The two greatest of a row of numbers, the earlier position first among equals: what a stable sort
    puts in its first two places, and how to recognise them. -/

namespace Cert.Proof.Pair

open Idealize.ShloMosaic

section sort
variable {n : Nat} (L : Fin n → EReal)

/-- A position comes ahead of another: its number is greater, or the same and it is the earlier. -/
def Ahead (p q : Fin n) : Prop := L q < L p ∨ (L p = L q ∧ p < q)

/-- Nothing is ahead of itself. -/
theorem ahead_ne {p q : Fin n} (h : Ahead L p q) : p ≠ q := by
  rintro rfl
  rcases h with h | ⟨_, h⟩
  · exact lt_irrefl _ h
  · exact lt_irrefl _ h

/-- No two positions are ahead of each other. -/
theorem ahead_asymm {p q : Fin n} (h : Ahead L p q) (h' : Ahead L q p) : False := by
  rcases h with h | ⟨e, h⟩ <;> rcases h' with h' | ⟨e', h'⟩
  · exact lt_asymm h h'
  · exact absurd h (by rw [e']; exact lt_irrefl _)
  · exact absurd h' (by rw [e]; exact lt_irrefl _)
  · exact lt_asymm h h'

/-- To be ahead passes on. -/
theorem ahead_trans {p q r : Fin n} (h : Ahead L p q) (h' : Ahead L q r) : Ahead L p r := by
  rcases h with h | ⟨e, h⟩ <;> rcases h' with h' | ⟨e', h'⟩
  · exact .inl (lt_trans h' h)
  · exact .inl (e' ▸ h)
  · exact .inl (e ▸ h')
  · exact .inr ⟨e.trans e', lt_trans h h'⟩

variable (before : Fin n → Fin n → Bool) (hb : ∀ p q, before p q = true ↔ L q < L p)
include hb

/-- Putting a position into a sorted list keeps its members. -/
theorem mem_insert (a x : Fin n) (l : List (Fin n)) : x ∈ insertBefore before a l ↔ x = a ∨ x ∈ l := by
  induction l with
  | nil => simp [insertBefore]
  | cons b l ih =>
    unfold insertBefore
    split
    · simp only [List.mem_cons, ih]; tauto
    · simp only [List.mem_cons]

/-- Putting a position into a sorted list of later ones keeps it sorted. -/
theorem insert_sorted (a : Fin n) (l : List (Fin n)) (hl : l.Pairwise (Ahead L)) (ha : ∀ x ∈ l, a < x) :
    (insertBefore before a l).Pairwise (Ahead L) := by
  induction l with
  | nil => simp [insertBefore]
  | cons b l ih =>
    unfold insertBefore
    obtain ⟨h1, h2⟩ := List.pairwise_cons.mp hl
    split
    · rename_i h
      refine List.pairwise_cons.mpr ⟨fun x hx => ?_, ih h2 fun x hx => ha x (List.mem_cons_of_mem _ hx)⟩
      rcases (mem_insert L before hb a x l).mp hx with rfl | hx
      · exact .inl ((hb _ _).mp h)
      · exact h1 x hx
    · rename_i h
      have hab : Ahead L a b := by
        have h' : ¬ L a < L b := fun hh => h ((hb _ _).mpr hh)
        rcases lt_or_eq_of_le (not_lt.mp h') with h'' | h''
        · exact .inl h''
        · exact .inr ⟨h''.symm, ha b List.mem_cons_self⟩
      refine List.pairwise_cons.mpr ⟨fun x hx => ?_, hl⟩
      rcases List.mem_cons.mp hx with rfl | hx
      · exact hab
      · exact ahead_trans L hab (h1 x hx)

/-- The stable sort keeps the members of a list. -/
theorem mem_sort (x : Fin n) (l : List (Fin n)) : x ∈ stableSort before l ↔ x ∈ l := by
  induction l with
  | nil => simp [stableSort]
  | cons a l ih => unfold stableSort; rw [mem_insert L before hb, ih, List.mem_cons]

/-- The stable sort of increasing positions is sorted. -/
theorem sort_sorted (l : List (Fin n)) (hl : l.Pairwise (· < ·)) : (stableSort before l).Pairwise (Ahead L) := by
  induction l with
  | nil => simp [stableSort]
  | cons a l ih =>
    obtain ⟨h1, h2⟩ := List.pairwise_cons.mp hl
    unfold stableSort
    exact insert_sorted L before hb a _ (ih h2) fun x hx => h1 x ((mem_sort L before hb x l).mp hx)

/-- The position sorted to an earlier place is ahead of the one sorted to a later place. -/
theorem sorted_ahead {i j : Fin n} (h : i < j) : Ahead L (sortedFrom before i) (sortedFrom before j) := by
  have := List.pairwise_iff_get.mp (sort_sorted L before hb (List.finRange n) (List.pairwise_lt_finRange n))
  exact this _ _ h

/-- Every position is sorted to some place. -/
theorem sorted_onto (q : Fin n) : ∃ j, sortedFrom before j = q := by
  have hq : q ∈ sortPositions n before := (mem_sort L before hb q _).mpr (List.mem_finRange q)
  obtain ⟨j, hj⟩ := List.get_of_mem hq
  exact ⟨j.cast (length_sortPositions n before), hj⟩

end sort

section two
variable {n : Nat} (L : Fin (n + 2) → EReal)
variable (before : Fin (n + 2) → Fin (n + 2) → Bool) (hb : ∀ p q, before p q = true ↔ L q < L p)
include hb

/-- A position ahead of all others is the one sorted first. -/
theorem first_eq {p : Fin (n + 2)} (hp : ∀ q, q ≠ p → Ahead L p q) : sortedFrom before 0 = p := by
  by_contra h
  obtain ⟨j, hj⟩ := sorted_onto L before hb p
  have h0 : (0 : Fin (n + 2)) < j := by
    refine Fin.pos_of_ne_zero fun e => ?_
    exact h (e ▸ hj)
  have := sorted_ahead L before hb h0
  rw [hj] at this
  exact ahead_asymm L this (hp _ h)

/-- A position ahead of all others but the first is the one sorted second. -/
theorem second_eq {p q : Fin (n + 2)} (hp : ∀ r, r ≠ p → Ahead L p r) (hq : q ≠ p) (h2 : ∀ r, r ≠ p → r ≠ q → Ahead L q r) :
    sortedFrom before 1 = q := by
  have h1 := first_eq L before hb hp
  have h01 : Ahead L (sortedFrom before 0) (sortedFrom before 1) := sorted_ahead L before hb (by simp [Fin.lt_def])
  rw [h1] at h01
  by_contra h
  obtain ⟨j, hj⟩ := sorted_onto L before hb q
  have hj0 : j ≠ 0 := by rintro rfl; exact hq (hj.symm.trans h1)
  have hj1 : j ≠ 1 := by rintro rfl; exact h hj
  have hlt : (1 : Fin (n + 2)) < j := by
    rw [Fin.lt_def]
    have a0 : j.val ≠ 0 := fun e => hj0 (Fin.ext e)
    have a1 : j.val ≠ 1 := fun e => hj1 (Fin.ext e)
    show 1 % (n + 2) < j.val
    rw [Nat.mod_eq_of_lt (by omega)]; omega
  have := sorted_ahead L before hb hlt
  rw [hj] at this
  exact ahead_asymm L this (h2 _ (ahead_ne L h01).symm h)

end two

end Cert.Proof.Pair

end
-- ==== Proof.Rounds.lean ====
module

public import proofs.«01_k».proof.Proof.Pair
public import Idealize.ShloMosaic.Lib.Pipeline.ValueKit
public import Idealize.ShloMosaic.Lib.Pointwise

@[expose] public section

noncomputable section

/-! Two rounds over 128 lanes, each the greatest number and the least lane that has it, find the two
    greatest of the eight numbers in front, the earlier first among equals. -/

namespace Cert.Proof.Pair

open Idealize.ShloMosaic

/-- The smaller of two words that are not negative. -/
theorem min_word (x y : BitVec 32) (hx : x.toNat < 2 ^ 31) (hy : y.toNat < 2 ^ 31) :
    (IntOp.minsi x y = x ∨ IntOp.minsi x y = y) ∧ (IntOp.minsi x y).toNat ≤ x.toNat ∧ (IntOp.minsi x y).toNat ≤ y.toNat := by
  have hx' := BitVec.toInt_eq_toNat_of_lt (x := x) (by omega)
  have hy' := BitVec.toInt_eq_toNat_of_lt (x := y) (by omega)
  unfold IntOp.minsi
  split
  · rename_i h
    have := BitVec.slt_iff_toInt_lt.mp h
    exact ⟨.inl rfl, le_refl _, by omega⟩
  · rename_i h
    have : ¬ x.toInt < y.toInt := fun hh => h (BitVec.slt_iff_toInt_lt.mpr hh)
    exact ⟨.inr rfl, by omega, le_refl _⟩

/-- The smallest of words that are not negative: no greater than any, and one of them. -/
theorem fold_min {ι : Type} [DecidableEq ι] (b : BitVec 32) (hb : b.toNat < 2 ^ 31) (g : ι → BitVec 32) (hg : ∀ x, (g x).toNat < 2 ^ 31)
    (s : Finset ι) : (s.fold IntOp.minsi b g).toNat ≤ b.toNat ∧ (∀ x ∈ s, (s.fold IntOp.minsi b g).toNat ≤ (g x).toNat)
      ∧ (s.fold IntOp.minsi b g = b ∨ ∃ x ∈ s, s.fold IntOp.minsi b g = g x) := by
  induction s using Finset.induction_on with
  | empty => exact ⟨le_refl _, fun x hx => absurd hx (Finset.notMem_empty x), .inl rfl⟩
  | insert a s ha ih =>
    obtain ⟨i1, i2, i3⟩ := ih
    rw [Finset.fold_insert ha]
    obtain ⟨h1, h2, h3⟩ := min_word (g a) (s.fold IntOp.minsi b g) (hg a) (by omega)
    refine ⟨h3.trans i1, fun x hx => ?_, ?_⟩
    · rcases Finset.mem_insert.mp hx with rfl | hx
      · exact h2
      · exact h3.trans (i2 x hx)
    · rcases h1 with h1 | h1
      · exact .inr ⟨a, Finset.mem_insert_self a s, h1⟩
      · rw [h1]
        rcases i3 with i3 | ⟨x, hx, i3⟩
        · exact .inl i3
        · exact .inr ⟨x, Finset.mem_insert_of_mem hx, i3⟩

/-- The word of a lane. -/
theorem lane_word (x : Fin 128) : (BitVec.ofNat 32 x.val).toNat = x.val := by
  rw [BitVec.toNat_ofNat]; omega

/-- One round: the greatest number and the least lane that has it. -/
theorem round (f : Fin 128 → EReal) :
    ∃ p : Fin 128, Finset.fold max ⊥ f Finset.univ = f p ∧ (∀ q, f q ≤ f p) ∧ (∀ q, f q = f p → p ≤ q)
      ∧ Finset.fold IntOp.minsi 2147483647#32 (fun x => if f x = f p then BitVec.ofNat 32 x.val else 128#32) Finset.univ = BitVec.ofNat 32 p.val := by
  obtain ⟨p', -, hp'⟩ := Finset.exists_max_image (Finset.univ : Finset (Fin 128)) f ⟨0, Finset.mem_univ _⟩
  obtain ⟨p, hp, hmin⟩ := Finset.exists_min_image (Finset.univ.filter fun q => f q = f p') (fun q => q) ⟨p', by simp⟩
  have hfp : f p = f p' := (Finset.mem_filter.mp hp).2
  have hmax : ∀ q, f q ≤ f p := fun q => hfp ▸ hp' q (Finset.mem_univ q)
  have hleast : ∀ q, f q = f p → p ≤ q := fun q hq => hmin q (Finset.mem_filter.mpr ⟨Finset.mem_univ q, hq.trans hfp⟩)
  refine ⟨p, ?_, hmax, hleast, ?_⟩
  · refine le_antisymm ?_ ?_
    · exact Finset.sup_le (f := f) fun q _ => hmax q
    · exact Finset.le_sup (f := f) (Finset.mem_univ p)
  · obtain ⟨h1, h2, h3⟩ := fold_min 2147483647#32 (by decide) (fun x : Fin 128 => if f x = f p then BitVec.ofNat 32 x.val else 128#32)
      (fun x => by
        show (if f x = f p then BitVec.ofNat 32 x.val else 128#32).toNat < 2 ^ 31
        split
        · rw [lane_word]; omega
        · decide) Finset.univ
    have hle := h2 p (Finset.mem_univ p)
    simp only [if_true, lane_word] at hle
    rcases h3 with h3 | ⟨x, -, h3⟩
    · rw [h3] at hle
      have : (2147483647#32).toNat = 2147483647 := by decide
      omega
    · rw [h3] at hle ⊢
      by_cases hx : f x = f p
      · simp only [if_pos hx, lane_word] at hle ⊢
        rw [le_antisymm (hleast x hx) hle]
      · simp only [if_neg hx] at hle
        have : (128#32).toNat = 128 := by decide
        omega

section rounds
variable (L : Fin 8 → EReal) (hL : ∀ j, ⊥ < L j)
variable (before : Fin 8 → Fin 8 → Bool) (hb : ∀ p q, before p q = true ↔ L q < L p)
variable (K K' : Fin 128 → EReal) (hK : ∀ x : Fin 128, K x = if h : x.val < 8 then L ⟨x.val, h⟩ else ⊥)
variable (hK' : ∀ x : Fin 128, K' x = if BitVec.ofNat 32 x.val = BitVec.ofNat 32 (sortedFrom before 0).val then ⊥ else K x)

include hL hb hK in
/-- The first round finds the number sorted first, and its position. -/
theorem round_one : Finset.fold max ⊥ K Finset.univ = L (sortedFrom before 0)
    ∧ Finset.fold IntOp.minsi 2147483647#32 (fun x => if K x = L (sortedFrom before 0) then BitVec.ofNat 32 x.val else 128#32) Finset.univ
      = BitVec.ofNat 32 (sortedFrom before 0).val := by
  obtain ⟨p, h1, h2, h3, h4⟩ := round K
  have hlane (j : Fin 8) : K ⟨j.val, by omega⟩ = L j := by rw [hK, dif_pos j.isLt]
  have hp : p.val < 8 := by
    by_contra h
    have := h2 ⟨(0 : Fin 8).val, by decide⟩
    rw [hlane 0, hK p, dif_neg h] at this
    exact absurd (hL 0) (not_lt.mpr this)
  have hKp : K p = L ⟨p.val, hp⟩ := by rw [hK, dif_pos hp]
  have hs : sortedFrom before 0 = ⟨p.val, hp⟩ := by
    refine first_eq (n := 6) L before hb fun q hq => ?_
    have hle := h2 ⟨q.val, by omega⟩
    rw [hlane q, hKp] at hle
    rcases lt_or_eq_of_le hle with hlt | heq
    · exact .inl hlt
    · refine .inr ⟨heq.symm, lt_of_le_of_ne ?_ hq.symm⟩
      have := h3 ⟨q.val, by omega⟩ (by rw [hlane q, hKp, heq])
      exact this
  rw [hs, ← hKp]
  exact ⟨h1, h4⟩

include hL hb hK hK' in
/-- The second round, the first's lane struck out, finds the number sorted second, and its position. -/
theorem round_two : Finset.fold max ⊥ K' Finset.univ = L (sortedFrom before 1)
    ∧ Finset.fold IntOp.minsi 2147483647#32 (fun x => if K' x = L (sortedFrom before 1) then BitVec.ofNat 32 x.val else 128#32) Finset.univ
      = BitVec.ofNat 32 (sortedFrom before 1).val := by
  obtain ⟨p, h1, h2, h3, h4⟩ := round K'
  set s := sortedFrom before 0 with hs
  have hfirst : ∀ q, q ≠ s → Ahead L s q := fun q hq => by
    obtain ⟨j, hj⟩ := sorted_onto L before hb q
    have h0 : (0 : Fin 8) < j := Fin.pos_of_ne_zero fun e => hq (by rw [← hj, e])
    have := sorted_ahead L before hb h0
    rwa [hj] at this
  have hlane (j : Fin 8) (hj : j ≠ s) : K' ⟨j.val, by omega⟩ = L j := by
    rw [hK', if_neg, hK, dif_pos j.isLt]
    intro e
    have e' := congrArg BitVec.toNat e
    simp only [BitVec.toNat_ofNat] at e'
    exact hj (Fin.ext (by omega))
  obtain ⟨j, hj⟩ : ∃ j : Fin 8, j ≠ s := ⟨sortedFrom before 1, (ahead_ne L (sorted_ahead L before hb (by decide : (0 : Fin 8) < 1))).symm⟩
  have hbot : K' p ≠ ⊥ := fun e => by
    have := h2 ⟨j.val, by omega⟩
    rw [hlane j hj, e] at this
    exact absurd (hL j) (not_lt.mpr this)
  have hp : p.val < 8 := by
    by_contra h
    refine hbot ?_
    rw [hK', hK p, dif_neg h, ite_self]
  have hps : (⟨p.val, hp⟩ : Fin 8) ≠ s := fun e => by
    refine hbot ?_
    rw [hK', if_pos]
    rw [← e]
  have hKp : K' p = L ⟨p.val, hp⟩ := hlane ⟨p.val, hp⟩ hps
  have hs1 : sortedFrom before 1 = ⟨p.val, hp⟩ := by
    refine second_eq (n := 6) L before hb hfirst hps fun q hq hqp => ?_
    have hle := h2 ⟨q.val, by omega⟩
    rw [hlane q hq, hKp] at hle
    rcases lt_or_eq_of_le hle with hlt | heq
    · exact .inl hlt
    · refine .inr ⟨heq.symm, lt_of_le_of_ne ?_ hqp.symm⟩
      have := h3 ⟨q.val, by omega⟩ (by rw [hlane q hq, hKp, heq])
      exact this
  rw [hs1, ← hKp]
  exact ⟨h1, h4⟩

include hb in
/-- The number sorted second is no greater than the one sorted first. -/
theorem second_le : L (sortedFrom before 1) ≤ L (sortedFrom before 0) := by
  rcases sorted_ahead L before hb (by decide : (0 : Fin 8) < 1) with h | ⟨h, -⟩
  · exact le_of_lt h
  · exact le_of_eq h.symm

end rounds

end Cert.Proof.Pair

end
-- ==== Proof.Router.lean ====
module

public import proofs.«01_k».proof.Proof.Finite
public import proofs.«01_k».proof.Proof.Rounds
public import proofs.«01_k».proof.Proof.Gen.Kernel7Ideal.Value
public import Idealize.ShloMosaic.Lib.Pipeline.Covers
public import Idealize.ShloMosaic.Lib.Pipeline.ReadBack
public import Idealize.ShloMosaic.Lib.Tactic.CleanTypes

@[expose] public section

set_option maxRecDepth 16384

noncomputable section

/-! The router's call at an index: the stream after the projection is added, its normalised rows by
    quarters, and a token's two experts with their weights. -/

namespace Cert.Proof.Router

open Idealize.ShloMosaic Idealize.ShloMosaic.TcCoe Idealize.ShloMosaic.Tactic
open Cert.Kernel7Ideal Cert.Kernel7Ideal.Gen

/-- The order of two of a token's scores: the greater first. -/
def before (L : Fin 8 → EReal) (p q : Fin 8) : Bool := Ideal.cmpTotal .gt (L p) (L q) == 1#1

/-- What that order says. -/
theorem before_iff (L : Fin 8 → EReal) (p q : Fin 8) : before L p q = true ↔ L q < L p := by
  unfold before Ideal.cmpTotal
  show (Ideal.cmp .ogt (L p) (L q) == 1#1) = true ↔ L q < L p
  unfold Ideal.cmp
  by_cases h : L q < L p <;> simp [h]

/-- The expert sorted first, and the second. -/
def top (L : Fin 8 → EReal) (i : Fin 8) : Fin 8 := sortedFrom (before L) i

/-- A lane of a token's row of information: the two experts' numbers, their two weights, and zeros. -/
def infoRow (L : Fin 8 → EReal) (b : Nat) : EReal :=
  if b = 0 then FloatOps.sitofp (F := Ideal) .f32 (BitVec.ofNat 32 (top L 0).val)
  else if b = 1 then FloatOps.sitofp (F := Ideal) .f32 (BitVec.ofNat 32 (top L 1).val)
  else if b = 2 then Ideal.div 1 (1 + Ideal.exp (L (top L 1) - L (top L 0)))
  else if b = 3 then Ideal.exp (L (top L 1) - L (top L 0)) * Ideal.div 1 (1 + Ideal.exp (L (top L 1) - L (top L 0)))
  else 0

/-- The negative infinite, as a number. -/
theorem bot_word : Ideal.ofBits .f32 0xFF800000#32 = ⊥ := by simp [Ideal.ofBits, Ideal.ieee]

/-- A choice by the equality of two words. -/
theorem select_eq (p q : BitVec 32) (u v : EReal) : Scalar.select (IntOp.cmpi .eq p q) u v = if p = q then u else v := by
  show (if BitVec.ofBool (p == q) = 1 then u else v) = _
  by_cases h : p = q
  · subst h; simp
  · rw [beq_false_of_ne h, if_neg h]; exact if_neg (by decide)

/-- The offset of a whole block. -/
theorem zero_offset : (![0, 0] : Fin 2 → Nat) = fun _ => 0 := funext fun a => by fin_cases a <;> rfl

section pays
variable (x : FVec Ideal S1024x1024 .f32) (y : Vec Ideal S1024x128 .f32) (a : Fin 1024)
variable (hx : ∀ k, IsReal (x (ix2 a k))) (hy : ∀ k (j : Fin 128), j.val < 8 → IsReal (y (ix2 k j)))

/-- A token's score for an expert. -/
def score (j : Fin 8) : EReal := ∑ k : Fin 1024, x (ix2 a k) * y (ix2 k ⟨j.val, by omega⟩)

include hx hy in
/-- The scores over the lanes: the first eight, and the negative infinite after them. -/
theorem scores (b : Fin 128) : k0_pay9 x y (ix2 a b) = if h : b.val < 8 then score x y a ⟨b.val, h⟩ else ⊥ := by
  have e : k0_pay9 x y (ix2 a b) = Scalar.select (IntOp.cmpi .slt (BitVec.ofNat 32 b.val) 8#32)
      ((∑ k : Fin 1024, x (ix2 a k) * y (ix2 k b) +
        (∑ k : Fin 1024, x (ix2 a k) * (y (ix2 k b) - y (ix2 k b)) +
          ∑ k : Fin 1024, (x (ix2 a k) - x (ix2 a k)) * y (ix2 k b)) : EReal)) (Ideal.ofBits .f32 0xFF800000#32 : EReal) := by
    pointwise [k0_pay9]
  rw [e]
  have hb := b.isLt
  have hw : (BitVec.ofNat 32 b.val).toInt = b.val := by
    rw [BitVec.toInt_eq_toNat_of_lt (by rw [Pair.lane_word]; omega), Pair.lane_word]
  have hc : IntOp.cmpi .slt (BitVec.ofNat 32 b.val) 8#32 = BitVec.ofBool (decide (b.val < 8)) := by
    show BitVec.ofBool ((BitVec.ofNat 32 b.val).slt 8#32) = _
    rw [BitVec.slt, hw]
    congr 1
    exact decide_eq_decide.mpr (by show (b.val : Int) < 8 ↔ b.val < 8; omega)
  rw [hc]
  by_cases h : b.val < 8
  · rw [dif_pos h]
    have h1 : (∑ k : Fin 1024, x (ix2 a k) * (y (ix2 k b) - y (ix2 k b)) : EReal) = 0 :=
      Finset.sum_eq_zero fun k _ => by rw [(hy k b h).sub_self, mul_zero]
    have h2 : (∑ k : Fin 1024, (x (ix2 a k) - x (ix2 a k)) * y (ix2 k b) : EReal) = 0 :=
      Finset.sum_eq_zero fun k _ => by rw [(hx k).sub_self, zero_mul]
    rw [h1, h2, add_zero, add_zero]
    simp only [h, decide_true]
    rfl
  · rw [dif_neg h]
    simp only [h, decide_false]
    exact bot_word

include hx hy in
/-- The scores are not infinite. -/
theorem score_real (j : Fin 8) : IsReal (score x y a j) :=
  isReal_sum _ _ fun k => (hx k).mul (hy k ⟨j.val, by omega⟩ j.isLt)

include hx hy in
/-- The greatest score. -/
theorem first_value : k0_pay10 x y (ix2 a 0) = score x y a (top (score x y a) 0) := by
  have e : k0_pay10 x y (ix2 a 0) = Finset.fold max (Ideal.ofBits .f32 0xFF800000#32) (fun l : Fin 128 => k0_pay9 x y (ix2 a l)) Finset.univ := by
    unfold k0_pay10
    generalize k0_pay9 x y = w
    pointwise
  rw [e, bot_word]
  exact (Pair.round_one (score x y a) (fun j => (score_real x y a hx hy j).bot_lt) _ (before_iff _) _ (scores x y a hx hy)).1

include hx hy in
/-- The expert that has it. -/
theorem first_index : k0_pay11 x y (ix2 a 0) = BitVec.ofNat 32 (top (score x y a) 0).val := by
  have e : k0_pay11 x y (ix2 a 0) = Finset.fold IntOp.minsi 2147483647#32
      (fun l : Fin 128 => if k0_pay9 x y (ix2 a l) = k0_pay10 x y (ix2 a 0) then BitVec.ofNat 32 l.val else 128#32) Finset.univ := by
    unfold k0_pay11
    generalize k0_pay9 x y = w
    generalize k0_pay10 x y = w'
    pointwise
  rw [e, first_value x y a hx hy]
  exact (Pair.round_one (score x y a) (fun j => (score_real x y a hx hy j).bot_lt) _ (before_iff _) _ (scores x y a hx hy)).2

include hx hy in
/-- The lanes with that expert struck out. -/
theorem struck (b : Fin 128) : k0_pay12 x y (ix2 a b)
    = if BitVec.ofNat 32 b.val = BitVec.ofNat 32 (top (score x y a) 0).val then ⊥ else k0_pay9 x y (ix2 a b) := by
  have e : k0_pay12 x y (ix2 a b) = Scalar.select (IntOp.cmpi .eq (BitVec.ofNat 32 b.val) (k0_pay11 x y (ix2 a 0)))
      (Ideal.ofBits .f32 0xFF800000#32 : EReal) (k0_pay9 x y (ix2 a b)) := by
    unfold k0_pay12
    generalize k0_pay9 x y = w
    generalize k0_pay11 x y = w'
    pointwise
  rw [e, first_index x y a hx hy, bot_word, select_eq]

include hx hy in
/-- The next score. -/
theorem second_value : k0_pay13 x y (ix2 a 0) = score x y a (top (score x y a) 1) := by
  have e : k0_pay13 x y (ix2 a 0) = Finset.fold max (Ideal.ofBits .f32 0xFF800000#32) (fun l : Fin 128 => k0_pay12 x y (ix2 a l)) Finset.univ := by
    unfold k0_pay13
    generalize k0_pay12 x y = w
    pointwise
  rw [e, bot_word]
  exact (Pair.round_two (score x y a) (fun j => (score_real x y a hx hy j).bot_lt) _ (before_iff _) _ _ (scores x y a hx hy) (struck x y a hx hy)).1

include hx hy in
/-- A token's row of information. -/
theorem info (b : Fin 128) :
    k0_pay1 (iota .tc S1024x128 32 [1] iota_S1024x128_d1_w32) (k0_pay10 x y) (k0_pay11 x y) (k0_pay12 x y) (k0_pay13 x y) (k0_pay14 x y) (ix2 a b)
      = infoRow (score x y a) b.val := by
  have e14 (l : Fin 128) : k0_pay14 x y (ix2 a l) = k0_pay13 x y (ix2 a 0) := by
    unfold k0_pay14
    generalize k0_pay13 x y = w
    pointwise
  have ei (l : Fin 128) : (iota .tc S1024x128 32 [1] iota_S1024x128_d1_w32 : IVec S1024x128 32) (ix2 a l) = BitVec.ofNat 32 l.val := by
    pointwise
  have e (p : IVec S1024x128 32) (u : FVec Ideal S1024x1 .f32) (w : IVec S1024x1 32) (y : FVec Ideal S1024x128 .f32) (z : FVec Ideal S1024x1 .f32) (zz : FVec Ideal S1024x128 .f32) :
      k0_pay1 p u w y z zz (ix2 a b) = Scalar.select (IntOp.cmpi .eq (p (ix2 a b)) 0#32) (FloatOps.sitofp (F := Ideal) .f32 (w (ix2 a 0)) : EReal)
      (Scalar.select (IntOp.cmpi .eq (p (ix2 a b)) 1#32)
        (FloatOps.sitofp (F := Ideal) .f32
          (Finset.fold IntOp.minsi (2147483647#32) (fun l : Fin 128 => if y (ix2 a l) = zz (ix2 a l) then p (ix2 a l) else 128#32)
            Finset.univ) : EReal)
        (Scalar.select (IntOp.cmpi .eq (p (ix2 a b)) 2#32)
          (Ideal.div 1 (1 + Ideal.exp (z (ix2 a 0) - u (ix2 a 0))))
          (Scalar.select (IntOp.cmpi .eq (p (ix2 a b)) 3#32)
            (Ideal.exp (z (ix2 a 0) - u (ix2 a 0)) * Ideal.div 1 (1 + Ideal.exp (z (ix2 a 0) - u (ix2 a 0)))) (0 : EReal)))) := by
    pointwise [k0_pay1]
  rw [e]
  simp only [ei, e14]
  rw [first_value x y a hx hy, first_index x y a hx hy, second_value x y a hx hy]
  have h2 := (Pair.round_two (score x y a) (fun j => (score_real x y a hx hy j).bot_lt) _ (before_iff _) _ _ (scores x y a hx hy) (struck x y a hx hy)).2
  rw [show (fun l : Fin 128 => if k0_pay12 x y (ix2 a l) = score x y a (top (score x y a) 1) then BitVec.ofNat 32 l.val else 128#32)
    = (fun l : Fin 128 => if k0_pay12 x y (ix2 a l) = score x y a (sortedFrom (before (score x y a)) 1) then BitVec.ofNat 32 l.val else 128#32) from rfl, h2]
  have hsel (n : Nat) (hn : n < 128) (u v : EReal) : Scalar.select (IntOp.cmpi .eq (BitVec.ofNat 32 b.val) (BitVec.ofNat 32 n)) u v = if b.val = n then u else v := by
    rw [select_eq]
    have hb := b.isLt
    by_cases h : b.val = n
    · simp [h]
    · have h' : BitVec.ofNat 32 b.val ≠ BitVec.ofNat 32 n := fun e => h (by
        have := congrArg BitVec.toNat e
        simp only [BitVec.toNat_ofNat] at this
        omega)
      rw [if_neg h, if_neg h']
  rw [hsel 0 (by omega), hsel 1 (by omega), hsel 2 (by omega), hsel 3 (by omega)]
  rfl

end pays

section body
variable (x0 : Vec Ideal S1024x1024 .f32) (x1 : Vec Ideal S1024x1024 .bf16) (x2 : Vec Ideal S1024x1024 .bf16) (x3 : Vec Ideal S1x1024 .f32) (x4 : Vec Ideal S1024x128 .f32)

/-- A token's stream after the projection is added. -/
def addRow (a k : Fin 1024) : EReal := x0 (ix2 a k) + ∑ l : Fin 1024, x1 (ix2 a l) * x2 (ix2 l k)

/-- That stream's normalised row. -/
theorem norm_eq (a k : Fin 1024) : k0_pay3 x0 x1 x2 x3 (ix2 a k) = normRow (addRow x0 x1 x2 a) (fun k => x3 (ix2 0 k)) k := by
  unfold normRow addRow
  pointwise [k0_pay3, k0_pay2]

/-- What the body leaves in window 5's block. -/
theorem body5 (a b : Fin 1024) : out0_5 x0 x1 x2 x3 x4 (ix2 a b) = addRow x0 x1 x2 a b := by
  unfold out0_5
  rw [View.canon_unit_zero zero_offset]
  unfold addRow
  pointwise [k0_pay2]

/-- The rows whose last quarter is stored. -/
theorem quarter_eq : k0_pay15 x0 x1 x2 x3 x4 = k0_pay3 x0 x1 x2 x3 := by
  unfold k0_pay15
  rw [View.ld_unit_zero zero_offset, View.ld_unit_zero zero_offset, View.ld_unit_zero zero_offset, View.ld_unit_zero zero_offset]

/-- The stored quarter 0. -/
theorem quarter0 (a : Fin 1024) (b : Fin 256) : k0_pay4 x0 x1 x2 x3 (ix3 0 a b) = k0_pay3 x0 x1 x2 x3 (ix2 a ⟨256 * ((0 : Fin 4)).val + b.val, by omega⟩) := by
  unfold k0_pay4
  generalize k0_pay3 x0 x1 x2 x3 = z
  pointwise

/-- The stored quarter 1. -/
theorem quarter1 (a : Fin 1024) (b : Fin 256) : k0_pay5 x0 x1 x2 x3 (ix3 0 a b) = k0_pay3 x0 x1 x2 x3 (ix2 a ⟨256 * ((1 : Fin 4)).val + b.val, by omega⟩) := by
  unfold k0_pay5
  generalize k0_pay3 x0 x1 x2 x3 = z
  pointwise

/-- The stored quarter 2. -/
theorem quarter2 (a : Fin 1024) (b : Fin 256) : k0_pay7 (k0_pay6 x0 x1 x2 x3) (ix3 0 a b) = k0_pay3 x0 x1 x2 x3 (ix2 a ⟨256 * ((2 : Fin 4)).val + b.val, by omega⟩) := by
  unfold k0_pay7 k0_pay6
  generalize k0_pay3 x0 x1 x2 x3 = z
  pointwise

/-- The stored quarter 3. -/
theorem quarter3 (a : Fin 1024) (b : Fin 256) : k0_pay8 (k0_pay3 x0 x1 x2 x3) (ix3 0 a b) = k0_pay3 x0 x1 x2 x3 (ix2 a ⟨256 * ((3 : Fin 4)).val + b.val, by omega⟩) := by
  unfold k0_pay8
  generalize k0_pay3 x0 x1 x2 x3 = z
  pointwise

/-- What the body leaves in window 6's block: a quarter of the normalised row. -/
theorem body6 (q : Fin 4) (a : Fin 1024) (b : Fin 256) : out0_6 x0 x1 x2 x3 x4 (ix3 q a b)
    = normRow (addRow x0 x1 x2 a) (fun k => x3 (ix2 0 k)) ⟨256 * q.val + b.val, by omega⟩ := by
  rw [← norm_eq]
  unfold out0_6
  rw [quarter_eq, View.ld_unit_zero zero_offset, View.ld_unit_zero zero_offset, View.ld_unit_zero zero_offset, View.ld_unit_zero zero_offset]
  refine View.canon_eq_of_allAt _ _ _ (View.cover_of_tiled_head _ _ _ rfl _)
    (View.allAt_cons_unit _ _ _ _ _ ?_ (View.allAt_cons_unit _ _ _ _ _ ?_ (View.allAt_cons_unit _ _ _ _ _ ?_
      (View.allAt_cons_unit _ _ _ _ _ ?_ (View.allAt_nil _ _)))))
  · intro x hx
    have e0 : q.val = 3 + (x (0 : Fin 3)).val := hx 0
    have e1 : a.val = 0 + (x (1 : Fin 3)).val := hx 1
    have e2 : b.val = 0 + (x (2 : Fin 3)).val := hx 2
    have l0 : (x (0 : Fin 3)).val < 1 := (x (0 : Fin 3)).isLt
    have hq : q = 3 := Fin.ext (by show q.val = 3; omega)
    have hxx : x = (ix3 0 a b : S1x1024x256.Idx) := funext fun (d : Fin 3) => Fin.ext (by
      match d with
      | 0 => show (x (0 : Fin 3)).val = 0; omega
      | 1 => show (x (1 : Fin 3)).val = a.val; omega
      | 2 => show (x (2 : Fin 3)).val = b.val; omega)
    rw [hxx]
    subst hq
    exact quarter3 x0 x1 x2 x3 a b
  · intro x hx
    have e0 : q.val = 2 + (x (0 : Fin 3)).val := hx 0
    have e1 : a.val = 0 + (x (1 : Fin 3)).val := hx 1
    have e2 : b.val = 0 + (x (2 : Fin 3)).val := hx 2
    have l0 : (x (0 : Fin 3)).val < 1 := (x (0 : Fin 3)).isLt
    have hq : q = 2 := Fin.ext (by show q.val = 2; omega)
    have hxx : x = (ix3 0 a b : S1x1024x256.Idx) := funext fun (d : Fin 3) => Fin.ext (by
      match d with
      | 0 => show (x (0 : Fin 3)).val = 0; omega
      | 1 => show (x (1 : Fin 3)).val = a.val; omega
      | 2 => show (x (2 : Fin 3)).val = b.val; omega)
    rw [hxx]
    subst hq
    exact quarter2 x0 x1 x2 x3 a b
  · intro x hx
    have e0 : q.val = 1 + (x (0 : Fin 3)).val := hx 0
    have e1 : a.val = 0 + (x (1 : Fin 3)).val := hx 1
    have e2 : b.val = 0 + (x (2 : Fin 3)).val := hx 2
    have l0 : (x (0 : Fin 3)).val < 1 := (x (0 : Fin 3)).isLt
    have hq : q = 1 := Fin.ext (by show q.val = 1; omega)
    have hxx : x = (ix3 0 a b : S1x1024x256.Idx) := funext fun (d : Fin 3) => Fin.ext (by
      match d with
      | 0 => show (x (0 : Fin 3)).val = 0; omega
      | 1 => show (x (1 : Fin 3)).val = a.val; omega
      | 2 => show (x (2 : Fin 3)).val = b.val; omega)
    rw [hxx]
    subst hq
    exact quarter1 x0 x1 x2 x3 a b
  · intro x hx
    have e0 : q.val = 0 + (x (0 : Fin 3)).val := hx 0
    have e1 : a.val = 0 + (x (1 : Fin 3)).val := hx 1
    have e2 : b.val = 0 + (x (2 : Fin 3)).val := hx 2
    have l0 : (x (0 : Fin 3)).val < 1 := (x (0 : Fin 3)).isLt
    have hq : q = 0 := Fin.ext (by show q.val = 0; omega)
    have hxx : x = (ix3 0 a b : S1x1024x256.Idx) := funext fun (d : Fin 3) => Fin.ext (by
      match d with
      | 0 => show (x (0 : Fin 3)).val = 0; omega
      | 1 => show (x (1 : Fin 3)).val = a.val; omega
      | 2 => show (x (2 : Fin 3)).val = b.val; omega)
    rw [hxx]
    subst hq
    exact quarter0 x0 x1 x2 x3 a b

/-- What the body leaves in window 7's block: the tokens' rows of information. -/
theorem body7 (a : Fin 1024) (b : Fin 128) (h1 : ∀ k, IsReal (normRow (addRow x0 x1 x2 a) (fun k => x3 (ix2 0 k)) k))
    (h2 : ∀ k (j : Fin 128), j.val < 8 → IsReal (x4 (ix2 k j))) :
    out0_7 x0 x1 x2 x3 x4 (ix2 a b)
      = infoRow (fun j => ∑ k : Fin 1024, normRow (addRow x0 x1 x2 a) (fun k => x3 (ix2 0 k)) k * x4 (ix2 k ⟨j.val, by omega⟩)) b.val := by
  unfold out0_7
  rw [View.canon_unit_zero zero_offset]
  rw [quarter_eq, View.ld_unit_zero zero_offset]
  refine (info (k0_pay3 x0 x1 x2 x3) x4 a (fun k => by rw [norm_eq]; exact h1 k) h2 b).trans ?_
  refine congrArg (fun L => infoRow L b.val) (funext fun j => ?_)
  unfold score
  exact Finset.sum_congr rfl fun k _ => Ideal.mul_congr (norm_eq x0 x1 x2 x3 a k) rfl

end body

end Cert.Proof.Router

end
-- ==== Proof.RouterArray.lean ====
module

public import proofs.«01_k».proof.Proof.Router

@[expose] public section

set_option maxRecDepth 16384

noncomputable section

/-! The router's three arrays after the call. -/

namespace Cert.Proof.Router

open Idealize.ShloMosaic Idealize.ShloMosaic.TcCoe Idealize.ShloMosaic.Tactic
open Cert.Kernel7Ideal Cert.Kernel7Ideal.Gen

section whole
variable (a0 : Vec Ideal S16384x1024 .f32) (a1 : Vec Ideal S16384x1024 .bf16) (a2 : Vec Ideal S1024x1024 .f32) (a3 : Vec Ideal S1024 .f32) (a4 : Vec Ideal S1024x8 .f32)

/-- A token's stream after the projection is added. -/
def streamAt (r : Fin 16384) (k : Fin 1024) : EReal := a0 (ix2 r k) + ∑ l : Fin 1024, a1 (ix2 r l) * a2 (ix2 l k)

/-- That stream's normalised row. -/
def normAt (r : Fin 16384) (k : Fin 1024) : EReal := normRow (streamAt a0 a1 a2 r) (fun k => a3 (ix1 k)) k

/-- A token's score for an expert. -/
def scoreAt (r : Fin 16384) (j : Fin 8) : EReal := ∑ k : Fin 1024, normAt a0 a1 a2 a3 r k * a4 (ix2 k j)

/-- The stream, as the array. -/
def h1At : S16384x1024.Idx → EReal := fun i => streamAt a0 a1 a2 (i 0) (i 1)

/-- The normalised rows by quarters, as the array. -/
def xnAt : S4x16384x256.Idx → EReal := fun i => normAt a0 a1 a2 a3 (i 1) ⟨256 * (i (0 : Fin 3)).val + (i (2 : Fin 3)).val, by
  have h0 : (i (0 : Fin 3)).val < 4 := (i (0 : Fin 3)).isLt
  have h2 : (i (2 : Fin 3)).val < 256 := (i (2 : Fin 3)).isLt
  omega⟩

/-- The tokens' rows of information, as the array. -/
def infoAt : S16384x128.Idx → EReal := fun i => infoRow (scoreAt a0 a1 a2 a3 a4 (i 0)) (i (1 : Fin 2)).val

/-- None of the arguments is infinite anywhere. -/
structure AllReal : Prop where
  h0 : ∀ i, IsReal (a0 i)
  h1 : ∀ i, IsReal (a1 i)
  h2 : ∀ i, IsReal (a2 i)
  h3 : ∀ i, IsReal (a3 i)
  h4 : ∀ i, IsReal (a4 i)

/-- Then neither are the normalised rows. -/
theorem AllReal.norm (h : AllReal a0 a1 a2 a3 a4) (r : Fin 16384) (k : Fin 1024) : IsReal (normAt a0 a1 a2 a3 r k) :=
  isReal_normRow _ _ (fun k => (h.h0 _).add (isReal_sum _ _ fun l => (h.h1 _).mul (h.h2 _))) (fun k => h.h3 _) k

/-- Nor the scores. -/
theorem AllReal.score (h : AllReal a0 a1 a2 a3 a4) (r : Fin 16384) (j : Fin 8) : IsReal (scoreAt a0 a1 a2 a3 a4 r j) :=
  isReal_sum _ _ fun k => (h.norm a0 a1 a2 a3 a4 r k).mul (h.h4 _)

end whole

/-- The tile of a point. -/
theorem coords_lt (i : grid0.Coords) : (i 0).val < 16 := (i 0).isLt.trans_eq (by sl_kernel_rfl)

/-- The row's number in the whole array. -/
def rowOf (i : grid0.Coords) (a : Fin 1024) : Fin 16384 := ⟨1024 * (i 0).val + a.val, by have := coords_lt i; omega⟩

variable (m : (ℓ : Loc nD τ sig) → Buf (Elt Ideal) ℓ)

/-- The word of a point's number. -/
theorem point_word (i : grid0.Coords) : (BitVec.ofNat 32 (i 0).val).toNat = (i 0).val := by
  have := coords_lt i
  rw [BitVec.toNat_ofNat]; omega

/-- The block of the stream at a point. -/
theorem block0 (c : Dev nD) (t : Fin cfg0.N) (a b : Fin 1024) :
    iblk m c 0 t (ix2 a b) = m ((c.tc : Thread nD τ).loc main_arg0) (ix2 (rowOf (grid0.coords t) a) b) := by
  unfold iblk
  have e := point_word (grid0.coords t)
  refine (congrFun (V_main_arg0 m c) _).trans (congrArg (m ((c.tc : Thread nD τ).loc main_arg0)) (funext fun (d : Fin 2) => Fin.ext ?_))
  match d with
  | 0 => show (BitVec.ofNat 32 (grid0.coords t 0).val).toNat * 1024 + 1 * a.val = 1024 * (grid0.coords t 0).val + a.val; omega
  | 1 => show 0 * 1024 + 1 * b.val = b.val; omega

/-- The block of the projection's inputs at a point. -/
theorem block1 (c : Dev nD) (t : Fin cfg0.N) (a b : Fin 1024) :
    iblk m c 1 t (ix2 a b) = m ((c.tc : Thread nD τ).loc main_arg1) (ix2 (rowOf (grid0.coords t) a) b) := by
  unfold iblk
  have e := point_word (grid0.coords t)
  refine (congrFun (V_main_arg1 m c) _).trans (congrArg (m ((c.tc : Thread nD τ).loc main_arg1)) (funext fun (d : Fin 2) => Fin.ext ?_))
  match d with
  | 0 => show (BitVec.ofNat 32 (grid0.coords t 0).val).toNat * 1024 + 1 * a.val = 1024 * (grid0.coords t 0).val + a.val; omega
  | 1 => show 0 * 1024 + 1 * b.val = b.val; omega

/-- The projection's weights as the region finds them: the argument, cast. -/
theorem weights_eq (c : Dev nD) : (V m c main_v0 : Vec Ideal S1024x1024 .bf16) = (truncf .bf16 (m ((c.tc : Thread nD τ).loc main_arg2) : FVec Ideal S1024x1024 .f32) bitsLt_bf16_f32 : FVec Ideal S1024x1024 .bf16) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results

/-- Their block, the same at every point. -/
theorem block2 (c : Dev nD) (t : Fin cfg0.N) (a b : Fin 1024) :
    iblk m c 2 t (ix2 a b) = m ((c.tc : Thread nD τ).loc main_arg2) (ix2 a b) := by
  have hg : (V m c main_v0 : Vec Ideal S1024x1024 .bf16) (ix2 a b) = m ((c.tc : Thread nD τ).loc main_arg2) (ix2 a b) := by
    rw [weights_eq]; rfl
  refine Eq.trans ?_ hg
  unfold iblk
  refine congrArg (V m c main_v0 : Vec Ideal S1024x1024 .bf16) (funext fun (d : Fin 2) => Fin.ext ?_)
  match d with
  | 0 => show 0 * 1024 + 1 * a.val = a.val; omega
  | 1 => show 0 * 1024 + 1 * b.val = b.val; omega

/-- The gain as the region finds it: the argument, as one row. -/
theorem gain_eq (c : Dev nD) : (V m c main_v1 : Vec Ideal S1x1024 .f32) = shapeCast S1x1024 (s := S1024) (m ((c.tc : Thread nD τ).loc main_arg3)) (by decide) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp
  rfl

/-- The block of the gain, the same at every point. -/
theorem block3 (c : Dev nD) (t : Fin cfg0.N) (b : Fin 1024) :
    iblk m c 3 t (ix2 0 b) = m ((c.tc : Thread nD τ).loc main_arg3) (ix1 b) := by
  have hg : (V m c main_v1 : Vec Ideal S1x1024 .f32) (ix2 0 b) = m ((c.tc : Thread nD τ).loc main_arg3) (ix1 b) := by
    rw [gain_eq]; pointwise
  refine Eq.trans ?_ hg
  unfold iblk
  refine congrArg (V m c main_v1 : Vec Ideal S1x1024 .f32) (funext fun (d : Fin 2) => Fin.ext ?_)
  match d with
  | 0 => rfl
  | 1 => show 0 * 1024 + 1 * b.val = b.val; omega

/-- The experts' columns as the region finds them: the argument with columns of zeros after it. -/
theorem columns_eq (c : Dev nD) : (V m c main_v2 : Vec Ideal S1024x128 .f32)
    = pad S1024x128 ![0, 0] ![0, 120] ![0, 0] (m ((c.tc : Thread nD τ).loc main_arg4) : FVec Ideal S1024x8 .f32) (sitofp (F := Ideal) .f32 (constantI S_ 32 0#32)) pads_S1024x8_S1024x128_000_01200 h_S_ := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results

/-- Their block at an expert's column, the same at every point. -/
theorem block4 (c : Dev nD) (t : Fin cfg0.N) (k : Fin 1024) (j : Fin 128) (hj : j.val < 8) :
    iblk m c 4 t (ix2 k j) = m ((c.tc : Thread nD τ).loc main_arg4) (ix2 k ⟨j.val, hj⟩) := by
  have hg : (V m c main_v2 : Vec Ideal S1024x128 .f32) (ix2 k j) = m ((c.tc : Thread nD τ).loc main_arg4) (ix2 k ⟨j.val, hj⟩) := by
    rw [columns_eq]
    clean_types
    pointwise
    rw [dif_pos hj]
  refine Eq.trans ?_ hg
  unfold iblk
  refine congrArg (V m c main_v2 : Vec Ideal S1024x128 .f32) (funext fun (d : Fin 2) => Fin.ext ?_)
  match d with
  | 0 => show 0 * 1024 + 1 * k.val = k.val; omega
  | 1 => show 0 * 128 + 1 * j.val = j.val; omega

/-- The stream's row at a point is the row in the whole arrays. -/
theorem addRow_eq (c : Dev nD) (t : Fin cfg0.N) (a : Fin 1024) :
    addRow (iblk m c 0 t) (iblk m c 1 t) (iblk m c 2 t) a = streamAt (m ((c.tc : Thread nD τ).loc main_arg0)) (m ((c.tc : Thread nD τ).loc main_arg1)) (m ((c.tc : Thread nD τ).loc main_arg2)) (rowOf (grid0.coords t) a) := by
  funext k
  unfold addRow streamAt
  exact Ideal.add_congr (block0 m c t a k) (Finset.sum_congr rfl fun l _ => Ideal.mul_congr (block1 m c t a l) (block2 m c t l k))

/-- So is the normalised row. -/
theorem normed_eq (c : Dev nD) (t : Fin cfg0.N) (a k : Fin 1024) :
    normRow (addRow (iblk m c 0 t) (iblk m c 1 t) (iblk m c 2 t) a) (fun k => iblk m c 3 t (ix2 0 k)) k = normAt (m ((c.tc : Thread nD τ).loc main_arg0)) (m ((c.tc : Thread nD τ).loc main_arg1)) (m ((c.tc : Thread nD τ).loc main_arg2)) (m ((c.tc : Thread nD τ).loc main_arg3)) (rowOf (grid0.coords t) a) k := by
  unfold normAt
  exact congrArg₂ (fun z g => normRow z g k) (addRow_eq m c t a) (funext fun k => block3 m c t k)

/-- The array of window 5. -/
theorem final5 (c : Dev nD) : (dats m 0 c).arrAt 5 cfg0.N
    = h1At (m ((c.tc : Thread nD τ).loc main_arg0)) (m ((c.tc : Thread nD τ).loc main_arg1)) (m ((c.tc : Thread nD τ).loc main_arg2)) := by
  refine (dats m 0 c).arrAt_eq_of_covers 5 _ ?_ fun t hf y => ?_
  · refine (cfg0.win 5).covers_of_indexMap_surj rfl (fun a => (show ∀ a : Fin 2, 0 < S1024x1024.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_5]
    have key (y : S1024x1024.Idx) (r : Fin 16384) (k : Fin 1024) (h0 : r.val = 1024 * (grid0.coords t 0).val + (y 0).val) (h1 : k.val = (y 1).val) :
        out0_5 (iblk m c 0 t) (iblk m c 1 t) (iblk m c 2 t) (iblk m c 3 t) (iblk m c 4 t) y = streamAt (m ((c.tc : Thread nD τ).loc main_arg0)) (m ((c.tc : Thread nD τ).loc main_arg1)) (m ((c.tc : Thread nD τ).loc main_arg2)) r k := by
      have hr : r = rowOf (grid0.coords t) (y 0) := Fin.ext h0
      have hk : k = y 1 := Fin.ext h1
      rw [eq_ix2 y, hr, hk]
      exact (body5 _ _ _ _ _ (y 0) (y 1)).trans (congrFun (addRow_eq m c t (y 0)) (y 1))
    refine key y _ _ ?_ ?_
    · show (BitVec.ofNat 32 (grid0.coords t 0).val).toNat * 1024 + 1 * (y (0 : Fin 2)).val = 1024 * (grid0.coords t 0).val + (y (0 : Fin 2)).val
      rw [point_word]; omega
    · show 0 * 1024 + 1 * (y (1 : Fin 2)).val = (y (1 : Fin 2)).val; omega

/-- The array of window 6. -/
theorem final6 (c : Dev nD) : (dats m 0 c).arrAt 6 cfg0.N
    = xnAt (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ ?_ fun t hf y => ?_
  · refine (cfg0.win 6).covers_of_indexMap_surj rfl (fun a => (show ∀ a : Fin 3, 0 < S4x1024x256.size a from by decide) a) fun β => ?_
    have b0 : (β (0 : Fin 3)).val < 1 := (β (0 : Fin 3)).isLt.trans_eq (by sl_kernel_rfl)
    have b1 : (β (1 : Fin 3)).val < 16 := (β (1 : Fin 3)).isLt.trans_eq (by sl_kernel_rfl)
    have b2 : (β (2 : Fin 3)).val < 1 := (β (2 : Fin 3)).isLt.trans_eq (by sl_kernel_rfl)
    refine ⟨fun (a : Fin 1) => match a with | 0 => ⟨(β (1 : Fin 3)).val, b1⟩, fun (a : Fin 3) => ?_⟩
    match a with
    | 0 => show 0 = (β (0 : Fin 3)).val; omega
    | 1 => show (BitVec.ofNat 32 (β (1 : Fin 3)).val).toNat = (β (1 : Fin 3)).val; rw [BitVec.toNat_ofNat]; omega
    | 2 => show 0 = (β (2 : Fin 3)).val; omega
  · blk_simp
    rw [after0_6]
    have key (y : S4x1024x256.Idx) (r : Fin 16384) (k : Fin 1024) (h0 : r.val = 1024 * (grid0.coords t 0).val + (y 1).val) (h1 : k.val = 256 * (y 0).val + (y 2).val) :
        out0_6 (iblk m c 0 t) (iblk m c 1 t) (iblk m c 2 t) (iblk m c 3 t) (iblk m c 4 t) y = normAt (m ((c.tc : Thread nD τ).loc main_arg0)) (m ((c.tc : Thread nD τ).loc main_arg1)) (m ((c.tc : Thread nD τ).loc main_arg2)) (m ((c.tc : Thread nD τ).loc main_arg3)) r k := by
      have hr : r = rowOf (grid0.coords t) (y 1) := Fin.ext h0
      have hk : k = ⟨256 * (y 0).val + (y 2).val, by omega⟩ := Fin.ext h1
      rw [eq_ix3 y, hr, hk]
      exact (body6 _ _ _ _ _ (y 0) (y 1) (y 2)).trans (normed_eq m c t (y 1) _)
    refine key y _ _ ?_ ?_
    · show (BitVec.ofNat 32 (grid0.coords t 0).val).toNat * 1024 + 1 * (y (1 : Fin 3)).val = 1024 * (grid0.coords t 0).val + (y (1 : Fin 3)).val
      rw [point_word]; omega
    · show 256 * (0 * 4 + 1 * (y (0 : Fin 3)).val) + (0 * 256 + 1 * (y (2 : Fin 3)).val) = 256 * (y (0 : Fin 3)).val + (y (2 : Fin 3)).val; omega

/-- The array of window 7, where no argument is infinite. -/
theorem final7 (c : Dev nD)
    (h : AllReal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) : (dats m 0 c).arrAt 7 cfg0.N
    = infoAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ ?_ fun t hf y => ?_
  · refine (cfg0.win 7).covers_of_indexMap_surj rfl (fun a => (show ∀ a : Fin 2, 0 < S1024x128.size a from by decide) a) fun β => ?_
    have b0 : (β (0 : Fin 2)).val < 16 := (β (0 : Fin 2)).isLt.trans_eq (by sl_kernel_rfl)
    have b1 : (β (1 : Fin 2)).val < 1 := (β (1 : Fin 2)).isLt.trans_eq (by sl_kernel_rfl)
    refine ⟨fun (a : Fin 1) => match a with | 0 => ⟨(β (0 : Fin 2)).val, b0⟩, fun (a : Fin 2) => ?_⟩
    match a with
    | 0 => show (BitVec.ofNat 32 (β (0 : Fin 2)).val).toNat = (β (0 : Fin 2)).val; rw [BitVec.toNat_ofNat]; omega
    | 1 => show 0 = (β (1 : Fin 2)).val; omega
  · blk_simp
    rw [after0_7]
    have key (y : S1024x128.Idx) (r : Fin 16384) (b : Nat) (h0 : r.val = 1024 * (grid0.coords t 0).val + (y 0).val) (h1 : b = (y 1).val) :
        out0_7 (iblk m c 0 t) (iblk m c 1 t) (iblk m c 2 t) (iblk m c 3 t) (iblk m c 4 t) y = infoRow (scoreAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r) b := by
      have hr : r = rowOf (grid0.coords t) (y 0) := Fin.ext h0
      rw [eq_ix2 y, hr, h1]
      refine (body7 _ _ _ _ _ (y 0) (y 1) (fun k => ?_) (fun k j hj => ?_)).trans (congrArg (fun L => infoRow L (y 1).val) (funext fun j => ?_))
      · exact (congrArg IsReal (normed_eq m c t (y 0) k)).mpr (h.norm _ _ _ _ _ _ _)
      · exact (congrArg IsReal (block4 m c t k j hj)).mpr (h.h4 _)
      · unfold scoreAt
        exact Finset.sum_congr rfl fun k _ => Ideal.mul_congr (normed_eq m c t (y 0) k) (block4 m c t k ⟨j.val, by omega⟩ j.isLt)
    refine key y _ _ ?_ ?_
    · show (BitVec.ofNat 32 (grid0.coords t 0).val).toNat * 1024 + 1 * (y (0 : Fin 2)).val = 1024 * (grid0.coords t 0).val + (y (0 : Fin 2)).val
      rw [point_word]; omega
    · show 0 * 128 + 1 * (y (1 : Fin 2)).val = (y (1 : Fin 2)).val; omega

end Cert.Proof.Router

end
-- ==== Proof.RouterRef.lean ====
module

public import proofs.«01_k».proof.Proof.RouterArray
public import proofs.«01_k».proof.Proof.Gen.Reference7Ideal.Run
public import Idealize.ShloMosaic.Lib.KernelVsHost

@[expose] public section

set_option maxRecDepth 16384

noncomputable section

/-! The router's reference at an index, and that its three results are the kernel's. -/

namespace Cert.Proof.Router

open Idealize.ShloMosaic Idealize.ShloMosaic.TcCoe Idealize.ShloMosaic.Tactic
open Cert.Reference7Ideal Cert.Reference7Ideal.Gen
open Idealize.SL.Sem

section ref
variable (a0 : FVec Ideal S16384x1024 .f32) (a1 : FVec Ideal S16384x1024 .bf16) (a2 : FVec Ideal S1024x1024 .f32) (a3 : FVec Ideal S1024 .f32) (a4 : FVec Ideal S1024x8 .f32)

/-- The reference's stream. -/
abbrev refStream : FVec Ideal S16384x1024 .f32 :=
  addf a0 (Host.dotGeneral dot_S16384x1024_S1024x1024_S16384x1024_1_0_0_1_n_n none a1 a2)

/-- The reference's normalised rows, of a stream. -/
abbrev refNorm (z : FVec Ideal S16384x1024 .f32) : FVec Ideal S16384x1024 .f32 :=
  mulf (mulf z (broadcastInDim S16384x1024 ![0, 1] bcast_S16384x1_S16384x1024_0_1 (Host.rsqrt (addf (Host.divf (broadcastInDim S16384x1 ![0] bcast_S16384_S16384x1_0 (Host.reduceAdd (mulf z z) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a3))

/-- The reference's scores. -/
abbrev refScore : FVec Ideal S16384x8 .f32 :=
  Host.dotGeneral dot_S16384x1024_S1024x8_S16384x8_1_0_0_1_n_n none (refNorm a3 (refStream a0 a1 a2)) a4

/-- The two greatest of every row of scores, and where they are. -/
abbrev refTop (x : FVec Ideal S16384x8 .f32) : FVec Ideal S16384x2 .f32 × IVec S16384x2 32 :=
  Host.topK S16384x2 1 (FloatOps.cmpfTotal .gt) x sliceFits_S16384x8_S16384x2

/-- The exponentials of two numbers less the greater. -/
abbrev refExp (v : FVec Ideal S16384x2 .f32) : FVec Ideal S16384x2 .f32 :=
  Host.exp (subf v (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x2_S16384_d1 h_S_)))))

/-- Their weights. -/
abbrev refSoft (v : FVec Ideal S16384x2 .f32) : FVec Ideal S16384x2 .f32 :=
  Host.divf (refExp v) (broadcastInDim S16384x2 ![0, 1] bcast_S16384x1_S16384x2_0_1 (broadcastInDim S16384x1 ![0] bcast_S16384_S16384x1_0 (Host.reduceAdd (refExp v) (constant S_ .f32 0x00000000#32) reducesTo_S16384x2_S16384_d1 h_S_)))

/-- The rows of information from the two positions and the two weights. -/
abbrev refInfo (p : IVec S16384x2 32) (v : FVec Ideal S16384x2 .f32) : FVec Ideal S16384x128 .f32 :=
  pad S16384x128 ![0, 0] ![0, 124] ![0, 0] (concatenate S16384x4 1 [⟨S16384x2, (sitofp .f32 p)⟩, ⟨S16384x2, v⟩] concatenates_S16384x2_S16384x2_S16384x4_d1) (sitofp .f32 (constantI S_ 32 0#32)) pads_S16384x4_S16384x128_000_01240 h_S_

/-- The stream, at an index. -/
theorem refStream_apply (r : Fin 16384) (o : Fin 1024) : refStream a0 a1 a2 (ix2 r o) = streamAt a0 a1 a2 r o := by
  unfold refStream streamAt
  clean_types
  pointwise

/-- The normalised rows, at an index. -/
theorem refNorm_apply (z : FVec Ideal S16384x1024 .f32) (r : Fin 16384) (o : Fin 1024) :
    refNorm a3 z (ix2 r o) = normRow (fun k => z (ix2 r k)) (fun k => a3 (ix1 k)) o := by
  unfold refNorm normRow
  clean_types
  pointwise

/-- These of the stream. -/
theorem refNormed_apply (r : Fin 16384) (o : Fin 1024) : refNorm a3 (refStream a0 a1 a2) (ix2 r o) = normAt a0 a1 a2 a3 r o := by
  rw [refNorm_apply]
  unfold normAt
  exact congrArg (fun z => normRow z (fun k => a3 (ix1 k)) o) (funext fun k => refStream_apply a0 a1 a2 r k)

/-- The scores, at an index. -/
theorem refScore_apply (r : Fin 16384) (j : Fin 8) : refScore a0 a1 a2 a3 a4 (ix2 r j) = scoreAt a0 a1 a2 a3 a4 r j := by
  have h : refScore a0 a1 a2 a3 a4 (ix2 r j) = (∑ k : Fin 1024, refNorm a3 (refStream a0 a1 a2) (ix2 r k) * a4 (ix2 k j) : EReal) := by
    unfold refScore
    generalize refNorm a3 (refStream a0 a1 a2) = z
    pointwise
  rw [h]
  unfold scoreAt
  exact Finset.sum_congr rfl fun k _ => Ideal.mul_congr (refNormed_apply a0 a1 a2 a3 r k) rfl

/-- A position of a row of scores. -/
theorem along_eq (r : Fin 16384) (q k : Fin 8) : (ix2 r q : S16384x8.Idx).along 1 k = ix2 r k := by
  funext d
  match d with
  | 0 => rfl
  | 1 => rfl

/-- The place a number of a row is sorted to. -/
theorem placed (x : FVec Ideal S16384x8 .f32) (r : Fin 16384) (q : Fin 8) :
    sortedFrom (fun k k' : Fin 8 => FloatOps.cmpfTotal (F := Ideal) (φ := .f32) .gt (x ((ix2 r q : S16384x8.Idx).along 1 k)) (x ((ix2 r q : S16384x8.Idx).along 1 k')) == 1#1) q
      = top (fun j => x (ix2 r j)) q := by
  unfold top
  refine congrArg (fun f => sortedFrom f q) (funext fun k => funext fun k' => ?_)
  rw [along_eq, along_eq]
  rfl

/-- The two greatest, at an index. -/
theorem refTop_value (x : FVec Ideal S16384x8 .f32) (r : Fin 16384) (b : Fin 2) :
    (refTop x).1 (ix2 r b) = x (ix2 r (top (fun j => x (ix2 r j)) ⟨b.val, by omega⟩)) := by
  unfold refTop Host.topK
  pointwise
  unfold Host.sort2
  rw [dif_pos (by decide)]
  exact (congrArg x (congrArg ((ix2 r (⟨b.val, by omega⟩ : Fin 8) : S16384x8.Idx).along 1) (placed x r ⟨b.val, by omega⟩))).trans
    (congrArg x (along_eq r _ _))

/-- Where they are, at an index. -/
theorem refTop_place (x : FVec Ideal S16384x8 .f32) (r : Fin 16384) (b : Fin 2) :
    (refTop x).2 (ix2 r b) = BitVec.ofNat 32 (top (fun j => x (ix2 r j)) ⟨b.val, by omega⟩).val := by
  unfold refTop Host.topK
  pointwise
  unfold Host.sort2
  rw [dif_pos (by decide)]
  show BitVec.ofNat 32 (((ix2 r (⟨b.val, by omega⟩ : Fin 8) : S16384x8.Idx).along 1 _) (1 : Fin 2)).val = _
  exact congrArg (fun k : Fin 8 => BitVec.ofNat 32 k.val) (placed x r ⟨b.val, by omega⟩)

/-- The exponentials, at an index. -/
theorem refExp_apply (v : FVec Ideal S16384x2 .f32) (r : Fin 16384) (h : v (ix2 r 1) ≤ v (ix2 r 0)) (b : Fin 2) :
    refExp v (ix2 r b) = Ideal.exp (v (ix2 r b) - v (ix2 r 0)) := by
  have e : refExp v (ix2 r b) = Ideal.exp (v (ix2 r b) -
      max (Ideal.ofBits .f32 0xFF800000#32) (Finset.fold max (Ideal.ofBits .f32 0xFF800000#32) (fun k : Fin 2 => v (ix2 r k)) Finset.univ) : EReal) := by
    unfold refExp
    clean_types
    pointwise
  rw [e, bot_word]
  refine congrArg (fun u : EReal => Ideal.exp (v (ix2 r b) - u)) ?_
  refine le_antisymm (max_le bot_le (Finset.sup_le (f := fun k : Fin 2 => (v (ix2 r k) : EReal)) fun k _ => ?_)) (le_max_of_le_right ?_)
  · match k with
    | 0 => exact le_refl _
    | 1 => exact h
  · exact Finset.le_sup (f := fun k : Fin 2 => (v (ix2 r k) : EReal)) (Finset.mem_univ 0)

/-- The weights, at an index. -/
theorem refSoft_apply (v : FVec Ideal S16384x2 .f32) (r : Fin 16384) (h : v (ix2 r 1) ≤ v (ix2 r 0)) (b : Fin 2) :
    refSoft v (ix2 r b) = Ideal.div (Ideal.exp (v (ix2 r b) - v (ix2 r 0)))
      (Ideal.exp (v (ix2 r 0) - v (ix2 r 0)) + Ideal.exp (v (ix2 r 1) - v (ix2 r 0))) := by
  have e : refSoft v (ix2 r b) = Ideal.div (refExp v (ix2 r b)) (∑ k : Fin 2, refExp v (ix2 r k) : EReal) := by
    unfold refSoft
    generalize refExp v = w
    clean_types
    pointwise
  rw [e, Fin.sum_univ_two, refExp_apply v r h, refExp_apply v r h, refExp_apply v r h]

/-- The rows of information, at an index. -/
theorem refInfo_apply (p : IVec S16384x2 32) (v : FVec Ideal S16384x2 .f32) (r : Fin 16384) (b : Fin 128) :
    refInfo p v (ix2 r b) = if b.val = 0 then FloatOps.sitofp (F := Ideal) .f32 (p (ix2 r 0)) else if b.val = 1 then FloatOps.sitofp (F := Ideal) .f32 (p (ix2 r 1))
      else if b.val = 2 then v (ix2 r 0) else if b.val = 3 then v (ix2 r 1) else (0 : EReal) := by
  have e : refInfo p v (ix2 r b) = (if h : b.val < 4 then (if h' : b.val < 2 then FloatOps.sitofp (F := Ideal) .f32 (p (ix2 r ⟨b.val, h'⟩)) else v (ix2 r ⟨b.val - 2, by omega⟩))
      else FloatOps.sitofp (F := Ideal) .f32 0#32 : EReal) := by
    unfold refInfo
    clean_types
    pointwise
  rw [e]
  obtain ⟨n, hn⟩ := b
  match n, hn with
  | 0, _ => rfl
  | 1, _ => rfl
  | 2, _ => rfl
  | 3, _ => rfl
  | n + 4, hn =>
    rw [dif_neg (by show ¬ n + 4 < 4; omega), if_neg (by show ¬ n + 4 = 0; omega), if_neg (by show ¬ n + 4 = 1; omega), if_neg (by show ¬ n + 4 = 2; omega), if_neg (by show ¬ n + 4 = 3; omega)]
    show (((0#32 : BitVec 32).toInt : ℝ) : EReal) = 0
    simp

/-- The reference's rows of information are the kernel's, where no argument is infinite. -/
theorem ref_info (h : AllReal a0 a1 a2 a3 a4) (i : S16384x128.Idx) :
    refInfo (refTop (refScore a0 a1 a2 a3 a4)).2 (refSoft (refTop (refScore a0 a1 a2 a3 a4)).1) i = infoAt a0 a1 a2 a3 a4 i := by
  have hs (r : Fin 16384) : (fun j => refScore a0 a1 a2 a3 a4 (ix2 r j)) = scoreAt a0 a1 a2 a3 a4 r := funext fun j => refScore_apply a0 a1 a2 a3 a4 r j
  have hv (r : Fin 16384) (b : Fin 2) : (refTop (refScore a0 a1 a2 a3 a4)).1 (ix2 r b)
      = scoreAt a0 a1 a2 a3 a4 r (top (scoreAt a0 a1 a2 a3 a4 r) ⟨b.val, by omega⟩) := by
    rw [refTop_value, hs r]; exact refScore_apply a0 a1 a2 a3 a4 r _
  have hp (r : Fin 16384) (b : Fin 2) : (refTop (refScore a0 a1 a2 a3 a4)).2 (ix2 r b)
      = BitVec.ofNat 32 (top (scoreAt a0 a1 a2 a3 a4 r) ⟨b.val, by omega⟩).val := by
    rw [refTop_place, hs r]
  rw [eq_ix2 i]
  obtain ⟨r, hr⟩ : ∃ r : Fin 16384, r = i 0 := ⟨_, rfl⟩
  obtain ⟨b, hb⟩ : ∃ b : Fin 128, b = i 1 := ⟨_, rfl⟩
  rw [← hr, ← hb]
  have hle : (refTop (refScore a0 a1 a2 a3 a4)).1 (ix2 r 1) ≤ (refTop (refScore a0 a1 a2 a3 a4)).1 (ix2 r 0) := by
    rw [hv, hv]
    exact Pair.second_le _ _ (before_iff _)
  generalize refTop (refScore a0 a1 a2 a3 a4) = w at hv hp hle
  refine (refInfo_apply _ _ r b).trans ?_
  rw [refSoft_apply _ r hle 0, refSoft_apply _ r hle 1, hp, hp, hv, hv]
  have r0 := h.score a0 a1 a2 a3 a4 r (top (scoreAt a0 a1 a2 a3 a4 r) ⟨(0 : Fin 2).val, by omega⟩)
  have r1 := h.score a0 a1 a2 a3 a4 r (top (scoreAt a0 a1 a2 a3 a4 r) ⟨(1 : Fin 2).val, by omega⟩)
  rw [weight_first r0 r1, weight_second r0 r1]
  rfl

/-- The reference's quarters of the normalised rows are the kernel's. -/
theorem ref_xn (i : S4x16384x256.Idx) :
    (transpose S4x16384x256 [1, 0, 2] (shapeCast S16384x4x256 (truncf .bf16 (refNorm a3 (refStream a0 a1 a2)) bitsLt_bf16_f32) shapeCasts_S16384x1024_S16384x4x256) transposes_S16384x4x256_S4x16384x256_1_0_2 : FVec Ideal S4x16384x256 .bf16) i
      = xnAt a0 a1 a2 a3 i := by
  have hp := refNormed_apply a0 a1 a2 a3 (i 1) ⟨256 * (i (0 : Fin 3)).val + (i (2 : Fin 3)).val, by
    have h0 : (i (0 : Fin 3)).val < 4 := (i (0 : Fin 3)).isLt
    have h2 : (i (2 : Fin 3)).val < 256 := (i (2 : Fin 3)).isLt
    omega⟩
  refine Eq.trans ?_ hp
  generalize refNorm a3 (refStream a0 a1 a2) = z
  rw [eq_ix3 i]
  clean_types
  pointwise
  exact congrArg (fun k => z (ix2 (i 1) k)) (Fin.ext (congrArg (· + _) (Nat.mul_comm _ 256)))

/-- The reference's stream is the kernel's. -/
theorem ref_stream (i : S16384x1024.Idx) : refStream a0 a1 a2 i = h1At a0 a1 a2 i :=
  (congrArg (refStream a0 a1 a2) (eq_ix2 i)).trans (refStream_apply a0 a1 a2 (i 0) (i 1))

end ref

/-- The reference's run, from arguments none of which is infinite. -/
theorem run_reference (m : (ℓ : Loc nD τ sig) → Buf (Elt Ideal) ℓ) (ρ : Dev nD → PrngReg)
    (hreal : ∀ c : Dev nD, AllReal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    θ_run defs (onTc (τ := τ) (main (F := Ideal))) ⟨m, fun _ => 0, ρ⟩ fun r => ∀ c : Dev nD,
      r.2.mem ((c.tc : Thread nD τ).loc main_v1) = h1At (m ((c.tc : Thread nD τ).loc main_arg0)) (m ((c.tc : Thread nD τ).loc main_arg1)) (m ((c.tc : Thread nD τ).loc main_arg2))
      ∧ r.2.mem ((c.tc : Thread nD τ).loc main_v31) = xnAt (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v32) = infoAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2⟩) (Cert.Reference7Ideal.Value.run m ρ)
  · exact funext fun i => ref_stream _ _ _ i
  · exact funext fun i => ref_xn _ _ _ _ i
  · exact funext fun i => ref_info _ _ _ _ _ (hreal c) i

end Cert.Proof.Router

end
-- ==== Proof.RouterReal.lean ====
module

public import proofs.«01_k».proof.Proof.RouterArray
public import proofs.«01_k».proof.Proof.Gen.Pre_all_finite
public import Idealize.ShloMosaic.Lib.ReduceAll
public import Idealize.ShloMosaic.Lib.Pointwise

@[expose] public section

set_option maxRecDepth 16384

noncomputable section

/-! The precondition of the router's claim says that no entry of an argument is infinite. -/

namespace Cert.Proof.Router

open Idealize.ShloMosaic
open Cert.Pre_all_finite Cert.Pre_all_finite.Gen

/-- The infinite, as a number. -/
theorem top_word : Ideal.ofBits .f32 0x7F800000#32 = ⊤ := by simp [Ideal.ofBits, Ideal.ieee]

/-- Where the test of an entry holds, the entry is not infinite. -/
theorem real_of_test {x : EReal} (h : BitVec.ofBool (decide (max x (-x) < Ideal.ofBits .f32 0x7F800000#32)) = 1#1) : IsReal x := by
  rw [top_word] at h
  refine isReal_of_abs ?_
  by_contra hn
  rw [decide_eq_false hn] at h
  exact absurd h (by decide)

/-- There is one index of no coordinates. -/
theorem one_index : Subsingleton S_.Idx := ⟨fun a b => funext fun k => k.elim0⟩

/-- Where the test of an array holds, the array has no infinite entry. -/
theorem real_of_tests {s : Shape} {axes : List (Fin s.rank)} (a : FVec Ideal s .f32) (hb : S_.BroadcastsInDim s (![] : Fin 0 → Fin s.rank)) (hr : s.ReducesTo axes S_) (hu : 0 < S_.numel)
    (j : S_.Idx)
    (h : Host.reduce IntOp.andi (cmpf .olt (Host.absf a) (broadcastInDim s ![] hb (constant S_ .f32 0x7F800000#32))) (constantI S_ 1 1#1) hr hu j = 1#1) (i : s.Idx) : IsReal (a i) := by
  haveI := one_index
  exact real_of_test (Host.reduce_andi_all _ _ hr hu j h i)

/-- The precondition's five words are the five tests. -/
theorem five_words (u0 u1 u2 u3 u4 : IVec S_ 1) (j : S_.Idx)
    (h : concatenate S5 0 [⟨S1, broadcastInDim S1 ![] bcast_S_S1 u0⟩, ⟨S1, broadcastInDim S1 ![] bcast_S_S1 u1⟩, ⟨S1, broadcastInDim S1 ![] bcast_S_S1 u2⟩, ⟨S1, broadcastInDim S1 ![] bcast_S_S1 u3⟩, ⟨S1, broadcastInDim S1 ![] bcast_S_S1 u4⟩] concatenates_S1_S1_S1_S1_S1_S5_d0 = fun _ => 1#1) :
    u0 j = 1#1 ∧ u1 j = 1#1 ∧ u2 j = 1#1 ∧ u3 j = 1#1 ∧ u4 j = 1#1 := by
  have k0 := congrFun h (ix1 0)
  have k1 := congrFun h (ix1 1)
  have k2 := congrFun h (ix1 2)
  have k3 := congrFun h (ix1 3)
  have k4 := congrFun h (ix1 4)
  clear h
  haveI := one_index
  have e (u : IVec S_ 1) (i : S_.Idx) : u i = u j := congrArg u (Subsingleton.elim _ _)
  pointwise at k0 k1 k2 k3 k4
  exact ⟨(e u0 _).symm.trans k0, (e u1 _).symm.trans k1, (e u2 _).symm.trans k2, (e u3 _).symm.trans k3, (e u4 _).symm.trans k4⟩

/-- The precondition says so. -/
theorem allReal (a0 : FVec Ideal S16384x1024 .f32) (a1 : FVec Ideal S16384x1024 .bf16) (a2 : FVec Ideal S1024x1024 .f32) (a3 : FVec Ideal S1024 .f32) (a4 : FVec Ideal S1024x8 .f32)
    (h : Cert.Pre_all_finite.fn (F := Ideal) a0 a1 a2 a3 a4 = fun _ => 1#1) : AllReal a0 a1 a2 a3 a4 := by
  unfold Cert.Pre_all_finite.fn Cert.Pre_all_finite.fn_part1 at h
  obtain ⟨k0, k1, k2, k3, k4⟩ := five_words _ _ _ _ _ (fun k => k.elim0) h
  exact ⟨real_of_tests a0 _ _ _ _ k0, real_of_tests (extf .f32 a1 bitsLt_bf16_f32) _ _ _ _ k1, real_of_tests a2 _ _ _ _ k2, real_of_tests a3 _ _ _ _ k3, real_of_tests a4 _ _ _ _ k4⟩

end Cert.Proof.Router

end
-- ==== Proof.Words.lean ====
/-
  The words of one subcore's pipeline over its sixteen blocks, in closed form.

  The row gather runs on thirty-two vector subcores; the subcore at grid point `i` serves the sixteen blocks
  `16 w + k`, `k < 16`, where `w = i 1 + 16 * i 0`. Its pipeline is a loop of sixteen trips that carries five words: the
  number of index blocks asked for, the number waited for, the number of row blocks sent, the number waited for, and
  the block at hand. At the start of trip `k` they are `words k` below; every offset the trip computes from them, every
  condition it branches on and every range it assumes are those of block `16 w + k` and of slot `k % 2`.
-/
module

public import proofs.«01_k».proof.Proof.Gen.KernelIdeal.Skeleton

@[expose] public section

noncomputable section

namespace Cert.Proof.Gather

open Cert.KernelIdeal Cert.KernelIdeal.Gen
open Idealize.ShloMosaic

/-- The block the subcore at grid point `i` serves in trip `k`. -/
abbrev blkN (i : grid0.Coords) (k : ℕ) : ℕ := 16 * ((i 1).val + 16 * (i 0).val) + k

/-- The loop makes sixteen trips. -/
theorem trips_eq : k0_t1_loop.trips = 16 := by decide +kernel

/-- The loop's five words at the start of trip `k`. -/
def words (k : ℕ) : BitVec 32 × BitVec 32 × BitVec 32 × BitVec 32 × BitVec 32 :=
  (BitVec.ofNat 32 (min (k + 1) 16), BitVec.ofNat 32 k, BitVec.ofNat 32 k, BitVec.ofNat 32 (k - 1), BitVec.ofNat 32 (k % 16))

/-- The word every block number is computed from. -/
abbrev base (i : grid0.Coords) : BitVec 32 :=
  Scalar.muli (Scalar.addi (Scalar.addi 0#32 (Scalar.muli (BitVec.ofNat 32 (i 1).val) 1#32)) (Scalar.muli (BitVec.ofNat 32 (i 0).val) 16#32)) 16#32

variable (i : grid0.Coords) (k : Fin k0_t1_loop.trips)

/-! ## The conditions -/

/-- The next index block is asked for in every trip but the last. -/
theorem cond1_iff : k0_cond1 i k (words k.val).2.2.2.2 = 1#1 ↔ k.val ≠ 15 := by
  revert i k; decide +kernel
/-- The index block at hand is waited for in every trip. -/
theorem cond2_true : k0_cond2 i k (words k.val).2.2.2.2 = 1#1 := by
  revert i k; decide +kernel
/-- The rows fetched are sent out in every trip. -/
theorem cond5_true : k0_cond5 i k (words k.val).2.2.2.2 = 1#1 := by
  revert i k; decide +kernel
/-- The block sent out a trip ago is waited for in every trip but the first. -/
theorem cond7_iff : k0_cond7 i k (words k.val).2.2.2.2 = 1#1 ↔ k.val ≠ 0 := by
  revert i k; decide +kernel

/-! ## The ranges assumed -/

/-- The conditions that a trip's offsets must meet hold. -/
theorem chk1_ok : k0_chk1 i k (words k.val).1 (words k.val).2.1 (words k.val).2.2.1 (words k.val).2.2.2.1 (words k.val).2.2.2.2 := by
  revert i k; decide +kernel
/-- The condition on a trip's slot of rows holds. -/
theorem chk2_ok : k0_chk2 (words k.val).2.2.1 := by
  revert k; decide +kernel
/-- The condition on a trip's slot of row numbers holds. -/
theorem chk3_ok : k0_chk3 (words k.val).2.1 := by
  revert k; decide +kernel
/-- The condition on the last slot holds. -/
theorem chk4_ok : k0_chk4 (words 16).2.2.2.1 := by decide +kernel
/-- The condition on the last block holds. -/
theorem chk5_ok : k0_chk5 i (words 16).2.2.2.2 := by
  revert i; decide +kernel

/-! ## The offsets -/

/-- The next fetch goes to the other slot. -/
theorem off4_eq : k0_off4 (words k.val).1 = ![(k.val + 1) % 2, 0, 0] := by
  revert k; decide +kernel
/-- The next fetch takes the next trip's block, except at the last trip. -/
theorem off5_eq (h : k.val ≠ 15) : k0_off5 i (words k.val).2.2.2.2 = ![0, 128 * (blkN i (k.val + 1))] := by
  revert i k; decide +kernel
/-- The next fetch pays the other slot's semaphore. -/
theorem off6_eq : k0_off6 (words k.val).1 = ![(k.val + 1) % 2] := by
  revert k; decide +kernel
/-- The fetch awaited is in the trip's slot. -/
theorem off7_eq : k0_off7 (words k.val).2.1 = ![k.val % 2, 0, 0] := by
  revert k; decide +kernel
/-- The fetch awaited is of the trip's block. -/
theorem off8_eq : k0_off8 i (words k.val).2.2.2.2 = ![0, 128 * blkN i k.val] := by
  revert i k; decide +kernel
/-- The fetch awaited pays the trip's semaphore. -/
theorem off9_eq : k0_off9 (words k.val).2.1 = ![k.val % 2] := by
  revert k; decide +kernel
/-- The rows go to the trip's slot. -/
theorem off10_eq : k0_off10 (words k.val).2.2.1 = ![k.val % 2, 0, 0, 0] := by
  revert k; decide +kernel
/-- The row numbers are read from the trip's slot. -/
theorem off11_eq : k0_off11 (words k.val).2.1 = ![k.val % 2, 0, 0] := by
  revert k; decide +kernel
/-- The rows are sent from the trip's slot. -/
theorem off12_eq : k0_off12 (words k.val).2.2.1 = ![k.val % 2, 0, 0, 0] := by
  revert k; decide +kernel
/-- The rows are sent to the trip's block of the result. -/
theorem off13_eq : k0_off13 i (words k.val).2.2.2.2 = ![128 * blkN i k.val, 0, 0] := by
  revert i k; decide +kernel
/-- Sending pays the trip's semaphore. -/
theorem off14_eq : k0_off14 (words k.val).2.2.1 = ![k.val % 2] := by
  revert k; decide +kernel
/-- After the first trip, the sending awaited is from the other slot. -/
theorem off15_eq (h : k.val ≠ 0) : k0_off15 (words k.val).2.2.2.1 = ![(k.val + 1) % 2, 0, 0, 0] := by
  revert k; decide +kernel
/-- After the first trip, the sending awaited is of the block before. -/
theorem off16_eq (h : k.val ≠ 0) : k0_off16 i (words k.val).2.2.2.2 = ![128 * blkN i (k.val - 1), 0, 0] := by
  revert i k; decide +kernel
/-- After the first trip, the sending awaited pays the other semaphore. -/
theorem off17_eq (h : k.val ≠ 0) : k0_off17 (words k.val).2.2.2.1 = ![(k.val + 1) % 2] := by
  revert k; decide +kernel
/-- The last sending awaited is of the last trip's block. -/
theorem off19_eq : k0_off19 i (words 16).2.2.2.2 = ![128 * blkN i 15, 0, 0] := by
  revert i; decide +kernel
/-- The last sending awaited pays the second semaphore. -/
theorem off20_eq : k0_off20 (words 16).2.2.2.1 = ![1] := by decide +kernel
/-- The last sending awaited is from the second slot. -/
theorem off21_eq : k0_off21 (words 16).2.2.2.1 = ![1, 0, 0, 0] := by decide +kernel

/-! ## The next words -/

/-- The five words a trip yields, as it computes them from the five it was given. -/
def nextW (a : BitVec 32 × BitVec 32 × BitVec 32 × BitVec 32 × BitVec 32) : BitVec 32 × BitVec 32 × BitVec 32 × BitVec 32 × BitVec 32 :=
  let arg5 : BitVec 32 := Scf.iv 0#32 1#32 k
  let v64 : BitVec 1 := Scalar.cmpi .eq arg5 0#32
  let v65 : BitVec 1 := Scalar.cmpi .eq arg5 15#32
  let v66 : BitVec 32 := Scalar.addi a.2.2.2.2 (base i)
  let v68 : BitVec 32 := Scalar.select 1#1 (Scalar.subi a.2.2.2.2 1#32) a.2.2.2.2
  let v71 : BitVec 32 := Scalar.addi (Scalar.select (Scalar.cmpi .eq v68 4294967295#32) 15#32 v68) (base i)
  let v73 : BitVec 32 := Scalar.select 1#1 (Scalar.addi a.2.2.2.2 1#32) a.2.2.2.2
  let v76 : BitVec 32 := Scalar.addi (Scalar.select (Scalar.cmpi .eq v73 16#32) 0#32 v73) (base i)
  let v85 : BitVec 1 := Scalar.andi (Scalar.cmpi .ne v66 v76) (Scalar.xori (Scalar.cmpi .sge arg5 15#32) 1#1)
  let v116 : BitVec 1 := Scalar.ori (Scalar.cmpi .ne v66 v76) v65
  let v130 : BitVec 1 := Scalar.andi (Scalar.cmpi .ne v66 v71) (Scalar.xori v64 1#1)
  (Scalar.select (Scalar.andi v85 1#1) (Scalar.addi a.1 1#32) a.1,
    Scalar.select v116 (Scalar.addi a.2.1 1#32) a.2.1,
    Scalar.select (Scalar.andi v116 1#1) (Scalar.addi a.2.2.1 1#32) a.2.2.1,
    Scalar.select (Scalar.andi v130 1#1) (Scalar.addi a.2.2.2.1 1#32) a.2.2.2.1,
    Scalar.select (Scalar.cmpi .eq v73 16#32) 0#32 v73)

/-- From the words of trip `k` a trip computes those of trip `k + 1`. -/
theorem nextW_words : nextW i k (words k.val) = words (k.val + 1) := by
  revert i k; decide +kernel

end Cert.Proof.Gather

end
-- ==== Proof.Base.lean ====
/-
  The row gather's program as the launch theorem sees it, the views its transfers move data between, and what the gather
  leaves in its result.

  The kernel keeps, in each subcore's memory, two slots of 128 row numbers and two slots of 128 rows of 256 words (each
  row shaped 2 by 128), each slot with a semaphore of its own. A trip fetches a block of 128 row numbers into one slot,
  gathers the rows they name into a slot of rows and sends that slot out to a block of 128 rows of the result.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ValueLayout

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program -/

abbrev ΛP : Labels := Pipeline.Sig Λ₀ (Fin 0) fun p => (pcfgs (F := F) p).Adm
abbrev K : SparseCore.Cfg τ sig (ΛP (F := F)) 1 := sc (F := F)
/-- The call runs on sixteen subcores of a SparseCore. -/
theorem nSub_zero : (K (F := F)).nSub 0 = 16 := rfl
/-- The call runs on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are apart and not a task's; no buffer is shared between tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The rows `y` as an array [69632, 2, 128], the row numbers [1, 65536] and the gathered rows [65536, 2, 128]. -/
abbrev xLoc (d : Dev nD) : Loc nD τ sig := (SparseCore.T d).loc main_v9
abbrev iLoc (d : Dev nD) : Loc nD τ sig := (SparseCore.T d).loc main_v10
abbrev oLoc (d : Dev nD) : Loc nD τ sig := (SparseCore.T d).loc main_v11

abbrev xV : Memref sig .scVector .hbm S69632x2x128 .i32 := Memref.whole main_v9_scv
abbrev iV : Memref sig .scVector .hbm S1x65536 .i32 := Memref.whole main_v10_scv
abbrev oV : Memref sig .scVector .hbm S65536x2x128 .i32 := Memref.whole main_v11_scv
abbrev aV : Memref sig .scVector .vmem S2x1x128 .i32 := Memref.whole cc0_scoped0
abbrev bV : Memref sig .scVector .vmem S2x128x2x128 .i32 := Memref.whole cc0_scoped2

abbrev cV (L : grid0.Coords) : Fin τ.nSC := (L 0).castLE hcore0
abbrev jV (L : grid0.Coords) : Fin τ.nSub := (L 1).castLE hsub0
/-- The thread of the subcore at grid point `L`. -/
abbrev thr (d : Dev nD) (L : grid0.Coords) : Thread nD τ := V d (cV L) (jV L)

/-! ## The slots and the blocks -/

/-- A slot of row numbers lies in its buffer. -/
theorem aInb (s : Fin 2) : ∀ a, (![s.val, 0, 0] : Fin 3 → ℕ) a + S1x1x128.size a ≤ S2x1x128.size a := by revert s; decide
/-- A slot of rows lies in its buffer. -/
theorem bInb (s : Fin 2) : ∀ a, (![s.val, 0, 0, 0] : Fin 4 → ℕ) a + S1x128x2x128.size a ≤ S2x128x2x128.size a := by revert s; decide
/-- A slot's semaphore is one of the two. -/
theorem sInb (s : Fin 2) : ∀ a, (![s.val] : Fin 1 → ℕ) a + S1.size a ≤ S2.size a := by revert s; decide
/-- Each of the 512 blocks of row numbers lies in the array of row numbers. -/
theorem iInb (b : Fin 512) : ∀ a, (![0, 128 * b.val] : Fin 2 → ℕ) a + S1x128.size a ≤ S1x65536.size a := by revert b; decide +kernel
/-- Each of the 512 blocks of rows lies in the result. -/
theorem oInb (b : Fin 512) : ∀ a, (![128 * b.val, 0, 0] : Fin 3 → ℕ) a + S128x2x128.size a ≤ S65536x2x128.size a := by revert b; decide +kernel

/-- Slot `s` of row numbers. -/
abbrev aSlot (s : Fin 2) : Memref sig .scVector .vmem S1x128 .i32 :=
  (aV.slice (Rect.unit (s := S2x1x128) ![s.val, 0, 0] S1x1x128.size (aInb s)) (fun _ => rfl)).squeeze S1x128 squeezes_S1x1x128_S1x128
/-- Slot `s` of row numbers as a list of 128. -/
abbrev aList (s : Fin 2) : Memref sig .scVector .vmem S128 .i32 :=
  ((aSlot s).slice (Rect.unit (s := S1x128) ![0, 0] S1x128.size inb_S1x128_S1x128_0_0) (fun _ => rfl)).squeeze S128 squeezes_S1x128_S128
/-- Slot `s` of rows. -/
abbrev bSlot (s : Fin 2) : Memref sig .scVector .vmem S128x2x128 .i32 :=
  (bV.slice (Rect.unit (s := S2x128x2x128) ![s.val, 0, 0, 0] S1x128x2x128.size (bInb s)) (fun _ => rfl)).squeeze S128x2x128 squeezes_S1x128x2x128_S128x2x128
/-- Block `b` of the row numbers. -/
abbrev iBlk (b : Fin 512) : Memref sig .scVector .hbm S1x128 .i32 :=
  iV.slice (Rect.unit (s := S1x65536) ![0, 128 * b.val] S1x128.size (iInb b)) (fun _ => rfl)
/-- Block `b` of the result. -/
abbrev oBlk (b : Fin 512) : Memref sig .scVector .hbm S128x2x128 .i32 :=
  oV.slice (Rect.unit (s := S65536x2x128) ![128 * b.val, 0, 0] S128x2x128.size (oInb b)) (fun _ => rfl)
/-- All rows. -/
abbrev xAll : Memref sig .scVector .hbm S69632x2x128 .i32 :=
  xV.slice (Rect.unit (s := S69632x2x128) ![0, 0, 0] S69632x2x128.size inb_S69632x2x128_S69632x2x128_0_0_0) (fun _ => rfl)
/-- Slot `s`'s semaphores: of the row numbers coming in, of the rows going out. -/
abbrev aSem (s : Fin 2) : DmaSem sig := ((cc0_scoped1.slice (Rect.unit (s := S2) ![s.val] S1.size (sInb s))).squeeze S_ squeezes_S1_S_).sem
abbrev bSem (s : Fin 2) : DmaSem sig := ((cc0_scoped3.slice (Rect.unit (s := S2) ![s.val] S1.size (sInb s))).squeeze S_ squeezes_S1_S_).sem
/-- The gather's semaphore. -/
abbrev gSem : DmaSem sig := cc0_scoped4.sem

/-- The slot trip `n` uses. -/
abbrev sl (n : ℕ) : Fin 2 := ⟨n % 2, Nat.mod_lt _ Nat.two_pos⟩

/-- A subcore's blocks are among the 512. -/
theorem blkN_lt (L : grid0.Coords) (k : Fin 16) : blkN L k.val < 512 := by
  have h1 : (L 1).val < 16 := (L 1).isLt
  have h0 : (L 0).val < 2 := (L 0).isLt
  have := k.isLt
  unfold blkN; omega
/-- The `k`-th of the sixteen blocks of the subcore at grid point `L`. -/
abbrev blk (L : grid0.Coords) (k : Fin 16) : Fin 512 := ⟨blkN L k.val, blkN_lt L k⟩

/-! ## What the gather leaves -/

section Value

variable {d : Dev nD} (fx : Buf (Elt F) (xLoc d)) (fi : Buf (Elt F) (iLoc d))

/-- The row number at position `p`, as a row of the 69632. -/
def rowAt (p : Fin 65536) : Fin 69632 := ⟨BitVec.toNat (w := 32) (fi (ix2 (0 : Fin 1) p)) % 69632, Nat.mod_lt _ (by decide)⟩

/-- The gathered rows: at position `j 0` the row its row number names. -/
def gathered : Buf (Elt F) (oLoc d) := fun (j : S65536x2x128.Idx) => fx (ix3 (rowAt fi (j 0)) (j 1 : Fin 2) (j 2 : Fin 128))

end Value

/-- An element of block `b` of the result sits `128 b` rows further. -/
theorem emb_oBlk (b : Fin 512) (x : Fin 128) (y : Fin 2) (z : Fin 128) :
    (oBlk b).view.emb (ix3 x y z) = (ix3 (⟨128 * b.val + x.val, by omega⟩ : Fin 65536) y z : S65536x2x128.Idx) := by
  funext a
  match a with
  | ⟨0, _⟩ => exact Fin.ext (show 128 * b.val + 1 * x.val = 128 * b.val + x.val by omega)
  | ⟨1, _⟩ => exact Fin.ext (show 0 + 1 * y.val = y.val by omega)
  | ⟨2, _⟩ => exact Fin.ext (show 0 + 1 * z.val = z.val by omega)

/-- An element of block `b` of the row numbers sits `128 b` further. -/
theorem emb_iBlk (b : Fin 512) (x : Fin 128) :
    (iBlk b).view.emb (ix2 (0 : Fin 1) x) = (ix2 (0 : Fin 1) (⟨128 * b.val + x.val, by omega⟩ : Fin 65536) : S1x65536.Idx) := by
  funext a
  match a with
  | ⟨0, _⟩ => rfl
  | ⟨1, _⟩ => exact Fin.ext (show 128 * b.val + 1 * x.val = 128 * b.val + x.val by omega)

/-- The list reads the slot in order. -/
theorem read_aList {d : Dev nD} {L : grid0.Coords} (s : Fin 2) (fa : Buf (Elt F) ((aSlot s).view.loc (thr d L))) (x : Fin 128) :
    (aList s).view.read (Elt F) fa (ix1 x) = (aSlot s).view.read (Elt F) fa (ix2 (0 : Fin 1) x) := by
  have e : (Rect.unit (s := S1x128) ![0, 0] S1x128.size inb_S1x128_S1x128_0_0).emb
      (Shape.reshapeEquiv squeezes_S1x128_S128.numel_eq (ix1 x)) = (ix2 (0 : Fin 1) x : S1x128.Idx) := by
    have e1 : Shape.reshapeEquiv squeezes_S1x128_S128.numel_eq (ix1 x) = (ix2 (0 : Fin 1) x : S1x128.Idx) :=
      Shape.reshapeEquiv_eq_of_rowMajor _ (by
        rw [Shape.rowMajor_val_two, Shape.rowMajor_val_one]
        show 0 * 128 + x.val = x.val
        omega)
    rw [e1]
    funext a
    match a with
    | ⟨0, _⟩ => rfl
    | ⟨1, _⟩ => exact Fin.ext (show 0 + 1 * x.val = x.val by omega)
  exact congrArg ((aSlot s).view.read (Elt F) fa) e

/-- Reading all rows through the view that names them all is reading them. -/
theorem read_xAll {d : Dev nD} (fx : Buf (Elt F) (xLoc d)) : (xAll).view.read (Elt F) fx = fx := by
  funext j
  refine congrArg fx (funext fun a => ?_)
  match a with
  | ⟨0, _⟩ => exact Fin.ext (show 0 + 1 * (j 0).val = (j 0).val by omega)
  | ⟨1, _⟩ => exact Fin.ext (show 0 + 1 * (j 1).val = (j 1).val by omega)
  | ⟨2, _⟩ => exact Fin.ext (show 0 + 1 * (j 2).val = (j 2).val by omega)

section Payload

variable {d : Dev nD} {L : grid0.Coords} (fx : Buf (Elt F) (xLoc d)) (fi : Buf (Elt F) (iLoc d))

/-- The row numbers a slot holds once block `b` has landed in it. -/
theorem list_of_landed {s : Fin 2} {b : Fin 512} {fa : Buf (Elt F) ((aSlot s).view.loc (thr d L))}
    (ha : (aSlot s).view.read (Elt F) fa = (iBlk b).view.read (Elt F) fi) (x : Fin 128) :
    (aList s).view.read (Elt F) fa (ix1 x) = fi (ix2 (0 : Fin 1) (⟨128 * b.val + x.val, by omega⟩ : Fin 65536)) := by
  rw [read_aList, ha]
  exact congrArg fi (emb_iBlk b x)

/-- They are rows. -/
theorem list_lt (hfi : ∀ j, BitVec.toNat (w := 32) (fi j) < 69632) {s : Fin 2} {b : Fin 512} {fa : Buf (Elt F) ((aSlot s).view.loc (thr d L))}
    (ha : (aSlot s).view.read (Elt F) fa = (iBlk b).view.read (Elt F) fi) :
    ∀ x, ((aList s).view.read (Elt F) fa x).toNat < S69632x2x128.size gathers_S69632x2x128_S128x2x128.axis := by
  intro x
  have e : (aList s).view.read (Elt F) fa x = fi _ := (congrArg ((aList s).view.read (Elt F) fa) (eq_ix1 x)).trans (list_of_landed (L := L) fi ha (x 0))
  show BitVec.toNat (w := 32) ((aList s).view.read (Elt F) fa x) < 69632
  rw [e]
  exact hfi _

/-- The rows they name, gathered, are block `b` of the result. -/
theorem payload_eq (hfi : ∀ j, BitVec.toNat (w := 32) (fi j) < 69632) {s : Fin 2} {b : Fin 512} {fa : Buf (Elt F) ((aSlot s).view.loc (thr d L))}
    (ha : (aSlot s).view.read (Elt F) fa = (iBlk b).view.read (Elt F) fi)
    (hin : ∀ x, ((aList s).view.read (Elt F) fa x).toNat < S69632x2x128.size gathers_S69632x2x128_S128x2x128.axis)
    (hn : S128.numel = S128x2x128.size gathers_S69632x2x128_S128x2x128.axis') (j : S128x2x128.Idx) :
    SparseCore.gatherPayload (F := F) (e := .i32) gathers_S69632x2x128_S128x2x128 ((xAll).view.read (Elt F) fx) (SparseCore.rows ((aList s).view.read (Elt F) fa) hn hin) j
      = gathered fx fi ((oBlk b).view.emb j) := by
  have ej : (oBlk b).view.emb j = (ix3 (⟨128 * b.val + (j 0).val, by have h : (j 0).val < 128 := (j 0).isLt; omega⟩ : Fin 65536) (j 1) (j 2) : S65536x2x128.Idx) :=
    (congrArg (oBlk b).view.emb (eq_ix3 j)).trans (emb_oBlk b (j 0) (j 1) (j 2))
  rw [ej, read_xAll]
  unfold SparseCore.gatherPayload gathered
  refine congrArg fx (funext fun a => Fin.ext ?_)
  match a with
  | ⟨0, h0⟩ =>
    refine (congrArg Fin.val (Shape.Gathers.idx_axis gathers_S69632x2x128_S128x2x128 _ _)).trans ?_
    have e : S128.rowMajor.symm (Fin.cast hn.symm (j 0)) = (ix1 (j 0 : Fin 128) : S128.Idx) := by
      rw [Equiv.symm_apply_eq]
      exact Fin.ext (by rw [Shape.rowMajor_val_one]; rfl)
    have e2 := list_of_landed (L := L) fi ha (j 0)
    show BitVec.toNat (w := 32) ((aList s).view.read (Elt F) fa (S128.rowMajor.symm (Fin.cast hn.symm (j 0)))) = _ % 69632
    rw [e, e2]
    exact (Nat.mod_eq_of_lt (hfi _)).symm
  | ⟨1, h1⟩ => exact Shape.Gathers.idx_of_ne gathers_S69632x2x128_S128x2x128 _ _ ⟨1, h1⟩ Nat.one_ne_zero
  | ⟨2, h2⟩ => exact Shape.Gathers.idx_of_ne gathers_S69632x2x128_S128x2x128 _ _ ⟨2, h2⟩ (Nat.succ_ne_zero 1)

end Payload

end Cert.Proof.Gather

end
-- ==== Proof.Steps.lean ====
/-
  The six transfers of a trip, each as a step between the states of the slot it moves.

  Every step is stated over the offsets the program computes, with what those offsets are as hypotheses, so that it
  applies to the program's own text.
-/
module

public import proofs.«01_k».proof.Proof.Base

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

variable (d : Dev nD) (L : grid0.Coords) (fx : Buf (Elt F) (xLoc d)) (fi : Buf (Elt F) (iLoc d)) (q : PosShare TreeShare)

/-! ## The states of the slots -/

/-- A slot of row numbers at rest, with a share of the row numbers to fill it from. -/
def idleA (s : Fin 2) : sProp 𝕄 :=
  iprop((∃ f, (aSlot s).view.loc (thr d L) ↦[(aSlot s).view.set]{fullShare} f) ∗ semVal (thr d L, SemLoc.dma (aSem s)) 0 ∗ iLoc d ↦{q} fi)
/-- A slot of row numbers holding block `b`. -/
def fullA (s : Fin 2) (b : Fin 512) : sProp 𝕄 :=
  iprop((∃ f, ⌜(aSlot s).view.read (Elt F) f = (iBlk b).view.read (Elt F) fi⌝ ∗ (aSlot s).view.loc (thr d L) ↦[(aSlot s).view.set]{fullShare} f)
    ∗ semVal (thr d L, SemLoc.dma (aSem s)) 0 ∗ iLoc d ↦{q} fi)
/-- Block `b` of the row numbers on its way into a slot. -/
def flA (s : Fin 2) (b : Fin 512) : sProp 𝕄 :=
  iprop(Transfers.Flight countersEmb (thr d L) (SemLoc.dma (aSem s)) (default : HIx 1) (aSlot s).view.dmaCredit
      iprop((∃ f, ⌜(aSlot s).view.read (Elt F) f = (iBlk b).view.read (Elt F) fi⌝ ∗ (aSlot s).view.loc (thr d L) ↦[(aSlot s).view.set]{fullShare} f)
        ∗ iLoc d ↦[(iBlk b).view.set]{q} fi)
    ∗ iLoc d ↦[Finset.univ \ (iBlk b).view.set]{q} fi)
/-- A slot of rows at rest. -/
def idleB (s : Fin 2) : sProp 𝕄 :=
  iprop((∃ f, (bSlot s).view.loc (thr d L) ↦[(bSlot s).view.set]{fullShare} f) ∗ semVal (thr d L, SemLoc.dma (bSem s)) 0)
/-- A slot of rows holding block `b` of the result. -/
def fullB (s : Fin 2) (b : Fin 512) : sProp 𝕄 :=
  iprop((∃ f, ⌜∀ j, (bSlot s).view.read (Elt F) f j = gathered fx fi ((oBlk b).view.emb j)⌝ ∗ (bSlot s).view.loc (thr d L) ↦[(bSlot s).view.set]{fullShare} f)
    ∗ semVal (thr d L, SemLoc.dma (bSem s)) 0)
/-- Block `b` of the result on its way out of a slot. -/
def flB (s : Fin 2) (b : Fin 512) : sProp 𝕄 :=
  Transfers.Flight countersEmb (thr d L) (SemLoc.dma (bSem s)) (default : HIx 1) (oBlk b).view.dmaCredit
    iprop((oLoc d ↦[(oBlk b).view.set]{fullShare} gathered fx fi) ∗ ∃ f, (bSlot s).view.loc (thr d L) ↦[(bSlot s).view.set]{fullShare} f)
/-- What the subcore owes, whatever waits of its own it has recorded beyond `W`. -/
abbrev owe (O : CellTallies nD τ sig (HIx 1)) (W : Waits sig (HIx 1)) : sProp 𝕄 :=
  iprop(∃ W', ⌜∀ p ∈ W', p ∈ W ∨ p.2 = none⌝ ∗ owes (thr d L) O W')

variable {O : CellTallies nD τ sig (HIx 1)} {W : Waits sig (HIx 1)}

/-! ## Row numbers in -/

/-- Starting a fetch: an idle slot of row numbers becomes one with its block under way. -/
theorem step_enqIdx {s : Fin 2} {b : Fin 512} {offI : Fin 2 → ℕ} {offA : Fin 3 → ℕ} {offS : Fin 1 → ℕ}
    (hI : offI = ![0, 128 * b.val]) (hA : offA = ![s.val, 0, 0]) (hS : offS = ![s.val])
    {inbI : ∀ a, offI a + S1x128.size a ≤ S1x65536.size a} {inbA : ∀ a, offA a + S1x1x128.size a ≤ S2x1x128.size a}
    {inbS : ∀ a, offS a + S1.size a ≤ S2.size a} {h1 h2 h3} {Q : PUnit → sProp 𝕄} :
    idleA d L fi q s ⊢ iprop((flA d L fi q s b -∗ Q ⟨⟩)
      -∗ wp frame (wpE (defs₀ (F := F)) 𝒱₀ (thr d L) none) Set.univ
        (Prog.lift (.enqueueDma (iV.slice (Rect.unit (s := S1x65536) offI S1x128.size inbI) (fun _ => rfl))
          (.here ((aV.slice (Rect.unit (s := S2x1x128) offA S1x1x128.size inbA) (fun _ => rfl)).squeeze S1x128 squeezes_S1x1x128_S1x128))
          (.dma ((cc0_scoped1.slice (Rect.unit (s := S2) offS S1.size inbS)).squeeze S_ squeezes_S1_S_).sem) h1 h2 h3)) Q) := by
  subst hI hA hS
  unfold idleA
  iintro ⟨⟨%f, Ha⟩, Hsem, Hi⟩ Hk
  ihave Hi' := (pointsTo_split_subset (q := q) (f := fi) (S := Finset.univ) (Finset.subset_univ (iBlk b).view.set)).1 $$ Hi
  icases Hi' with ⟨Hib, Hir⟩
  iapply (Transfers.wp_dmaLocal countersEmb 𝒱₀ (thr d L) none (default : HIx 1) (aSlot s).view.dmaCredit rfl
    (View.dmaCredit_pos _ (by decide)) (Finset.Subset.refl _)) $$ [Hib Ha Hsem]
  · isplitl [Hib]; · iexact Hib
    isplitl [Ha]; · iexact Ha
    iexact Hsem
  iintro Hfl
  rw [wp_ret]; imodintro
  iapply Hk
  unfold flA
  isplitl [Hfl]
  · iapply (Transfers.Flight_mono ?_) $$ Hfl
    iintro ⟨Ha, Hi⟩
    isplitl [Ha]
    · iexists _; isplitr
      swap; · iexact Ha
      ipureintro
      exact View.read_write_univ _ _
    · iexact Hi
  · iexact Hir

/-- One more wait of the subcore's own. -/
theorem owe_insert {W' : Waits sig (HIx 1)} {x : SemLoc sig} (h : ∀ p ∈ W', p ∈ W ∨ p.2 = none) :
    (owes (thr d L) O (insert (x, (default : HIx 1)) W') : sProp 𝕄) ⊢ owe d L O W := by
  iintro H
  iexists _; isplitr
  swap; · iexact H
  ipureintro; intro p hp
  rcases Finset.mem_insert.mp hp with hp | hp
  · exact .inr (hp ▸ rfl)
  · exact h p hp

/-- Awaiting a fetch: the slot then holds its block of row numbers. -/
theorem step_waitIdx (hO : ∀ g, O g none = 0) {s : Fin 2} {b : Fin 512} {offI : Fin 2 → ℕ} {offA : Fin 3 → ℕ} {offS : Fin 1 → ℕ}
    (hA : offA = ![s.val, 0, 0]) (hS : offS = ![s.val])
    {inbI : ∀ a, offI a + S1x128.size a ≤ S1x65536.size a} {inbA : ∀ a, offA a + S1x1x128.size a ≤ S2x1x128.size a}
    {inbS : ∀ a, offS a + S1.size a ≤ S2.size a} {h1 h2} {Q : PUnit → sProp 𝕄} :
    iprop(levAts (K (F := F)).L (K (F := F)).lev ∗ flA d L fi q s b ∗ owe d L O W) ⊢ iprop((iprop(fullA d L fi q s b ∗ owe d L O W) -∗ Q ⟨⟩)
      -∗ wp frame (wpE (defs₀ (F := F)) 𝒱₀ (thr d L) none) Set.univ
        (Prog.lift (.waitDma2 ((cc0_scoped1.slice (Rect.unit (s := S2) offS S1.size inbS)).squeeze S_ squeezes_S1_S_).sem
          (iV.slice (Rect.unit (s := S1x65536) offI S1x128.size inbI) (fun _ => rfl))
          ((aV.slice (Rect.unit (s := S2x1x128) offA S1x1x128.size inbA) (fun _ => rfl)).squeeze S1x128 squeezes_S1x1x128_S1x128) h1 h2)) Q) := by
  subst hA hS
  unfold flA
  iintro ⟨#Hlv, ⟨Hfl, Hir⟩, %W', %hW', HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (N := (aSlot s).view.dmaCredit) rfl) $$ [Hfl HO]
  · isplitl [Hfl]; · iexact Hfl
    isplitl [HO]; · iexact HO
    iapply (Transfers.MayWaits.elim (SemLoc.dma (aSem s))) $$ Hmw
  iintro ⟨⟨Ha, Hib⟩, Hsem, HO⟩
  rw [wp_ret]; imodintro
  iapply Hk
  isplitr [HO]
  · unfold fullA
    isplitl [Ha]; · iexact Ha
    isplitl [Hsem]; · iexact Hsem
    iapply (pointsTo_split_subset (q := q) (f := fi) (S := Finset.univ) (Finset.subset_univ (iBlk b).view.set)).2
    isplitl [Hib]; · iexact Hib
    iexact Hir
  · iapply (owe_insert d L hW') $$ HO

/-! ## The gather -/

/-- The list names the slot's elements. -/
theorem set_aList (s : Fin 2) : (aList s).view.set = (aSlot s).view.set := by
  revert s; decide +kernel

/-- A slot's rows together announce what the slot announces. -/
theorem credit_rows (s : Fin 2) : ∀ h : S69632x2x128.Gathers 0 S128x2x128,
    ∑ j, ((bSlot s).slice (S128x2x128.rowRect h.axis' j) (S128x2x128.stride_rowRect h.axis' j)).view.dmaCredit = (bSlot s).view.dmaCredit := by
  revert s; decide +kernel

/-- The rows of a block on their way into a slot of rows. -/
def flG (s : Fin 2) (b : Fin 512) : sProp 𝕄 :=
  iprop(Transfers.Flight countersEmb (thr d L) (SemLoc.dma gSem) (default : HIx 1) (bSlot s).view.dmaCredit
      iprop((∃ f, ⌜∀ j, (bSlot s).view.read (Elt F) f j = gathered fx fi ((oBlk b).view.emb j)⌝ ∗ (bSlot s).view.loc (thr d L) ↦[(bSlot s).view.set]{fullShare} f)
        ∗ (xLoc d ↦[(xAll).view.set]{q} fx) ∗ ∃ f, (aSlot s).view.loc (thr d L) ↦[(aSlot s).view.set]{fullShare} f))

/-- Starting the copy of the named rows: the slot of rows becomes one with the copy under way. -/
theorem step_gather (hfi : ∀ j, BitVec.toNat (w := 32) (fi j) < 69632) {qi : PosShare TreeShare} {s : Fin 2} {b : Fin 512} {offA : Fin 3 → ℕ} {offB : Fin 4 → ℕ}
    (hA : offA = ![s.val, 0, 0]) (hB : offB = ![s.val, 0, 0, 0])
    {inbA : ∀ a, offA a + S1x1x128.size a ≤ S2x1x128.size a} {inbB : ∀ a, offB a + S1x128x2x128.size a ≤ S2x128x2x128.size a}
    {h1 h2 h3 h4 h5 h6} {α : Type} {k : PUnit → Prog (TpuEff nD τ sig (Elt F) Λ₀ (thr d L).2) α} {Q : α → sProp 𝕄} :
    iprop(fullA d L fi qi s b ∗ idleB d L s ∗ (xLoc d ↦{q} fx) ∗ semVal (thr d L, SemLoc.dma gSem) 0)
      ⊢ iprop((iprop(flG d L fx fi q s b ∗ semVal (thr d L, SemLoc.dma (aSem s)) 0 ∗ (iLoc d ↦{qi} fi) ∗ semVal (thr d L, SemLoc.dma (bSem s)) 0
          ∗ xLoc d ↦[Finset.univ \ (xAll).view.set]{q} fx) -∗ wp frame (wpE (defs₀ (F := F)) 𝒱₀ (thr d L) none) Set.univ (k ⟨⟩) Q)
      -∗ wp frame (wpE (defs₀ (F := F)) 𝒱₀ (thr d L) none) Set.univ
        (SparseCore.enqueueIndirectGather h1 (xV.slice (Rect.unit (s := S69632x2x128) ![0, 0, 0] S69632x2x128.size inb_S69632x2x128_S69632x2x128_0_0_0) (fun _ => rfl))
          ((bV.slice (Rect.unit (s := S2x128x2x128) offB S1x128x2x128.size inbB) (fun _ => rfl)).squeeze S128x2x128 squeezes_S1x128x2x128_S128x2x128)
          gathers_S69632x2x128_S128x2x128
          ((((aV.slice (Rect.unit (s := S2x1x128) offA S1x1x128.size inbA) (fun _ => rfl)).squeeze S1x128 squeezes_S1x1x128_S1x128).slice
            (Rect.unit (s := S1x128) ![0, 0] S1x128.size inb_S1x128_S1x128_0_0) (fun _ => rfl)).squeeze S128 squeezes_S1x128_S128)
          h2 cc0_scoped4.sem h3 h4 h5 h6 >>= k) Q) := by
  subst hA hB
  unfold fullA idleB
  iintro ⟨⟨⟨%fa, %ha, Ha⟩, HsA, Hi⟩, ⟨⟨%fb, Hb⟩, HsB⟩, Hx, HsG⟩ Hk
  ihave Hx' := (pointsTo_split_subset (q := q) (f := fx) (S := Finset.univ) (Finset.subset_univ (xAll).view.set)).1 $$ Hx
  icases Hx' with ⟨Hxs, Hxr⟩
  ihave Ha' := (Entails.of_eq (show ((aSlot s).view.loc (thr d L) ↦[(aSlot s).view.set]{fullShare} fa : sProp 𝕄)
    = (aList s).view.loc (thr d L) ↦[(aList s).view.set]{fullShare} fa by rw [set_aList])) $$ Ha
  iapply (SparseCore.wp_indirectGatherLocal countersEmb 𝒱₀ (thr d L) none (src := xAll) (dst := bSlot s) (offs := aList s) (fs := fx) (fd := fb) (fo := fa) (q := q)
      (qo := fullShare) (hg := gathers_S69632x2x128_S128x2x128) (default : HIx 1)
      (bSlot s).view.dmaCredit (credit_rows s _) (by decide) (list_lt (L := L) fi hfi ha)) $$ [Hxs Hb Ha' HsG]
  · isplitl [Hxs]; · iexact Hxs
    isplitl [Hb]; · iexact Hb
    isplitl [Ha']; · iexact Ha'
    iexact HsG
  iintro Hfl
  iapply Hk
  isplitl [Hfl]
  · unfold flG
    iapply (Transfers.Flight_mono ?_) $$ Hfl
    iintro ⟨Hb, Hx, Ha⟩
    isplitl [Hb]
    · iexists _; isplitr
      swap; · iexact Hb
      ipureintro
      intro j
      rw [View.read_write_univ]
      exact payload_eq (L := L) fx fi hfi ha _ _ j
    isplitl [Hx]; · iexact Hx
    iexists _
    iapply (Entails.of_eq (show ((aList s).view.loc (thr d L) ↦[(aList s).view.set]{fullShare} fa : sProp 𝕄)
      = (aSlot s).view.loc (thr d L) ↦[(aSlot s).view.set]{fullShare} fa by rw [set_aList]))
    iexact Ha
  isplitl [HsA]; · iexact HsA
  isplitl [Hi]; · iexact Hi
  isplitl [HsB]; · iexact HsB
  iexact Hxr

/-- Awaiting that copy: the slot then holds the named rows. -/
theorem step_waitGather (hO : ∀ g, O g none = 0) {qi : PosShare TreeShare} {s : Fin 2} {b : Fin 512} {offB : Fin 4 → ℕ}
    (hB : offB = ![s.val, 0, 0, 0])
    {inbB : ∀ a, offB a + S1x128x2x128.size a ≤ S2x128x2x128.size a}
    {h1 h2} {Q : PUnit → sProp 𝕄} :
    iprop(levAts (K (F := F)).L (K (F := F)).lev ∗ (flG d L fx fi q s b ∗ semVal (thr d L, SemLoc.dma (aSem s)) 0 ∗ (iLoc d ↦{qi} fi) ∗ semVal (thr d L, SemLoc.dma (bSem s)) 0
          ∗ xLoc d ↦[Finset.univ \ (xAll).view.set]{q} fx) ∗ owe d L O W)
      ⊢ iprop((iprop(idleA d L fi qi s ∗ fullB d L fx fi s b ∗ (xLoc d ↦{q} fx) ∗ semVal (thr d L, SemLoc.dma gSem) 0 ∗ owe d L O W) -∗ Q ⟨⟩)
      -∗ wp frame (wpE (defs₀ (F := F)) 𝒱₀ (thr d L) none) Set.univ
        (SparseCore.waitIndirectGather cc0_scoped4.sem (xV.slice (Rect.unit (s := S69632x2x128) ![0, 0, 0] S69632x2x128.size inb_S69632x2x128_S69632x2x128_0_0_0) (fun _ => rfl))
          ((bV.slice (Rect.unit (s := S2x128x2x128) offB S1x128x2x128.size inbB) (fun _ => rfl)).squeeze S128x2x128 squeezes_S1x128x2x128_S128x2x128)
          h1 h2) Q) := by
  subst hB
  unfold flG
  iintro ⟨#Hlv, ⟨Hfl, HsA, Hi, HsB, Hxr⟩, %W', %hW', HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (N := (bSlot s).view.dmaCredit) rfl) $$ [Hfl HO]
  · isplitl [Hfl]; · iexact Hfl
    isplitl [HO]; · iexact HO
    iapply (Transfers.MayWaits.elim (SemLoc.dma gSem)) $$ Hmw
  iintro ⟨⟨Hb, Hx, Ha⟩, HsG, HO⟩
  rw [wp_ret]; imodintro
  iapply Hk
  isplitl [Ha HsA Hi]
  · unfold idleA
    isplitl [Ha]; · iexact Ha
    isplitl [HsA]; · iexact HsA
    iexact Hi
  isplitl [Hb HsB]
  · unfold fullB
    isplitl [Hb]; · iexact Hb
    iexact HsB
  isplitl [Hx Hxr]
  · iapply (pointsTo_split_subset (q := q) (f := fx) (S := Finset.univ) (Finset.subset_univ (xAll).view.set)).2
    isplitl [Hx]; · iexact Hx
    iexact Hxr
  isplitl [HsG]; · iexact HsG
  iapply (owe_insert d L hW') $$ HO

/-! ## Rows out -/

/-- Starting to send: a full slot of rows and its block of the result become one transfer under way. -/
theorem step_enqOut {s : Fin 2} {b : Fin 512} {offO : Fin 3 → ℕ} {offB : Fin 4 → ℕ} {offS : Fin 1 → ℕ}
    (hOo : offO = ![128 * b.val, 0, 0]) (hB : offB = ![s.val, 0, 0, 0]) (hS : offS = ![s.val])
    {inbO : ∀ a, offO a + S128x2x128.size a ≤ S65536x2x128.size a} {inbB : ∀ a, offB a + S1x128x2x128.size a ≤ S2x128x2x128.size a}
    {inbS : ∀ a, offS a + S1.size a ≤ S2.size a} {h1 h2 h3} {Q : PUnit → sProp 𝕄} :
    iprop(fullB d L fx fi s b ∗ ∃ f, oLoc d ↦[(oBlk b).view.set]{fullShare} f) ⊢ iprop((flB d L fx fi s b -∗ Q ⟨⟩)
      -∗ wp frame (wpE (defs₀ (F := F)) 𝒱₀ (thr d L) none) Set.univ
        (Prog.lift (.enqueueDma ((bV.slice (Rect.unit (s := S2x128x2x128) offB S1x128x2x128.size inbB) (fun _ => rfl)).squeeze S128x2x128 squeezes_S1x128x2x128_S128x2x128)
          (.here (oV.slice (Rect.unit (s := S65536x2x128) offO S128x2x128.size inbO) (fun _ => rfl)))
          (.dma ((cc0_scoped3.slice (Rect.unit (s := S2) offS S1.size inbS)).squeeze S_ squeezes_S1_S_).sem) h1 h2 h3)) Q) := by
  subst hOo hB hS
  unfold fullB
  iintro ⟨⟨⟨%f, %hf, Hb⟩, Hsem⟩, %g, Ho⟩ Hk
  iapply (Transfers.wp_dmaLocal countersEmb 𝒱₀ (thr d L) none (default : HIx 1) (oBlk b).view.dmaCredit rfl
    (View.dmaCredit_pos _ (by decide)) (Finset.Subset.refl _)) $$ [Hb Ho Hsem]
  · isplitl [Hb]; · iexact Hb
    isplitl [Ho]; · iexact Ho
    iexact Hsem
  iintro Hfl
  rw [wp_ret]; imodintro
  iapply Hk
  unfold flB
  iapply (Transfers.Flight_mono ?_) $$ Hfl
  iintro ⟨Ho, Hb⟩
  isplitl [Ho]
  · iapply (Entails.of_eq (pointsTo_congr (ℓ := oLoc d) (I := (oBlk b).view.set) ?_)) $$ Ho
    intro i hi
    obtain ⟨j, -, rfl⟩ := Finset.mem_map.1 hi
    exact (View.write_emb_of_mem _ _ (Finset.mem_univ j)).trans (hf j)
  · iexists _; iexact Hb

/-- Awaiting it: the block of the result holds its rows and the slot is idle. -/
theorem step_waitOut (hO : ∀ g, O g none = 0) {s : Fin 2} {b : Fin 512} {offO : Fin 3 → ℕ} {offB : Fin 4 → ℕ} {offS : Fin 1 → ℕ}
    (hOo : offO = ![128 * b.val, 0, 0]) (hS : offS = ![s.val])
    {inbO : ∀ a, offO a + S128x2x128.size a ≤ S65536x2x128.size a} {inbB : ∀ a, offB a + S1x128x2x128.size a ≤ S2x128x2x128.size a}
    {inbS : ∀ a, offS a + S1.size a ≤ S2.size a} {h1 h2} {Q : PUnit → sProp 𝕄} :
    iprop(levAts (K (F := F)).L (K (F := F)).lev ∗ flB d L fx fi s b ∗ owe d L O W)
      ⊢ iprop((iprop(idleB d L s ∗ (oLoc d ↦[(oBlk b).view.set]{fullShare} gathered fx fi) ∗ owe d L O W) -∗ Q ⟨⟩)
      -∗ wp frame (wpE (defs₀ (F := F)) 𝒱₀ (thr d L) none) Set.univ
        (Prog.lift (.waitDma2 ((cc0_scoped3.slice (Rect.unit (s := S2) offS S1.size inbS)).squeeze S_ squeezes_S1_S_).sem
          ((bV.slice (Rect.unit (s := S2x128x2x128) offB S1x128x2x128.size inbB) (fun _ => rfl)).squeeze S128x2x128 squeezes_S1x128x2x128_S128x2x128)
          (oV.slice (Rect.unit (s := S65536x2x128) offO S128x2x128.size inbO) (fun _ => rfl)) h1 h2)) Q) := by
  subst hOo hS
  unfold flB
  iintro ⟨#Hlv, Hfl, %W', %hW', HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (N := (oBlk b).view.dmaCredit) rfl) $$ [Hfl HO]
  · isplitl [Hfl]; · iexact Hfl
    isplitl [HO]; · iexact HO
    iapply (Transfers.MayWaits.elim (SemLoc.dma (bSem s))) $$ Hmw
  iintro ⟨⟨Ho, Hb⟩, Hsem, HO⟩
  rw [wp_ret]; imodintro
  iapply Hk
  isplitl [Hb Hsem]
  · unfold idleB
    isplitl [Hb]; · iexact Hb
    iexact Hsem
  isplitl [Ho]; · iexact Ho
  iapply (owe_insert d L hW') $$ HO

end Cert.Proof.Gather

end
-- ==== Proof.Trip.lean ====
/-
  One trip of the pipeline, from the state of the slots at its start to that at the next trip's start.
-/
module

public import proofs.«01_k».proof.Proof.Steps

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The `n`-th of the sixteen blocks of the subcore at grid point `L`. -/
abbrev bk (L : grid0.Coords) (n : ℕ) : Fin 512 := blk L ⟨n % 16, Nat.mod_lt _ (by decide)⟩
/-- A trip's block has the number that the grid point and the trip give. -/
theorem bk_val (L : grid0.Coords) {n : ℕ} (h : n < 16) : (bk L n).val = blkN L n := by
  show blkN L (n % 16) = blkN L n
  rw [Nat.mod_eq_of_lt h]

/-- A range assumed that holds is passed. -/
theorem wp_lift_assume {c : Thread nD τ} {α : Type} {P : Prop} {dec : Decidable P} {k : PLift P → Prog (TpuEff nD τ sig (Elt F) Λ₀ c.2) α} {Q : α → sProp 𝕄} (h : P) :
    wp frame (wpE (defs₀ (F := F)) 𝒱₀ c none) Set.univ (Prog.lift (TpuEff.assume P dec) >>= k) Q
      = wp frame (wpE (defs₀ (F := F)) 𝒱₀ c none) Set.univ (k ⟨h⟩) Q :=
  wp_assume_of (k := k) 𝒱₀ c none Set.univ h

/-- What the words of trip `k` make of everything the trip computes from them. -/
structure TripFacts (i : grid0.Coords) (k : Fin k0_t1_loop.trips) (a6 a7 a8 a9 a10 : BitVec 32) : Prop where
  c1 : k0_cond1 i k a10 = 1#1 ↔ k.val ≠ 15
  c2 : k0_cond2 i k a10 = 1#1
  c5 : k0_cond5 i k a10 = 1#1
  c7 : k0_cond7 i k a10 = 1#1 ↔ k.val ≠ 0
  k1 : k0_chk1 i k a6 a7 a8 a9 a10
  k2 : k0_chk2 a8
  k3 : k0_chk3 a7
  o4 : k0_off4 a6 = ![(k.val + 1) % 2, 0, 0]
  o5 : k.val ≠ 15 → k0_off5 i a10 = ![0, 128 * blkN i (k.val + 1)]
  o6 : k0_off6 a6 = ![(k.val + 1) % 2]
  o7 : k0_off7 a7 = ![k.val % 2, 0, 0]
  o9 : k0_off9 a7 = ![k.val % 2]
  o10 : k0_off10 a8 = ![k.val % 2, 0, 0, 0]
  o11 : k0_off11 a7 = ![k.val % 2, 0, 0]
  o12 : k0_off12 a8 = ![k.val % 2, 0, 0, 0]
  o13 : k0_off13 i a10 = ![128 * blkN i k.val, 0, 0]
  o14 : k0_off14 a8 = ![k.val % 2]
  o16 : k.val ≠ 0 → k0_off16 i a10 = ![128 * blkN i (k.val - 1), 0, 0]
  o17 : k.val ≠ 0 → k0_off17 a9 = ![(k.val + 1) % 2]
  next : nextW i k (a6, a7, a8, a9, a10) = words (k.val + 1)

/-- The conditions of a trip, read off its words. -/
theorem tripFacts {i : grid0.Coords} {k : Fin k0_t1_loop.trips} {a6 a7 a8 a9 a10 : BitVec 32} (h : (a6, a7, a8, a9, a10) = words k.val) :
    TripFacts i k a6 a7 a8 a9 a10 := by
  obtain ⟨h6, h7, h8, h9, h10⟩ : a6 = (words k.val).1 ∧ a7 = (words k.val).2.1 ∧ a8 = (words k.val).2.2.1 ∧ a9 = (words k.val).2.2.2.1
      ∧ a10 = (words k.val).2.2.2.2 := by rw [← h]; exact ⟨rfl, rfl, rfl, rfl, rfl⟩
  have hn := nextW_words i k
  rw [← h] at hn
  subst h6 h7 h8 h9 h10
  exact ⟨cond1_iff i k, cond2_true i k, cond5_true i k, cond7_iff i k, chk1_ok i k, chk2_ok k, chk3_ok k, off4_eq k, off5_eq i k, off6_eq k,
    off7_eq k, off9_eq k, off10_eq k, off11_eq k, off12_eq k, off13_eq i k, off14_eq k, off16_eq i k, off17_eq k, hn⟩

variable (d : Dev nD) (L : grid0.Coords) (fx : Buf (Elt F) (xLoc d)) (fi : Buf (Elt F) (iLoc d)) (qx : PosShare TreeShare) (qi : Fin 2 → PosShare TreeShare)

/-- The slot of row numbers the next trip reads: on its way, or at rest when no trip is left. -/
def nextA (n : ℕ) : sProp 𝕄 := if n < 16 then flA d L fi (qi (sl n)) (sl n) (bk L n) else idleA d L fi (qi (sl n)) (sl n)

variable {k : Fin k0_t1_loop.trips} {a6 a7 a8 a9 a10 : BitVec 32} (hk : TripFacts L k a6 a7 a8 a9 a10)

/-- The block at hand, the one before it and the one after it, as the trip numbers them. -/
abbrev cur (L : grid0.Coords) (a10 : BitVec 32) : BitVec 32 := Scalar.addi a10 (base L)
abbrev prv (L : grid0.Coords) (a10 : BitVec 32) : BitVec 32 :=
  Scalar.addi (Scalar.select (Scalar.cmpi .eq (Scalar.select 1#1 (Scalar.subi a10 1#32) a10) 4294967295#32) 15#32 (Scalar.select 1#1 (Scalar.subi a10 1#32) a10)) (base L)
abbrev nxt (L : grid0.Coords) (a10 : BitVec 32) : BitVec 32 :=
  Scalar.addi (Scalar.select (Scalar.cmpi .eq (Scalar.select 1#1 (Scalar.addi a10 1#32) a10) 16#32) 0#32 (Scalar.select 1#1 (Scalar.addi a10 1#32) a10)) (base L)
/-- The loop's counter, and whether the trip is the first or the last. -/
abbrev ivW (k : Fin k0_t1_loop.trips) : BitVec 32 := Scf.iv 0#32 1#32 k
abbrev isFirst (k : Fin k0_t1_loop.trips) : BitVec 1 := Scalar.cmpi .eq (ivW k) 0#32
abbrev isLast (k : Fin k0_t1_loop.trips) : BitVec 1 := Scalar.cmpi .eq (ivW k) 15#32

include hk

/-- A trip's first part starts the fetch of the next trip's block, if there is one. -/
theorem trip_part1 {Q : _ → sProp 𝕄} :
    idleA d L fi (qi (sl (k.val + 1))) (sl (k.val + 1)) ⊢ iprop((nextA d L fi qi (k.val + 1) -∗ Q (⟨hk.k3, hk.k2, hk.k1, ivW k, isFirst k, isLast k, cur L a10, prv L a10, nxt L a10,
        Scalar.select (Scalar.andi (Scalar.andi (Scalar.cmpi .ne (cur L a10) (nxt L a10)) (Scalar.xori (Scalar.cmpi .sge (ivW k) 15#32) 1#1)) 1#1)
          (Scalar.addi a6 1#32) a6, Scalar.cmpi .ne (cur L a10) (prv L a10)⟩))
      -∗ wp frame (wpE (defs₀ (F := F)) 𝒱₀ (thr d L) none) Set.univ
        (k0_part1 L xV (Memref.isWhole_whole _) iV (Memref.isWhole_whole _) oV (Memref.isWhole_whole _) aV (Memref.isWhole_whole _) cc0_scoped1
          bV (Memref.isWhole_whole _) cc0_scoped3 cc0_scoped4 (base L) 0#32 1#32 k a6 a7 a8 a9 a10) Q) := by
  rw [k0_part1_eq_skeleton]; unfold k0_part1_skel
  rw [wp_lift_assume hk.k3, wp_lift_assume hk.k2, wp_lift_assume hk.k1]
  iintro Ha HQ
  by_cases h15 : k.val = 15
  · rw [dif_neg (fun h => hk.c1.1 h h15)]
    rw [wp_pure]; imodintro
    iapply HQ
    unfold nextA; rw [if_neg (by omega)]
    iexact Ha
  · rw [dif_pos (hk.c1.2 h15)]
    have hlt : k.val + 1 < 16 := by have := k.isLt; have := trips_eq; omega
    rw [wp_bind]
    iapply (step_enqIdx d L fi (qi (sl (k.val + 1))) (s := sl (k.val + 1)) (b := bk L (k.val + 1)) ((hk.o5 h15).trans (by rw [bk_val L hlt])) hk.o4 hk.o6) $$ Ha
    iintro Ha
    rw [wp_pure]; imodintro
    iapply HQ
    unfold nextA; rw [if_pos hlt]
    iexact Ha

/-- A trip's second part awaits its row numbers and brings the rows they name. -/
theorem trip_part2 (hfi : ∀ j, BitVec.toNat (w := 32) (fi j) < 69632) {O : CellTallies nD τ sig (HIx 1)} {W : Waits sig (HIx 1)} (hO : ∀ g, O g none = 0) {w : BitVec 1} {Q : _ → sProp 𝕄} :
    iprop(levAts (K (F := F)).L (K (F := F)).lev ∗ flA d L fi (qi (sl k.val)) (sl k.val) (bk L k.val) ∗ idleB d L (sl k.val) ∗ (xLoc d ↦{qx} fx)
        ∗ semVal (thr d L, SemLoc.dma gSem) 0 ∗ owe d L O W)
      ⊢ iprop((iprop(idleA d L fi (qi (sl k.val)) (sl k.val) ∗ fullB d L fx fi (sl k.val) (bk L k.val) ∗ (xLoc d ↦{qx} fx) ∗ semVal (thr d L, SemLoc.dma gSem) 0 ∗ owe d L O W)
        -∗ Q (⟨Scalar.ori (Scalar.cmpi .ne (cur L a10) (nxt L a10)) (isLast k), Scalar.extui (Scalar.ori (Scalar.cmpi .ne (cur L a10) (nxt L a10)) (isLast k)), 0#32⟩))
      -∗ wp frame (wpE (defs₀ (F := F)) 𝒱₀ (thr d L) none) Set.univ
        (k0_part2 L xV (Memref.isWhole_whole _) iV (Memref.isWhole_whole _) oV (Memref.isWhole_whole _) aV (Memref.isWhole_whole _) cc0_scoped1
          bV (Memref.isWhole_whole _) cc0_scoped3 cc0_scoped4 k a6 a7 a8 a9 a10 hk.k3 hk.k2 hk.k1 (ivW k) (isFirst k) (isLast k) (cur L a10) (prv L a10) (nxt L a10) w) Q) := by
  rw [k0_part2_eq_skeleton]; unfold k0_part2_skel
  iintro ⟨#Hlv, Ha, Hb, Hx, Hg, HO⟩ HQ
  rw [dif_pos hk.c2, wp_bind]
  iapply (step_waitIdx d L fi (qi (sl k.val)) hO (s := sl k.val) (b := bk L k.val) hk.o7 hk.o9) $$ [Ha HO]
  · isplitr; · iexact Hlv
    isplitl [Ha]; · iexact Ha
    iexact HO
  iintro ⟨Ha, HO⟩
  dsimp only
  rw [ite_self]
  iapply (step_gather d L fx fi qx hfi (qi := qi (sl k.val)) (s := sl k.val) (b := bk L k.val) hk.o11 hk.o10) $$ [Ha Hb Hx Hg]
  · isplitl [Ha]; · iexact Ha
    isplitl [Hb]; · iexact Hb
    isplitl [Hx]; · iexact Hx
    iexact Hg
  iintro HG
  dsimp only
  rw [wp_bind]
  iapply (step_waitGather d L fx fi qx hO (qi := qi (sl k.val)) (s := sl k.val) (b := bk L k.val) hk.o10) $$ [HG HO]
  · isplitr; · iexact Hlv
    isplitl [HG]; · iexact HG
    iexact HO
  iintro H
  rw [wp_pure]; imodintro
  iapply HQ $$ H

omit hk

/-! ## The state at a trip's start -/

/-- A block of the result not yet sent. -/
def toSend (n : ℕ) : sProp 𝕄 := iprop(∃ f, oLoc d ↦[(oBlk (bk L n)).view.set]{fullShare} f)
/-- A block of the result that has landed. -/
def landed (n : ℕ) : sProp 𝕄 := oLoc d ↦[(oBlk (bk L n)).view.set]{fullShare} gathered fx fi
/-- The blocks from `n` on, not yet sent. -/
def rest (n : ℕ) : sProp 𝕄 := bigSep (Finset.univ.filter fun j : Fin 16 => n ≤ j.val) fun j => toSend (F := F) d L j.val
/-- The blocks below `n`, landed. -/
def done (n : ℕ) : sProp 𝕄 := bigSep (Finset.univ.filter fun j : Fin 16 => j.val < n) fun j => landed d L fx fi j.val
/-- The slot of rows sent out a trip ago, and the blocks landed before that. -/
def prevB (n : ℕ) : sProp 𝕄 := if n = 0 then idleB d L (sl (n + 1)) else iprop(flB d L fx fi (sl (n + 1)) (bk L (n - 1)) ∗ done d L fx fi (n - 1))

omit [FloatOps F] in
/-- The blocks to send from a trip on are the trip's and those after it. -/
theorem rest_succ (n : ℕ) (h : n < 16) : (rest (F := F) d L n : sProp 𝕄) = iprop(toSend d L n ∗ rest d L (n + 1)) := by
  unfold rest
  have e : (Finset.univ.filter fun j : Fin 16 => n ≤ j.val) = insert (⟨n, h⟩ : Fin 16) (Finset.univ.filter fun j : Fin 16 => n + 1 ≤ j.val) := by
    ext j
    simp only [Finset.mem_filter, Finset.mem_univ, true_and, Finset.mem_insert, Fin.ext_iff]
    omega
  rw [e, SparseCore.bigSep_insert' (by simp)]
omit [FloatOps F] in
/-- The blocks sent after a trip are the trip's and those before it. -/
theorem done_succ (n : ℕ) (h : n < 16) : (done d L fx fi (n + 1) : sProp 𝕄) = iprop(landed d L fx fi n ∗ done d L fx fi n) := by
  unfold done
  have e : (Finset.univ.filter fun j : Fin 16 => j.val < n + 1) = insert (⟨n, h⟩ : Fin 16) (Finset.univ.filter fun j : Fin 16 => j.val < n) := by
    ext j
    simp only [Finset.mem_filter, Finset.mem_univ, true_and, Finset.mem_insert, Fin.ext_iff]
    omega
  rw [e, SparseCore.bigSep_insert' (by simp)]
omit [FloatOps F] in
/-- Before the first trip nothing has been sent. -/
theorem done_zero : (done d L fx fi 0 : sProp 𝕄) = iprop(emp) := by
  unfold done
  have e : (Finset.univ.filter fun j : Fin 16 => j.val < 0) = ∅ := by
    ext j; simp
  rw [e, bigSep_empty]; rfl

/-- The state at the start of trip `n`. -/
def inv (O : CellTallies nD τ sig (HIx 1)) (W : Waits sig (HIx 1)) (n : ℕ) (acc : BitVec 32 × BitVec 32 × BitVec 32 × BitVec 32 × BitVec 32) : sProp 𝕄 :=
  iprop(⌜acc = words n⌝ ∗ nextA d L fi qi n ∗ idleA d L fi (qi (sl (n + 1))) (sl (n + 1)) ∗ idleB d L (sl n) ∗ prevB d L fx fi n ∗ rest d L n
    ∗ (xLoc d ↦{qx} fx) ∗ semVal (thr d L, SemLoc.dma gSem) 0 ∗ owe d L O W)

/-- The state at a trip's start, part by part. -/
theorem inv_eq {O : CellTallies nD τ sig (HIx 1)} {W : Waits sig (HIx 1)} {n : ℕ} {acc : BitVec 32 × BitVec 32 × BitVec 32 × BitVec 32 × BitVec 32} :
    inv d L fx fi qx qi O W n acc = iprop(⌜acc = words n⌝ ∗ nextA d L fi qi n ∗ idleA d L fi (qi (sl (n + 1))) (sl (n + 1)) ∗ idleB d L (sl n) ∗ prevB d L fx fi n ∗ rest d L n
    ∗ (xLoc d ↦{qx} fx) ∗ semVal (thr d L, SemLoc.dma gSem) 0 ∗ owe d L O W) := rfl

/-- The slots alternate. -/
theorem sl_add_two (n : ℕ) : sl (n + 2) = sl n := Fin.ext (by show (n + 2) % 2 = n % 2; omega)

/-- What a trip ends in is the state at the next trip's start. -/
theorem inv_next {O : CellTallies nD τ sig (HIx 1)} {W : Waits sig (HIx 1)} {n : ℕ} {acc : BitVec 32 × BitVec 32 × BitVec 32 × BitVec 32 × BitVec 32}
    (hacc : acc = words (n + 1)) :
    iprop(nextA d L fi qi (n + 1) ∗ idleA d L fi (qi (sl n)) (sl n) ∗ idleB d L (sl (n + 1)) ∗ flB d L fx fi (sl n) (bk L n) ∗ done d L fx fi n ∗ rest d L (n + 1)
      ∗ (xLoc d ↦{qx} fx) ∗ semVal (thr d L, SemLoc.dma gSem) 0 ∗ owe d L O W) ⊢ inv d L fx fi qx qi O W (n + 1) acc := by
  unfold inv
  iintro ⟨Ha, HA, HB, HB', Hdone, Hrest, Hx, Hg, HO⟩
  isplitr; · ipureintro; exact hacc
  isplitl [Ha]; · iexact Ha
  isplitl [HA]; · rw [show n + 1 + 1 = n + 2 from rfl, sl_add_two]; iexact HA
  isplitl [HB]; · iexact HB
  isplitl [HB' Hdone]
  · unfold prevB
    rw [if_neg (Nat.succ_ne_zero n), show n + 1 + 1 = n + 2 from rfl, sl_add_two, Nat.add_sub_cancel]
    isplitl [HB']; · iexact HB'
    iexact Hdone
  isplitl [Hrest]; · iexact Hrest
  isplitl [Hx]; · iexact Hx
  isplitl [Hg]; · iexact Hg
  iexact HO

/-- One trip takes the state at its start to the state at the next one's. -/
theorem trip (hfi : ∀ j, BitVec.toNat (w := 32) (fi j) < 69632) {O : CellTallies nD τ sig (HIx 1)} {W : Waits sig (HIx 1)} (hO : ∀ g, O g none = 0)
    (k : Fin k0_t1_loop.trips) (acc : BitVec 32 × BitVec 32 × BitVec 32 × BitVec 32 × BitVec 32) :
    iprop(levAts (K (F := F)).L (K (F := F)).lev ∗ inv d L fx fi qx qi O W k.val acc)
      ⊢ wp frame (wpE (defs₀ (F := F)) 𝒱₀ (thr d L) none) Set.univ
        (k0_t1_body L xV (Memref.isWhole_whole _) iV (Memref.isWhole_whole _) oV (Memref.isWhole_whole _) aV (Memref.isWhole_whole _) cc0_scoped1
          bV (Memref.isWhole_whole _) cc0_scoped3 cc0_scoped4 (base L) k acc) fun acc' => iprop(levAts (K (F := F)).L (K (F := F)).lev ∗ inv d L fx fi qx qi O W (k.val + 1) acc') := by
  obtain ⟨a6, a7, a8, a9, a10⟩ := acc
  have h16 : k.val < 16 := by have := k.isLt; have := trips_eq; omega
  iintro ⟨#Hlv, HI⟩
  ihave HI := (Entails.of_eq (inv_eq d L fx fi qx qi)) $$ HI
  icases HI with ⟨%hacc, HA, Ha, Hb, HB, Hrest, Hx, Hg, HO⟩
  have hk := tripFacts (i := L) hacc
  unfold k0_t1_body
  dsimp only
  rw [wp_bind]
  iapply (trip_part1 d L fi qi hk) $$ Ha
  iintro Ha
  dsimp only
  rw [wp_bind]
  ihave HA := (Entails.of_eq (show nextA d L fi qi k.val = flA d L fi (qi (sl k.val)) (sl k.val) (bk L k.val) from if_pos h16)) $$ HA
  iapply (trip_part2 d L fx fi qx qi hk hfi hO) $$ [HA Hb Hx Hg HO]
  · isplitr; · iexact Hlv
    isplitl [HA]; · iexact HA
    isplitl [Hb]; · iexact Hb
    isplitl [Hx]; · iexact Hx
    isplitl [Hg]; · iexact Hg
    iexact HO
  iintro ⟨HA, Hb, Hx, Hg, HO⟩
  dsimp only
  ihave Hrest := (Entails.of_eq (rest_succ (F := F) d L k.val h16)) $$ Hrest
  icases Hrest with ⟨Ho, Hrest⟩
  ihave Ho := (Entails.of_eq (show (toSend (F := F) d L k.val : sProp 𝕄) = iprop(∃ f, oLoc d ↦[(oBlk (bk L k.val)).view.set]{fullShare} f) from rfl)) $$ Ho
  rw [ite_self, dif_pos hk.c5, wp_bind]
  iapply (step_enqOut d L fx fi (s := sl k.val) (b := bk L k.val) (hk.o13.trans (by rw [bk_val L h16])) hk.o12 hk.o14) $$ [Hb Ho]
  · isplitl [Hb]; · iexact Hb
    iexact Ho
  iintro HB'
  rw [ite_self]
  by_cases h0 : k.val = 0
  · rw [dif_neg (fun h => hk.c7.1 h h0), wp_pure]; imodintro
    ihave HB := (Entails.of_eq (show prevB d L fx fi k.val = idleB d L (sl (k.val + 1)) from if_pos h0)) $$ HB
    isplitr; · iexact Hlv
    iapply (inv_next d L fx fi qx qi (show (_, _, _, _, _) = words (k.val + 1) from hk.next))
    isplitl [Ha]; · iexact Ha
    isplitl [HA]; · iexact HA
    isplitl [HB]; · iexact HB
    isplitl [HB']; · iexact HB'
    isplitr; · rw [h0, done_zero]; iempintro
    isplitl [Hrest]; · iexact Hrest
    isplitl [Hx]; · iexact Hx
    isplitl [Hg]; · iexact Hg
    iexact HO
  · rw [dif_pos (hk.c7.2 h0), wp_bind]
    ihave HB := (Entails.of_eq (show prevB d L fx fi k.val = iprop(flB d L fx fi (sl (k.val + 1)) (bk L (k.val - 1)) ∗ done d L fx fi (k.val - 1)) from if_neg h0)) $$ HB
    icases HB with ⟨HB, Hdone⟩
    iapply (step_waitOut d L fx fi hO (s := sl (k.val + 1)) (b := bk L (k.val - 1)) ((hk.o16 h0).trans (by rw [bk_val L (by omega)])) (hk.o17 h0)) $$ [HB HO]
    · isplitr; · iexact Hlv
      isplitl [HB]; · iexact HB
      iexact HO
    iintro ⟨HB, Ho, HO⟩
    rw [wp_pure]; imodintro
    isplitr; · iexact Hlv
    iapply (inv_next d L fx fi qx qi (show (_, _, _, _, _) = words (k.val + 1) from hk.next))
    isplitl [Ha]; · iexact Ha
    isplitl [HA]; · iexact HA
    isplitl [HB]; · iexact HB
    isplitl [HB']; · iexact HB'
    isplitl [Ho Hdone]
    · obtain ⟨n, hn⟩ := Nat.exists_eq_succ_of_ne_zero h0
      rw [show k.val - 1 = n by omega, show k.val = n + 1 from hn, done_succ d L fx fi n (by omega)]
      unfold landed
      isplitl [Ho]; · iexact Ho
      iexact Hdone
    isplitl [Hrest]; · iexact Hrest
    isplitl [Hx]; · iexact Hx
    isplitl [Hg]; · iexact Hg
    iexact HO

end Cert.Proof.Gather

end
-- ==== Proof.Tile.lean ====
/-
  The task of one subcore: the first fetch, the sixteen trips, the last wait — from its share of the rows and of the row
  numbers and its sixteen blocks of the result, to the same with those blocks gathered.
-/
module

public import proofs.«01_k».proof.Proof.Trip

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A subcore's buffers, slot by slot -/

/-- The buffer of row numbers divides into two slots. -/
theorem aDiv : 2 ∣ S2x1x128.size 0 := ⟨1, rfl⟩
/-- The buffer of rows divides into two slots. -/
theorem bDiv : 2 ∣ S2x128x2x128.size 0 := ⟨1, rfl⟩
/-- The result divides into 512 blocks. -/
theorem oDiv : 512 ∣ S65536x2x128.size 0 := ⟨128, rfl⟩

/-- A slot of row numbers is one of the two parts of its buffer. -/
theorem aSlot_set (s : Fin 2) : (aSlot s).view.set = (Rect.part (s := S2x1x128) (a₀ := 0) aDiv s).set := by
  show (((View.whole (cc0_scoped0 : Ref sig .scVector)).slice (Rect.unit (s := S2x1x128) ![s.val, 0, 0] S1x1x128.size (aInb s))).reshape S1x128
    squeezes_S1x1x128_S1x128.numel_eq).set = _
  rw [View.set_reshape, View.set_slice]
  refine Finset.map_refl.trans (congrArg (fun r : Rect S2x1x128 => r.set) ?_)
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- A slot of rows is one of the two parts of its buffer. -/
theorem bSlot_set (s : Fin 2) : (bSlot s).view.set = (Rect.part (s := S2x128x2x128) (a₀ := 0) bDiv s).set := by
  show (((View.whole (cc0_scoped2 : Ref sig .scVector)).slice (Rect.unit (s := S2x128x2x128) ![s.val, 0, 0, 0] S1x128x2x128.size (bInb s))).reshape S128x2x128
    squeezes_S1x128x2x128_S128x2x128.numel_eq).set = _
  rw [View.set_reshape, View.set_slice]
  refine Finset.map_refl.trans (congrArg (fun r : Rect S2x128x2x128 => r.set) ?_)
  unfold Rect.part Rect.block
  congr 1 <;> funext a
  · match a with
    | 0 => simp [Shape.partIx, Shape.partSize]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

/-- A block of the result is one of its 512 parts. -/
theorem oBlk_set (b : Fin 512) : (oBlk b).view.set = (Rect.part (s := S65536x2x128) (a₀ := 0) oDiv b).set := by
  show ((View.whole (main_v11_scv : Ref sig .scVector)).slice (Rect.unit (s := S65536x2x128) ![128 * b.val, 0, 0] S128x2x128.size (oInb b))).set = _
  rw [View.set_slice]
  refine Finset.map_refl.trans (congrArg (fun r : Rect S65536x2x128 => r.set) ?_)
  unfold Rect.part Rect.block
  congr 1 <;> funext a
  · match a with
    | 0 => simp [Shape.partIx, Shape.partSize, Nat.mul_comm]
    | 1 => simp [Shape.partIx, Shape.partSize]
    | 2 => simp [Shape.partIx, Shape.partSize]
  · match a with
    | 0 => simp [Shape.partSize]
    | 1 => simp [Shape.partSize]
    | 2 => simp [Shape.partSize]

variable (d : Dev nD) (L : grid0.Coords)

/-- A buffer at some contents is the two parts it splits into, each at some contents. -/
theorem two_parts {ℓ : Loc nD τ sig} (A : Fin 2 → Finset (Idx ℓ)) (hdis : ∀ s ∈ (Finset.univ : Finset (Fin 2)), ∀ t ∈ (Finset.univ : Finset (Fin 2)), s ≠ t → Disjoint (A s) (A t))
    (hcov : (Finset.univ : Finset (Fin 2)).biUnion A = Finset.univ) :
    iprop(∃ f, ℓ ↦{fullShare} f) ⊣⊢ (iprop((∃ f, ℓ ↦[A 0]{fullShare} f) ∗ ∃ f, ℓ ↦[A 1]{fullShare} f) : sProp 𝕄) := by
  have e1 : ∀ f : Fin 2 → Buf (Elt F) ℓ, bigSep Finset.univ (fun s : Fin 2 => (ℓ ↦[A s]{fullShare} f s : sProp 𝕄))
      = iprop((ℓ ↦[A 0]{fullShare} f 0) ∗ ℓ ↦[A 1]{fullShare} f 1) := fun f => bigSep_fin_two _
  have e2 : ∀ f : Buf (Elt F) ℓ, (ℓ ↦{fullShare} f : sProp 𝕄) = iprop((ℓ ↦[A 0]{fullShare} f) ∗ ℓ ↦[A 1]{fullShare} f) := fun f => by
    rw [← e1 (fun _ => f), ← pointsTo_biUnion Finset.univ (ℓ := ℓ) A hdis, hcov]
  refine ⟨?_, ?_⟩
  · iintro ⟨%f, H⟩
    ihave H := (Entails.of_eq (e2 f)) $$ H
    icases H with ⟨H0, H1⟩
    isplitl [H0]
    · iexists f; iexact H0
    · iexists f; iexact H1
  · iintro ⟨⟨%f, H0⟩, ⟨%g, H1⟩⟩
    ihave H := (Entails.of_eq (e1 ![f, g]).symm) $$ [H0 H1]
    · isplitl [H0]
      · iexact H0
      · iexact H1
    ihave H := (pointsTo_biUnion_join (ℓ := ℓ) (q := fullShare) (Val := Elt F) Finset.univ A ![f, g] f hdis) $$ H
    icases H with ⟨%h, -, H⟩
    rw [hcov]
    iexists h; iexact H

/-- A subcore's buffer of row numbers is its two slots. -/
theorem aBuf_slots :
    iprop(∃ f, (thr d L).loc cc0_scoped0 ↦{fullShare} f)
      ⊣⊢ (iprop((∃ f, (aSlot 0).view.loc (thr d L) ↦[(aSlot 0).view.set]{fullShare} f) ∗ ∃ f, (aSlot 1).view.loc (thr d L) ↦[(aSlot 1).view.set]{fullShare} f) : sProp 𝕄) :=
  two_parts (ℓ := (thr d L).loc cc0_scoped0) (fun s => (aSlot s).view.set)
    (fun s _ t _ h => by show Disjoint (aSlot s).view.set (aSlot t).view.set; rw [aSlot_set, aSlot_set]; exact Rect.part_disjoint aDiv h)
    ((Finset.biUnion_congr rfl fun s _ => aSlot_set s).trans (Rect.biUnion_part aDiv))

/-- A subcore's buffer of rows is its two slots. -/
theorem bBuf_slots :
    iprop(∃ f, (thr d L).loc cc0_scoped2 ↦{fullShare} f)
      ⊣⊢ (iprop((∃ f, (bSlot 0).view.loc (thr d L) ↦[(bSlot 0).view.set]{fullShare} f) ∗ ∃ f, (bSlot 1).view.loc (thr d L) ↦[(bSlot 1).view.set]{fullShare} f) : sProp 𝕄) :=
  two_parts (ℓ := (thr d L).loc cc0_scoped2) (fun s => (bSlot s).view.set)
    (fun s _ t _ h => by show Disjoint (bSlot s).view.set (bSlot t).view.set; rw [bSlot_set, bSlot_set]; exact Rect.part_disjoint bDiv h)
    ((Finset.biUnion_congr rfl fun s _ => bSlot_set s).trans (Rect.biUnion_part bDiv))

/-- The two buffers are among the subcore's own, which are those and the rest. -/
theorem ownBufs_thr :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The five semaphores of the pipeline. -/
abbrev sems5 : Finset (SemLoc sig) := {.dma (aSem 0), .dma (aSem 1), .dma (bSem 0), .dma (bSem 1), .dma gSem}
/-- The five semaphores are the subcore's own. -/
theorem sems5_scoped : ∀ s ∈ sems5, (s : SemLoc sig).isScoped .scVector = true := by decide
/-- A statement over the five semaphores is the five statements. -/
theorem sems5_sep (Φ : SemLoc sig → sProp 𝕄) :
    bigSep sems5 Φ = iprop(Φ (.dma (aSem 0)) ∗ Φ (.dma (aSem 1)) ∗ Φ (.dma (bSem 0)) ∗ Φ (.dma (bSem 1)) ∗ Φ (.dma gSem)) := by
  unfold sems5
  rw [SparseCore.bigSep_insert' (by decide), SparseCore.bigSep_insert' (by decide), SparseCore.bigSep_insert' (by decide),
    SparseCore.bigSep_insert' (by decide), bigSep_singleton]

/-- They are among the subcore's own, which are those and the rest. -/
theorem ownSems0_thr :
    (ownSems0 (thr d L) : sProp 𝕄)
      = iprop((semVal (thr d L, .dma (aSem 0)) 0 ∗ semVal (thr d L, .dma (aSem 1)) 0 ∗ semVal (thr d L, .dma (bSem 0)) 0
          ∗ semVal (thr d L, .dma (bSem 1)) 0 ∗ semVal (thr d L, .dma gSem) 0)
          ∗ bigSep (ownCells (thr d L) \ sems5.map ⟨fun s => ((thr d L, s) : GSem nD τ sig), fun _ _ h => (Prod.mk.inj h).2⟩) fun g => semVal g 0) := by
  unfold SparseCore.Cfg.ownSems0
  rw [SparseCore.bigSep_sdiff_split' (s := ownCells (thr d L)) (t := sems5.map ⟨fun s => ((thr d L, s) : GSem nD τ sig), fun _ _ h => (Prod.mk.inj h).2⟩)
    (fun g hg => by
      obtain ⟨s, hs, rfl⟩ := Finset.mem_map.1 hg
      exact mem_ownCells.2 ⟨rfl, sems5_scoped s hs⟩), bigSep_map]
  congr 1
  exact sems5_sep (F := F) (fun s => semVal (thr d L, s) 0)

/-! ## The task -/

variable [FloatOps F] (fx : Buf (Elt F) (xLoc d)) (fi : Buf (Elt F) (iLoc d)) (qx qI : PosShare TreeShare)

/-- The halves of the task's share of the row numbers, one for each slot. -/
def halves (s : Fin 2) : PosShare TreeShare := if s = 0 then qI.left else qI.right

/-- What a task takes: shares of the rows and of the row numbers, its sixteen blocks of the result. -/
def taken : sProp 𝕄 := iprop((xLoc d ↦{qx} fx) ∗ (iLoc d ↦{qI} fi) ∗ bigSep Finset.univ fun j : Fin 16 => toSend (F := F) d L j.val)
/-- What it brings back: the same shares, its blocks gathered. -/
def brought : sProp 𝕄 := iprop((xLoc d ↦{qx} fx) ∗ (iLoc d ↦{qI} fi) ∗ bigSep Finset.univ fun j : Fin 16 => landed d L fx fi j.val)

/-- Before the loop the first block's fetch is started. -/
theorem tile_prologue {Q : BitVec 32 → sProp 𝕄} (qi : Fin 2 → PosShare TreeShare) :
    idleA d L fi (qi 0) 0 ⊢ iprop((nextA d L fi qi 0 -∗ Q (base L))
      -∗ wp frame (wpE (defs₀ (F := F)) 𝒱₀ (thr d L) none) Set.univ
        (k0_part3 L xV (Memref.isWhole_whole _) iV (Memref.isWhole_whole _) oV (Memref.isWhole_whole _) aV (Memref.isWhole_whole _) cc0_scoped1
          bV (Memref.isWhole_whole _) cc0_scoped3 cc0_scoped4) Q) := by
  rw [k0_part3_eq_skeleton]; unfold k0_part3_skel
  iintro Ha HQ
  rw [wp_bind]
  iapply (step_enqIdx d L fi (qi 0) (s := 0) (b := bk L 0) ((k0_off2_eq L).trans (by
    rw [bk_val L (by decide)]; unfold blkN
    rw [show 2048 * (L 1).val + 32768 * (L 0).val = 128 * (16 * ((L 1).val + 16 * (L 0).val) + 0) by omega])) k0_off1_eq k0_off3_eq) $$ Ha
  iintro Ha
  rw [wp_pure]; imodintro
  iapply HQ
  ihave Ha := (Entails.of_eq (show flA d L fi (qi 0) 0 (bk L 0) = nextA d L fi qi 0 from (if_pos (by decide)).symm)) $$ Ha
  iexact Ha

/-- The loop takes the state before its first trip to the state after its sixteenth. -/
theorem tile_loop (hfi : ∀ j, BitVec.toNat (w := 32) (fi j) < 69632) (qi : Fin 2 → PosShare TreeShare) {O : CellTallies nD τ sig (HIx 1)} {W : Waits sig (HIx 1)} (hO : ∀ g, O g none = 0)
    {Q : _ → sProp 𝕄} :
    iprop(levAts (K (F := F)).L (K (F := F)).lev ∗ inv d L fx fi qx qi O W 0 (words 0)) ⊢ iprop((inv d L fx fi qx qi O W 16 (words 16) -∗
        Q ⟨(words 16).2.2.2.1, (words 16).2.2.2.2, chk5_ok L, chk4_ok⟩)
      -∗ wp frame (wpE (defs₀ (F := F)) 𝒱₀ (thr d L) none) Set.univ
        (k0_part4 L xV (Memref.isWhole_whole _) iV (Memref.isWhole_whole _) oV (Memref.isWhole_whole _) aV (Memref.isWhole_whole _) cc0_scoped1
          bV (Memref.isWhole_whole _) cc0_scoped3 cc0_scoped4 (base L)) Q) := by
  rw [k0_part4_eq_skeleton]; unfold k0_part4_skel
  iintro H HQ
  iapply (Scf.wp_for_bind frame (wpE (defs₀ (F := F)) 𝒱₀ (thr d L) none) Set.univ _ _ _ k0_t1_ok _ _
    (fun n acc => iprop(levAts (K (F := F)).L (K (F := F)).lev ∗ inv d L fx fi qx qi O W n acc)) (fun k acc => trip d L fx fi qx qi hfi hO k acc)) $$ [H]
  · iexact H
  iintro %acc ⟨-, HI⟩
  ihave HI := (Entails.of_eq (show inv d L fx fi qx qi O W k0_t1_loop.trips acc = inv d L fx fi qx qi O W 16 acc from by rw [trips_eq])) $$ HI
  ihave HI := (Entails.of_eq (inv_eq d L fx fi qx qi)) $$ HI
  icases HI with ⟨%hacc, HI⟩
  subst hacc
  dsimp only
  rw [wp_lift_assume (chk5_ok L), wp_lift_assume chk4_ok, wp_pure]
  imodintro
  iapply HQ
  iapply (Entails.of_eq (inv_eq d L fx fi qx qi).symm)
  isplitr; · ipureintro; rfl
  iexact HI

/-- After the loop the block awaited is the last trip's. -/
theorem chk_off19 : k0_off19 L (words 16).2.2.2.2 = ![128 * (bk L 15).val, 0, 0] := (off19_eq L).trans (by rw [bk_val L (by decide)])

set_option maxHeartbeats 1000000 in
/-- The task of the subcore at grid point `L`. -/
theorem tile_body (hfi : ∀ j, BitVec.toNat (w := 32) (fi j) < 69632) (O : CellTallies nD τ sig (HIx 1)) (W : Waits sig (HIx 1)) (hO : ∀ g, O g none = 0) :
    iprop(levAts (K (F := F)).L (K (F := F)).lev ∗ emp ∗ taken d L fx fi qx qI ∗ scopedBufs (thr d L) ∗ scopedSems0 (thr d L) ∗ owes (thr d L) O W)
      ⊢ wp frame (wpE (defs₀ (F := F)) 𝒱₀ (thr d L) none) Set.univ
          (cc0_gather_kernel L xV (Memref.isWhole_whole _) iV (Memref.isWhole_whole _) oV (Memref.isWhole_whole _) aV (Memref.isWhole_whole _) cc0_scoped1
            bV (Memref.isWhole_whole _) cc0_scoped3 cc0_scoped4)
          fun _ => iprop(brought d L fx fi qx qI ∗ scopedBufs (thr d L) ∗ scopedSems0 (thr d L)
            ∗ ∃ W', ⌜∀ p ∈ W', p ∈ W ∨ p.2 = none⌝ ∗ owes (thr d L) O W') := by
  rw [(K (F := F)).scopedBufs_V launchFacts d (cV L) (jV L), SparseCore.Cfg.scopedSems0_V (Val := Elt F) d (cV L) (jV L), ownSems0_thr, ownBufs_thr]
  rw [cc0_gather_kernel_eq_skeleton]; unfold cc0_gather_kernel_skel
  unfold taken brought
  iintro ⟨#Hlv, -, ⟨Hx, Hi, Ho⟩, ⟨Ha, Hb, Hbufs⟩, ⟨⟨HA0, HA1, HB0, HB1, Hg⟩, Hsems⟩, HO⟩
  ihave Ha := (aBuf_slots (F := F) d L).1 $$ Ha
  icases Ha with ⟨Ha0, Ha1⟩
  ihave Hb := (bBuf_slots (F := F) d L).1 $$ Hb
  icases Hb with ⟨Hb0, Hb1⟩
  ihave Hi := (pointsTo_share (PosShare.mem_left_op_right qI)).1 $$ Hi
  icases Hi with ⟨Hi0, Hi1⟩
  rw [wp_bind]
  iapply (tile_prologue d L fi (halves qI)) $$ [Ha0 HA0 Hi0]
  · unfold idleA
    isplitl [Ha0]; · iexact Ha0
    isplitl [HA0]; · iexact HA0
    iexact Hi0
  iintro HA0
  rw [wp_bind]
  iapply (tile_loop d L fx fi qx hfi (halves qI) hO (O := O) (W := W)) $$ [HA0 Ha1 HA1 Hi1 Hb0 Hb1 HB0 HB1 Ho Hx Hg HO]
  · isplitr; · iexact Hlv
    iapply (Entails.of_eq (inv_eq d L fx fi qx (halves qI)).symm)
    isplitr; · ipureintro; rfl
    isplitl [HA0]; · iexact HA0
    isplitl [Ha1 HA1 Hi1]
    · unfold idleA
      isplitl [Ha1]; · iexact Ha1
      isplitl [HA1]; · iexact HA1
      iexact Hi1
    isplitl [Hb0 HB0]
    · unfold idleB
      isplitl [Hb0]; · iexact Hb0
      iexact HB0
    isplitl [Hb1 HB1]
    · iapply (Entails.of_eq (show prevB d L fx fi 0 = idleB d L (sl 1) from if_pos rfl).symm)
      unfold idleB
      isplitl [Hb1]; · iexact Hb1
      iexact HB1
    isplitl [Ho]
    · iapply (Entails.of_eq (show (rest (F := F) d L 0 : sProp 𝕄) = bigSep Finset.univ fun j : Fin 16 => toSend (F := F) d L j.val by
        unfold rest; congr 1).symm)
      iexact Ho
    isplitl [Hx]; · iexact Hx
    isplitl [Hg]; · iexact Hg
    iexists W; isplitr
    · ipureintro; exact fun p hp => .inl hp
    · iexact HO
  iintro HI
  ihave HI := (Entails.of_eq (inv_eq d L fx fi qx (halves qI))) $$ HI
  icases HI with ⟨-, HA0, HA1, HB0, HB1, -, Hx, Hg, HO⟩
  ihave HA0 := (Entails.of_eq (show nextA d L fi (halves qI) 16 = idleA d L fi (halves qI 0) 0 from if_neg (by decide))) $$ HA0
  ihave HB1 := (Entails.of_eq (show prevB d L fx fi 16 = iprop(flB d L fx fi 1 (bk L 15) ∗ done d L fx fi 15) from if_neg (by decide))) $$ HB1
  icases HB1 with ⟨HB1, Hdone⟩
  dsimp only
  rw [wp_bind]
  iapply (step_waitOut d L fx fi hO (s := 1) (b := bk L 15) (chk_off19 L) off20_eq) $$ [HB1 HO]
  · isplitr; · iexact Hlv
    isplitl [HB1]; · iexact HB1
    iexact HO
  iintro ⟨HB1, Ho, HO⟩
  rw [wp_pure]; imodintro
  ihave HA0 := (Entails.of_eq (show idleA d L fi (halves qI 0) 0 = iprop((∃ f, (aSlot 0).view.loc (thr d L) ↦[(aSlot 0).view.set]{fullShare} f)
    ∗ semVal (thr d L, SemLoc.dma (aSem 0)) 0 ∗ iLoc d ↦{qI.left} fi) from rfl)) $$ HA0
  ihave HA1 := (Entails.of_eq (show idleA d L fi (halves qI (sl 17)) (sl 17) = iprop((∃ f, (aSlot 1).view.loc (thr d L) ↦[(aSlot 1).view.set]{fullShare} f)
    ∗ semVal (thr d L, SemLoc.dma (aSem 1)) 0 ∗ iLoc d ↦{qI.right} fi) from rfl)) $$ HA1
  ihave HB0 := (Entails.of_eq (show (idleB (F := F) d L (sl 16) : sProp 𝕄) = iprop((∃ f, (bSlot 0).view.loc (thr d L) ↦[(bSlot 0).view.set]{fullShare} f)
    ∗ semVal (thr d L, SemLoc.dma (bSem 0)) 0) from rfl)) $$ HB0
  ihave HB1 := (Entails.of_eq (show (idleB (F := F) d L 1 : sProp 𝕄) = iprop((∃ f, (bSlot 1).view.loc (thr d L) ↦[(bSlot 1).view.set]{fullShare} f)
    ∗ semVal (thr d L, SemLoc.dma (bSem 1)) 0) from rfl)) $$ HB1
  icases HA0 with ⟨Ha0, HA0, Hi0⟩
  icases HA1 with ⟨Ha1, HA1, Hi1⟩
  icases HB0 with ⟨Hb0, HB0⟩
  icases HB1 with ⟨Hb1, HB1⟩
  isplitl [Hx Hi0 Hi1 Ho Hdone]
  · isplitl [Hx]; · iexact Hx
    isplitl [Hi0 Hi1]
    · iapply (pointsTo_share (PosShare.mem_left_op_right qI)).2
      isplitl [Hi0]; · iexact Hi0
      iexact Hi1
    iapply (Entails.of_eq (show iprop(landed d L fx fi 15 ∗ done d L fx fi 15) = bigSep Finset.univ fun j : Fin 16 => landed d L fx fi j.val by
        rw [← done_succ d L fx fi 15 (by decide)]; unfold done; congr 1))
    unfold landed
    isplitl [Ho]; · iexact Ho
    iexact Hdone
  isplitl [Ha0 Ha1 Hb0 Hb1 Hbufs]
  · isplitl [Ha0 Ha1]
    · iapply (aBuf_slots (F := F) d L).2
      isplitl [Ha0]; · iexact Ha0
      iexact Ha1
    isplitl [Hb0 Hb1]
    · iapply (bBuf_slots (F := F) d L).2
      isplitl [Hb0]; · iexact Hb0
      iexact Hb1
    iexact Hbufs
  isplitl [HA0 HA1 HB0 HB1 Hg Hsems]
  · isplitr [Hsems]
    · isplitl [HA0]; · iexact HA0
      isplitl [HA1]; · iexact HA1
      isplitl [HB0]; · iexact HB0
      isplitl [HB1]; · iexact HB1
      iexact Hg
    iexact Hsems
  iexact HO

end Cert.Proof.Gather

end
-- ==== Proof.Launch.lean ====
/-
  The launch: what the call takes and brings back, split among the two SparseCores and their sixteen subcores each.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ShareLeaves

variable {F : FTy → Type}

local notation "𝕄" => MT nD τ sig (HIx 1) (Elt F) ℕ UU ℕ

/-! ## Grid points and their blocks -/

/-- The grid point of subcore `s` of SparseCore `c`. -/
def coordsV (c : Fin 2) (s : Fin 16) : grid0.Coords :=
  fun | 0 => c | 1 => s | ⟨_ + 2, h⟩ => absurd h (Nat.not_lt.2 (Nat.le_add_left _ _))

/-- The block a triple of SparseCore, subcore and trip names. -/
def blkOf (t : Fin 2 × Fin 16 × Fin 16) : Fin 512 := bk (coordsV t.1 t.2.1) t.2.2.val

/-- The number of the block that a core, a subcore and a trip name. -/
theorem blkOf_val (t : Fin 2 × Fin 16 × Fin 16) : (blkOf t).val = 16 * (t.2.1.val + 16 * t.1.val) + t.2.2.val :=
  bk_val (coordsV t.1 t.2.1) t.2.2.isLt

/-- No two triples name the same block. -/
theorem blkOf_injective : Function.Injective blkOf := by
  rintro ⟨c, s, j⟩ ⟨c', s', j'⟩ h
  have e := congrArg Fin.val h
  rw [blkOf_val, blkOf_val] at e
  dsimp only at e
  have h1 := s.isLt; have h2 := s'.isLt; have h3 := j.isLt; have h4 := j'.isLt
  have hc : c = c' := Fin.ext (by omega)
  have hs : s = s' := Fin.ext (by omega)
  have hj : j = j' := Fin.ext (by omega)
  rw [hc, hs, hj]

/-- Every block is named. -/
theorem blkOf_surjective : Function.Surjective blkOf := fun b =>
  ⟨(⟨b.val / 256, by omega⟩, ⟨b.val / 16 % 16, by omega⟩, ⟨b.val % 16, by omega⟩), Fin.ext (by rw [blkOf_val]; dsimp only; omega)⟩

abbrev blkSet (t : Fin 2 × Fin 16 × Fin 16) : Finset S65536x2x128.Idx := (oBlk (blkOf t)).view.set

/-- Different triples have disjoint blocks of the result. -/
theorem blkSet_disjoint : ∀ t ∈ (Finset.univ : Finset (Fin 2 × Fin 16 × Fin 16)), ∀ t' ∈ (Finset.univ : Finset (Fin 2 × Fin 16 × Fin 16)), t ≠ t' →
    Disjoint (blkSet t) (blkSet t') := fun t _ t' _ h => by
  show Disjoint (oBlk (blkOf t)).view.set (oBlk (blkOf t')).view.set
  rw [oBlk_set, oBlk_set]
  exact Rect.part_disjoint oDiv fun e => h (blkOf_injective e)

/-- The blocks of all triples make up the result. -/
theorem blkSet_cover : (Finset.univ : Finset (Fin 2 × Fin 16 × Fin 16)).biUnion blkSet = Finset.univ := by
  refine Finset.eq_univ_iff_forall.2 fun x => ?_
  have hx : x ∈ (Finset.univ : Finset (Fin 512)).biUnion fun b => (Rect.part (s := S65536x2x128) (a₀ := 0) oDiv b).set := by
    rw [Rect.biUnion_part oDiv]; exact Finset.mem_univ x
  obtain ⟨b, -, hb⟩ := Finset.mem_biUnion.1 hx
  obtain ⟨t, rfl⟩ := blkOf_surjective b
  exact Finset.mem_biUnion.2 ⟨t, Finset.mem_univ t, by rw [show blkSet t = _ from oBlk_set (blkOf t)]; exact hb⟩

/-- The result is its blocks, by SparseCore, subcore and trip. -/
theorem oPts_blocks (d : Dev nD) (f : Buf (Elt F) (oLoc d)) :
    (oLoc d ↦{fullShare} f : sProp 𝕄)
      = bigSep Finset.univ fun c : Fin 2 => bigSep Finset.univ fun s : Fin 16 => bigSep Finset.univ fun j : Fin 16 =>
          oLoc d ↦[(oBlk (bk (coordsV c s) j.val)).view.set]{fullShare} f := by
  have h : (oLoc d ↦{fullShare} f : sProp 𝕄) = bigSep Finset.univ fun t : Fin 2 × Fin 16 × Fin 16 => oLoc d ↦[blkSet t]{fullShare} f := by
    rw [← pointsTo_biUnion Finset.univ (ℓ := oLoc d) blkSet blkSet_disjoint, blkSet_cover]
  rw [h, ← Finset.univ_product_univ, SparseCore.bigSep_product]
  refine bigSep_congr fun c _ => ?_
  rw [← Finset.univ_product_univ, SparseCore.bigSep_product]
  rfl

/-! ## What the handshakes carry -/

/-- SparseCore `c`'s share of an operand, and its subcore `s`'s share of that. -/
abbrev coreQ (c : Fin 2) : PosShare TreeShare := leaf 1 fullShare c
abbrev tileQ (c : Fin 2) (s : Fin 16) : PosShare TreeShare := leaf 4 (coreQ c) s

variable [FloatOps F] (fx : (d : Dev nD) → Buf (Elt F) (xLoc d)) (fi : (d : Dev nD) → Buf (Elt F) (iLoc d))

/-- What a subcore takes and brings back. -/
abbrev goAt (d : Dev nD) (c : Fin 2) (s : Fin 16) : sProp 𝕄 := taken d (coordsV c s) (fx d) (fi d) (tileQ c s) (tileQ c s)
abbrev tdAt (d : Dev nD) (c : Fin 2) (s : Fin 16) : sProp 𝕄 := brought d (coordsV c s) (fx d) (fi d) (tileQ c s) (tileQ c s)
/-- What a SparseCore takes and brings back. -/
abbrev stAt (d : Dev nD) (c : Fin 2) : sProp 𝕄 := bigSep Finset.univ fun s : Fin 16 => goAt fx fi d c s
abbrev dnAt (d : Dev nD) (c : Fin 2) : sProp 𝕄 := bigSep Finset.univ fun s : Fin 16 => tdAt fx fi d c s

/-- The call's payloads. -/
def P : (K (F := F)).Pay (nD := nD) (Val := Elt F) (Name := ℕ) (U := UU) where
  st := fun q d c => match q with | 0 => stAt fx fi d (Fin.cast nCore_zero c)
  dn := fun q d c => match q with | 0 => dnAt fx fi d (Fin.cast nCore_zero c)
  go := fun q d c i => match q with | 0 => goAt fx fi d (Fin.cast nCore_zero c) (Fin.cast nSub_zero i)
  td := fun q d c i => match q with | 0 => tdAt fx fi d (Fin.cast nCore_zero c) (Fin.cast nSub_zero i)
  x := fun _ _ => iprop(emp)

instance taken_storable (d : Dev nD) (L : grid0.Coords) (gx : Buf (Elt F) (xLoc d)) (gi : Buf (Elt F) (iLoc d)) (qx qI : PosShare TreeShare) :
    BI.Storable (upEmb : UEmb _ 𝕄) (taken d L gx gi qx qI) := by unfold taken toSend; infer_instance
instance brought_storable (d : Dev nD) (L : grid0.Coords) (gx : Buf (Elt F) (xLoc d)) (gi : Buf (Elt F) (iLoc d)) (qx qI : PosShare TreeShare) :
    BI.Storable (upEmb : UEmb _ 𝕄) (brought d L gx gi qx qI) := by unfold brought landed; infer_instance

instance P_storable : (P (F := F) fx fi).IsStorable where
  st q d c := match q with
    | 0 => (inferInstance : BI.Storable (upEmb : UEmb _ 𝕄) (stAt fx fi d (Fin.cast nCore_zero c)))
  dn q d c := match q with
    | 0 => (inferInstance : BI.Storable (upEmb : UEmb _ 𝕄) (dnAt fx fi d (Fin.cast nCore_zero c)))
  go q d c i := match q with
    | 0 => (inferInstance : BI.Storable (upEmb : UEmb _ 𝕄) (goAt fx fi d (Fin.cast nCore_zero c) (Fin.cast nSub_zero i)))
  td q d c i := match q with
    | 0 => (inferInstance : BI.Storable (upEmb : UEmb _ 𝕄) (tdAt fx fi d (Fin.cast nCore_zero c) (Fin.cast nSub_zero i)))

/-! ## A subcore's obligation -/

/-- What a vector subcore runs is the call's body at its grid point. -/
theorem defs₀_vector (c : Fin τ.nSC) (s : Fin τ.nSub) :
    defs₀ (F := F) (.scVector c s) 0 ()
      = SparseCore.onTile hcore0 hsub0 (fun c s => cc0_gather_kernel (coordsV c s) xV (Memref.isWhole_whole _) iV (Memref.isWhole_whole _) oV (Memref.isWhole_whole _)
          aV (Memref.isWhole_whole _) cc0_scoped1 bV (Memref.isWhole_whole _) cc0_scoped3 cc0_scoped4) ⟨⟩ c s := rfl

omit [FloatOps F] in
/-- A task that recorded waits of its own only has recorded no others. -/
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the proof asks of the row numbers: each is a row. -/
def RowsOK : Prop := ∀ (d : Dev nD) (j : S1x65536.Idx), BitVec.toNat (w := 32) (fi d j) < 69632

variable {fi}

set_option maxRecDepth 16384 in
/-- Every subcore's task, from what it was dealt, brings back its blocks gathered. -/
theorem tileObl (hfi : RowsOK fi) : (K (F := F)).TileObl (D (F := F)) 𝒱 (P fx fi) v₀ 0 := by
  intro d c i O W hO _ _
  simp only [show (P fx fi).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fx d) (fi d) _ _ (hfi d) O W hO).trans (wp_mono frame _ _ fun _ => obl_post)

/-! ## Splitting and joining -/

variable (fi)

omit [FloatOps F] in
/-- A statement over the call's subcores is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
/-- A statement over the call's SparseCores is one over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's sequencer deals its subcores what it was dealt, and collects what they bring. -/
theorem vecSplit : (K (F := F)).VecSplit' (P fx fi) 0 := by
  intro d c
  show stAt fx fi d (Fin.cast nCore_zero c) ⊢ |={Set.univ}=> iprop(
      (bigSep Finset.univ fun i : Fin ((K (F := F)).nSub 0) => goAt fx fi d (Fin.cast nCore_zero c) (Fin.cast nSub_zero i))
      ∗ ((bigSep Finset.univ fun i : Fin ((K (F := F)).nSub 0) => tdAt fx fi d (Fin.cast nCore_zero c) (Fin.cast nSub_zero i))
          -∗ dnAt fx fi d (Fin.cast nCore_zero c)))
  rw [bigSep_tasks (F := F) (fun s => goAt fx fi d (Fin.cast nCore_zero c) s), bigSep_tasks (F := F) (fun s => tdAt fx fi d (Fin.cast nCore_zero c) s)]
  iintro H; imodintro
  isplitl [H]; · iexact H
  iintro H; iexact H

omit [FloatOps F] in
/-- An operand is the subcores' shares of it. -/
theorem pts_shares {ℓ : Loc nD τ sig} (f : Buf (Elt F) ℓ) :
    (ℓ ↦{fullShare} f : sProp 𝕄) = bigSep Finset.univ fun c : Fin 2 => bigSep Finset.univ fun s : Fin 16 => ℓ ↦{tileQ c s} f :=
  (pointsTo_leaves Finset.univ f 1 fullShare).trans (bigSep_congr fun c _ => pointsTo_leaves Finset.univ f 4 (coreQ c))

/-- The operands and the result whole are what the SparseCores take. -/
theorem st_intro (d : Dev nD) : iprop((xLoc d ↦{fullShare} fx d) ∗ (iLoc d ↦{fullShare} fi d) ∗ ∃ f, oLoc d ↦{fullShare} f)
    ⊢ bigSep Finset.univ fun c : Fin ((K (F := F)).nCore 0) => (P fx fi).st 0 d c := by
  have e : (bigSep Finset.univ fun c : Fin ((K (F := F)).nCore 0) => (P fx fi).st 0 d c)
      = iprop((xLoc d ↦{fullShare} fx d) ∗ (iLoc d ↦{fullShare} fi d)
        ∗ bigSep Finset.univ fun c : Fin 2 => bigSep Finset.univ fun s : Fin 16 => bigSep Finset.univ fun j : Fin 16 => toSend (F := F) d (coordsV c s) j.val) := by
    refine (bigSep_cores (F := F) (fun c => stAt fx fi d c)).trans ?_
    unfold stAt goAt taken
    simp only [bigSep_sep']
    rw [← pts_shares, ← pts_shares]
  iintro ⟨Hx, Hi, %f, Ho⟩
  iapply (Entails.of_eq e.symm)
  isplitl [Hx]; · iexact Hx
  isplitl [Hi]; · iexact Hi
  ihave Ho := (Entails.of_eq (oPts_blocks d f)) $$ Ho
  have h : ∀ (c : Fin 2) (s j : Fin 16), (oLoc d ↦[(oBlk (bk (coordsV c s) j.val)).view.set]{fullShare} f : sProp 𝕄)
      ⊢ toSend (F := F) d (coordsV c s) j.val := fun c s j => by
    unfold toSend; iintro H; iexists f; iexact H
  iapply (show (bigSep Finset.univ fun c : Fin 2 => bigSep Finset.univ fun s : Fin 16 => bigSep Finset.univ fun j : Fin 16 =>
          (oLoc d ↦[(oBlk (bk (coordsV c s) j.val)).view.set]{fullShare} f : sProp 𝕄))
        ⊢ bigSep Finset.univ fun c : Fin 2 => bigSep Finset.univ fun s : Fin 16 => bigSep Finset.univ fun j : Fin 16 => toSend (F := F) d (coordsV c s) j.val from
      bigSep_mono fun c _ => bigSep_mono fun s _ => bigSep_mono fun j _ => h c s j) $$ Ho

/-- What the SparseCores bring back is the operands and the gathered rows whole. -/
theorem dn_elim (d : Dev nD) : (bigSep Finset.univ fun c : Fin ((K (F := F)).nCore 0) => (P fx fi).dn 0 d c)
    = iprop((xLoc d ↦{fullShare} fx d) ∗ (iLoc d ↦{fullShare} fi d) ∗ oLoc d ↦{fullShare} gathered (fx d) (fi d)) := by
  refine (bigSep_cores (F := F) (fun c => dnAt fx fi d c)).trans ?_
  unfold dnAt tdAt brought
  simp only [bigSep_sep']
  rw [← pts_shares, ← pts_shares, oPts_blocks]
  rfl

end Cert.Proof.Gather

end
-- ==== Proof.Main.lean ====
/-
  The program on the TensorCore: the row numbers are prepared, the SparseCores gather, and the gathered rows are shaped
  into the result. From it the whole program's run.
-/
module

public import proofs.«01_k».proof.Proof.Launch

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## The TensorCore's arrays -/

/-- The arrays that live for the whole program, and the same as a device's buffers. -/
def hostRefs : Finset (Ref sig .tc) :=
  {main_arg0, main_arg1, main_v0, main_v1, main_c, main_v2, main_v3, main_v4, main_v5, main_v6, main_v7, main_v8, main_v9, main_v10, main_v11, main_v12}
def hostBufs : Finset (DevRef τ sig) := hostRefs.map ⟨Proc.devRef .tc, Proc.devRef_injective _⟩

/-- A host array is among the host's buffers. -/
theorem mem_hostBufs {b : Ref sig .tc} (h : b ∈ hostRefs) : (Proc.devRef .tc b : DevRef τ sig) ∈ hostBufs :=
  Finset.mem_map_of_mem _ h

abbrev y' : DevRef τ sig := Proc.devRef .tc (main_arg0 : Ref sig .tc)
abbrev p' : DevRef τ sig := Proc.devRef .tc (main_arg1 : Ref sig .tc)
abbrev x' : DevRef τ sig := Proc.devRef .tc (main_v9 : Ref sig .tc)
abbrev i' : DevRef τ sig := Proc.devRef .tc (main_v10 : Ref sig .tc)
abbrev o' : DevRef τ sig := Proc.devRef .tc (main_v11 : Ref sig .tc)
abbrev r' : DevRef τ sig := Proc.devRef .tc (main_v12 : Ref sig .tc)

/-- The same as locations. -/
abbrev yLoc (d : Dev nD) : Loc nD τ sig := (SparseCore.T d).loc main_arg0
abbrev pLoc (d : Dev nD) : Loc nD τ sig := (SparseCore.T d).loc main_arg1
abbrev rLoc (d : Dev nD) : Loc nD τ sig := (SparseCore.T d).loc main_v12

omit [FloatOps F] in
/-- What the launch gives the TensorCore of its arrays is these, each whole. -/
theorem unscoped_held (d : Dev nD) (m : (ℓ : Loc nD τ sig) → Buf (Elt F) ℓ) :
    (unscopedBufs d (fun b => m ((SparseCore.T d).loc b)) : sProp 𝕄) = held (SparseCore.T d) hostBufs (fun b => m (d, b)) := by
  unfold unscopedBufs held hostBufs
  rw [bigSep_map, show (Finset.univ.filter fun b : Ref sig .tc => ¬ b.isScoped) = hostRefs by decide]
  rfl

/-! ## The operations before and after the call -/

/-- The operations before the call: the row numbers, and the rows shaped as the call reads them. -/
abbrev preOps : List (HloOp τ sig (Elt F)) :=
  [ nullary main_v0 (iotaInDim S2 32 0),
    unary main_v0 main_v1 (broadcastInDim S2x1 ![0] bcast_S2_S2x1_0 : (⟨S2, .i32⟩ : BufTy).Contents (Elt F) → (⟨S2x1, .i32⟩ : BufTy).Contents (Elt F)),
    nullary main_c (constantI S_ 32 34816#32),
    unary main_c main_v2 (broadcastInDim S2x1 ![] bcast_S_S2x1 : (⟨S_, .i32⟩ : BufTy).Contents (Elt F) → (⟨S2x1, .i32⟩ : BufTy).Contents (Elt F)),
    binary main_v1 main_v2 main_v3 (muli : (⟨S2x1, .i32⟩ : BufTy).Contents (Elt F) → (⟨S2x1, .i32⟩ : BufTy).Contents (Elt F) → (⟨S2x1, .i32⟩ : BufTy).Contents (Elt F)),
    unary main_arg1 main_v4 (broadcastInDim S1x32768 ![1] bcast_S32768_S1x32768_1 : (⟨S32768, .i32⟩ : BufTy).Contents (Elt F) → (⟨S1x32768, .i32⟩ : BufTy).Contents (Elt F)),
    unary main_v3 main_v5 (broadcastInDim S2x32768 ![0, 1] bcast_S2x1_S2x32768_0_1 : (⟨S2x1, .i32⟩ : BufTy).Contents (Elt F) → (⟨S2x32768, .i32⟩ : BufTy).Contents (Elt F)),
    unary main_v4 main_v6 (broadcastInDim S2x32768 ![0, 1] bcast_S1x32768_S2x32768_0_1 : (⟨S1x32768, .i32⟩ : BufTy).Contents (Elt F) → (⟨S2x32768, .i32⟩ : BufTy).Contents (Elt F)),
    binary main_v5 main_v6 main_v7 (addi : (⟨S2x32768, .i32⟩ : BufTy).Contents (Elt F) → (⟨S2x32768, .i32⟩ : BufTy).Contents (Elt F) → (⟨S2x32768, .i32⟩ : BufTy).Contents (Elt F)),
    StableHlo.reshape main_v7 main_v8 (rfl : (.i32 : EltTy) = .i32) shapeCasts_S2x32768_S65536,
    StableHlo.reshape main_arg0 main_v9 (rfl : (.i32 : EltTy) = .i32) shapeCasts_S2x34816x256_S69632x2x128,
    StableHlo.reshape main_v8 main_v10 (rfl : (.i32 : EltTy) = .i32) shapeCasts_S65536_S1x65536 ]

/-- The operation after it: the gathered rows shaped into the result. -/
abbrev postOp : HloOp τ sig (Elt F) := StableHlo.reshape main_v11 main_v12 (rfl : (.i32 : EltTy) = .i32) shapeCasts_S65536x2x128_S2x32768x256

omit [FloatOps F] in
/-- So is a set of one. -/
theorem sub1 {b : Ref sig .tc} (h : b ∈ hostRefs) : ({Proc.devRef .tc b} : Finset (DevRef τ sig)) ⊆ hostBufs :=
  Finset.singleton_subset_iff.2 (mem_hostBufs h)
omit [FloatOps F] in
/-- So is a set of two. -/
theorem sub2 {b c : Ref sig .tc} (h : b ∈ hostRefs) (h' : c ∈ hostRefs) : ({Proc.devRef .tc b, Proc.devRef .tc c} : Finset (DevRef τ sig)) ⊆ hostBufs :=
  Finset.insert_subset (mem_hostBufs h) (sub1 h')
omit [FloatOps F] in
/-- So is a set of three. -/
theorem sub3 {b c e : Ref sig .tc} (h : b ∈ hostRefs) (h' : c ∈ hostRefs) (h'' : e ∈ hostRefs) :
    ({Proc.devRef .tc b, Proc.devRef .tc c, Proc.devRef .tc e} : Finset (DevRef τ sig)) ⊆ hostBufs :=
  Finset.insert_subset (mem_hostBufs h) (sub2 h' h'')

/-- The operations before the call touch the host's buffers alone. -/
theorem preOps_sub : ∀ op ∈ (preOps : List (HloOp τ sig (Elt F))), op.bufs ⊆ hostBufs :=
  List.forall_iff_forall_mem.1 ⟨sub1 (b := main_v0) (by decide), sub2 (b := main_v0) (c := main_v1) (by decide) (by decide),
    sub1 (b := main_c) (by decide), sub2 (b := main_c) (c := main_v2) (by decide) (by decide),
    sub3 (b := main_v1) (c := main_v2) (e := main_v3) (by decide) (by decide) (by decide),
    sub2 (b := main_arg1) (c := main_v4) (by decide) (by decide), sub2 (b := main_v3) (c := main_v5) (by decide) (by decide),
    sub2 (b := main_v4) (c := main_v6) (by decide) (by decide),
    sub3 (b := main_v5) (c := main_v6) (e := main_v7) (by decide) (by decide) (by decide),
    sub2 (b := main_v7) (c := main_v8) (by decide) (by decide), sub2 (b := main_arg0) (c := main_v9) (by decide) (by decide),
    sub2 (b := main_v8) (c := main_v10) (by decide) (by decide)⟩
/-- The operations before the call allocate nothing. -/
theorem preOps_fresh : ∀ op ∈ (preOps : List (HloOp τ sig (Elt F))), op.fresh = ∅ :=
  List.forall_iff_forall_mem.1 ⟨rfl, rfl, rfl, rfl, rfl, rfl, rfl, rfl, rfl, rfl, rfl, rfl⟩
/-- The operation after the call touches the host's buffers alone. -/
theorem postOp_sub : (postOp (F := F)).bufs ⊆ hostBufs := sub2 (b := main_v11) (c := main_v12) (by decide) (by decide)

/-- The program is these operations, the call, and the operation after it. -/
theorem main_eq (d : Dev nD) : main (F := F) d = seq preOps >>= fun _ => (sc.run d 0 >>= fun _ => hlo rfl postOp fun _ => .ret ⟨⟩) := by
  rw [seq_bind_seqK]; rfl

/-! ## The arrays' contents -/

variable (m : (ℓ : Loc nD τ sig) → Buf (Elt F) ℓ) (ρ : Dev nD → PrngReg)

/-- A device's arrays at launch, before the call, after it, and at the end. -/
def V0 (d : Dev nD) : Valuation τ sig (Elt F) := fun b => m (d, b)
def V1 (d : Dev nD) : Valuation τ sig (Elt F) := after preOps (V0 m d)
/-- What the call reads: the rows and their numbers. -/
def fx (d : Dev nD) : Buf (Elt F) (xLoc d) := V1 m d x'
def fi (d : Dev nD) : Buf (Elt F) (iLoc d) := V1 m d i'
def V2 (d : Dev nD) : Valuation τ sig (Elt F) := Function.update (V1 m d) o' (gathered (fx m d) (fi m d))
def V3 (d : Dev nD) : Valuation τ sig (Elt F) := (postOp (F := F)).result (V2 m d)

/-- The call leaves every buffer but its result. -/
theorem V2_other (d : Dev nD) {b : DevRef τ sig} (h : b ≠ o') : V2 m d b = V1 m d b := Function.update_of_ne h _ _
/-- The call's result is the gathered rows. -/
theorem V2_o (d : Dev nD) : V2 m d o' = gathered (fx m d) (fi m d) := Function.update_self _ _ _

/-- The results of the operations before the call. -/
abbrev preW : List (Ref sig .tc) := [main_v0, main_v1, main_c, main_v2, main_v3, main_v4, main_v5, main_v6, main_v7, main_v8, main_v9, main_v10]
/-- The operations before the call write their own results alone. -/
theorem preOps_writes : (preOps : List (HloOp τ sig (Elt F))).Forall fun op => op.writes ⊆ (preW.map (Proc.devRef (τ := τ) .tc)).toFinset :=
  forall_writes_sub_of_map rfl

/-- The arguments keep their launch contents to the end. -/
theorem V1_y (d : Dev nD) : V1 m d y' = m (yLoc d) := after_of_writes_sub (W := preW) _ _ preOps_writes (by decide)
/-- The positions are still the launch's at the call. -/
theorem V1_p (d : Dev nD) : V1 m d p' = m (pLoc d) := after_of_writes_sub (W := preW) _ _ preOps_writes (by decide)
/-- The rows are the launch's at the end. -/
theorem V3_y (d : Dev nD) : V3 m d y' = m (yLoc d) :=
  ((postOp (F := F)).result_of_not_mem _ (show y' ∉ ({r'} : Finset (DevRef τ sig)) by decide)).trans ((V2_other m d (by decide)).trans (V1_y m d))
/-- The positions are the launch's at the end. -/
theorem V3_p (d : Dev nD) : V3 m d p' = m (pLoc d) :=
  ((postOp (F := F)).result_of_not_mem _ (show p' ∉ ({r'} : Finset (DevRef τ sig)) by decide)).trans ((V2_other m d (by decide)).trans (V1_p m d))

/-- The result: the gathered rows, shaped. -/
def outAt (d : Dev nD) : Buf (Elt F) (rLoc d) := V3 m d r'

/-! ## The call's arrays among the others -/

abbrev callBufs : Finset (DevRef τ sig) := {x', i', o'}
abbrev endBufs : Finset (DevRef τ sig) := {y', p', r'}

omit [FloatOps F] in
/-- The call's buffers are the host's. -/
theorem callBufs_sub : callBufs ⊆ hostBufs := sub3 (b := main_v9) (c := main_v10) (e := main_v11) (by decide) (by decide) (by decide)
omit [FloatOps F] in
/-- The buffers of the final statement are the host's. -/
theorem endBufs_sub : endBufs ⊆ hostBufs := sub3 (b := main_arg0) (c := main_arg1) (e := main_v12) (by decide) (by decide) (by decide)

omit [FloatOps F] in
/-- Holding the call's buffers is holding its rows, its row numbers and its result. -/
theorem held_call (d : Dev nD) (W : Valuation τ sig (Elt F)) :
    (held (SparseCore.T d) callBufs W : sProp 𝕄) = iprop((xLoc d ↦{fullShare} W x') ∗ (iLoc d ↦{fullShare} W i') ∗ (oLoc d ↦{fullShare} W o')) := by
  unfold held callBufs
  rw [SparseCore.bigSep_insert' (by decide), SparseCore.bigSep_insert' (by decide), bigSep_singleton]

/-- What the program leaves: the arguments at their launch contents and the result. -/
abbrev FIN (d : Dev nD) : sProp 𝕄 :=
  iprop((yLoc d ↦{fullShare} m (yLoc d)) ∗ (pLoc d ↦{fullShare} m (pLoc d))
    ∗ (rLoc d ↦{fullShare} outAt m d))

/-- Holding the last buffers is the final statement. -/
theorem held_end (d : Dev nD) : (held (SparseCore.T d) endBufs (V3 m d) : sProp 𝕄) = FIN m d := by
  unfold held endBufs FIN
  rw [SparseCore.bigSep_insert' (by decide), SparseCore.bigSep_insert' (by decide), bigSep_singleton, V3_y, V3_p]
  rfl

/-- Before the call the arrays are what it takes and the rest. -/
theorem held_before (d : Dev nD) : (held (SparseCore.T d) hostBufs (V1 m d) : sProp 𝕄)
    = iprop(((xLoc d ↦{fullShare} fx m d) ∗ (iLoc d ↦{fullShare} fi m d) ∗ (oLoc d ↦{fullShare} V1 m d o')) ∗ held (SparseCore.T d) (hostBufs \ callBufs) (V1 m d)) := by
  rw [held_sub_split _ callBufs_sub, held_call]; rfl

/-- After it, what it brought and the rest. -/
theorem held_after (d : Dev nD) : (held (SparseCore.T d) hostBufs (V2 m d) : sProp 𝕄)
    = iprop(((xLoc d ↦{fullShare} fx m d) ∗ (iLoc d ↦{fullShare} fi m d) ∗ (oLoc d ↦{fullShare} gathered (fx m d) (fi m d)))
        ∗ held (SparseCore.T d) (hostBufs \ callBufs) (V1 m d)) := by
  rw [held_sub_split _ callBufs_sub, held_call, V2_other m d (b := x') (by decide), V2_other m d (b := i') (by decide), V2_o]
  refine congrArg₂ _ rfl (held_congr _ fun b hb => V2_other m d fun e => (Finset.mem_sdiff.1 hb).2 ?_)
  rw [e]; decide

/-- The end. -/
theorem held_final (d : Dev nD) : (held (SparseCore.T d) hostBufs ((postOp (F := F)).result (V2 m d)) : sProp 𝕄)
    = iprop(FIN m d ∗ held (SparseCore.T d) (hostBufs \ endBufs) (V3 m d)) := by
  rw [held_sub_split _ endBufs_sub]; exact congrArg₂ _ (held_end m d) rfl

/-! ## The run -/

abbrev Pm : (K (F := F)).Pay (nD := nD) (Val := Elt F) (Name := ℕ) (U := UU) := P (fx m) (fi m)

/-- The program on device `d`'s TensorCore: the operations before the call, the call and the operation after it. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq (defs := (K (F := F)).defs (D (F := F))) 𝒱 none Set.univ d hostBufs (fun _ => (sc.run d 0 >>= fun _ => hlo rfl postOp fun _ => .ret ⟨⟩))
    preOps preOps_sub preOps_fresh (V0 m d)) $$ [Hb Hheld]
  · isplitl [Hb]; · iexact Hb
    iexact Hheld
  iintro ⟨Hb, Hheld⟩
  simp only [wp_bind]
  ihave Hh := (show (held (d.tc : Thread nD τ) hostBufs (after preOps (V0 m d)) : sProp 𝕄)
      ⊢ iprop(((xLoc d ↦{fullShare} fx m d) ∗ (iLoc d ↦{fullShare} fi m d) ∗ (oLoc d ↦{fullShare} V1 m d o')) ∗ held (SparseCore.T d) (hostBufs \ callBufs) (V1 m d)) from
    Entails.of_eq (held_before m d)) $$ Hheld
  icases Hh with ⟨⟨Hx, Hi, Ho⟩, Hrest⟩
  iapply ((K (F := F)).wp_run (D (F := F)) 𝒱 (EH := EH) (P := Pm m) κ d 0) $$ [Hst Hx Hi Ho Hb Hrest Hts]
  isplitr; · iexact Hctx
  isplitl [Hst]; · iexact Hst
  isplitl [Hx Hi Ho]
  · iapply (st_intro (fx m) (fi m) d)
    isplitl [Hx]; · iexact Hx
    isplitl [Hi]; · iexact Hi
    iexists _; iexact Ho
  iintro ⟨Hst, Hdn⟩
  ihave Hdn' := (Entails.of_eq (dn_elim (fx m) (fi m) d)) $$ Hdn
  iapply (wp_hlo_within 𝒱 (SparseCore.T d) none Set.univ (op := postOp) (S := hostBufs) postOp_sub (V := V2 m d)) $$ [Hb Hdn' Hrest]
  · isplitl [Hb]; · iexact Hb
    iapply (Entails.of_eq (held_after m d).symm)
    isplitl [Hdn']; · iexact Hdn'
    iexact Hrest
  iintro ⟨Hb, Hheld⟩
  ihave Hh := (Entails.of_eq (held_final m d)) $$ Hheld
  icases Hh with ⟨Hfin, -⟩
  rw [wp_ret]; imodintro
  isplitl [Hst]; · iexact Hst
  isplitl [Hfin]; · iexact Hfin
  isplitl [Hb] <;> iassumption

/-! ## The launch -/

/-- The ghost state at launch. -/
def u₀ : UU := (initOf (K (F := F)).hsCells (K (F := F)).hsToks, 1)

omit [FloatOps F] in
/-- A family of empty statements is empty. -/
theorem bigSep_emp' {I : Type} (s : Finset I) : (bigSep s fun _ => iprop(emp)) = (iprop(emp) : sProp 𝕄) := bigSep_emp_const s

/-- The launch's ghost state gives the handshakes' cells, and nothing to each device and thread. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-- What the claims read of a device's final state. -/
def fq (d : Dev nD) (s' : Phys nD τ sig (Elt F)) : Prop :=
  s'.mem.mem (rLoc d) = outAt m d
    ∧ s'.mem.mem (yLoc d) = m (yLoc d)
    ∧ s'.mem.mem (pLoc d) = m (pLoc d)

set_option maxRecDepth 16384 in
/-- The state agrees with what the program leaves. -/
theorem hfin (d : Dev nD) (s' : Phys nD τ sig (Elt F)) : iprop(FIN m d ∗ SI s') ⊢ (⌜fq m d s'⌝ : sProp 𝕄) := by
  iintro ⟨⟨Hy, Hp, Hr⟩, HSI⟩
  ihave H := (persistent_entails_right (SI_pointsTo_agree (st := s') (ℓ := yLoc d) (I := Finset.univ) (q := fullShare)
    (f := m (yLoc d)))) $$ [HSI Hy]
  · isplitl [HSI] <;> iassumption
  icases H with ⟨%h1, HSI, -⟩
  ihave H := (persistent_entails_right (SI_pointsTo_agree (st := s') (ℓ := pLoc d) (I := Finset.univ) (q := fullShare)
    (f := m (pLoc d)))) $$ [HSI Hp]
  · isplitl [HSI] <;> iassumption
  icases H with ⟨%h2, HSI, -⟩
  ihave H := (SI_pointsTo_agree (st := s') (ℓ := rLoc d) (I := Finset.univ) (q := fullShare) (f := outAt m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The run's final states: the result, the arguments kept and the counters at zero. -/
def QC : PUnit × MemSt nD τ sig (Elt F) → Prop := fun r =>
  (∀ c : Dev nD, r.2.mem (rLoc c) = outAt m c
    ∧ r.2.mem (yLoc c) = m (yLoc c)
    ∧ r.2.mem (pLoc c) = m (pLoc c)) ∧ r.2.sem = fun _ => 0

/-- The whole program runs, where each row number is a row. -/
theorem run_main [∀ e, Nonempty (Elt F e)] (hpre : RowsOK (fi m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) launchFacts v₀
    (fun q hq => match q with | 0 => nomatch hq)
    (fun q _ => match q with | 0 => tileObl (fx m) hpre)
    (fun q _ => match q with | 0 => SparseCore.Cfg.VecSplit.of_plain (vecSplit (fx m) (fi m)))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  What the run leaves, element by element: at piece `b`, row `r` and column `c` the word of piece `b` and column `c` in the
  row that position `r` names.
-/
module

public import proofs.«01_k».proof.Proof.Main
public import proofs.«01_k».proof.Proof.Gen.Pre_pos_in_rows

@[expose] public section

noncomputable section

namespace Cert.Proof.Gather

open Cert.KernelIdeal Cert.KernelIdeal.Gen

open Idealize.ShloMosaic Idealize.ShloMosaic.StableHlo Idealize.ShloMosaic.ValueIdx Idealize.SL.Sem

variable {F : FTy → Type} [FloatOps F] (m : (ℓ : Loc nD τ sig) → Buf (Elt F) ℓ)

/-- The words and the positions a device starts from. -/
abbrev srcWords (d : Dev nD) : S2x34816x256.Idx → BitVec 32 := m (yLoc d)
abbrev positions (d : Dev nD) : S32768.Idx → BitVec 32 := m (pLoc d)

/-! ## The row numbers -/

/-- The row numbers as one expression of the positions. -/
theorem fi_eq (d : Dev nD) : fi m d = shapeCast S1x65536 (shapeCast S65536
    (addi (broadcastInDim S2x32768 ![0, 1] bcast_S2x1_S2x32768_0_1
        (muli (broadcastInDim S2x1 ![0] bcast_S2_S2x1_0 (iotaInDim S2 32 0)) (broadcastInDim S2x1 ![] bcast_S_S2x1 (constantI S_ 32 34816#32))))
      (broadcastInDim S2x32768 ![0, 1] bcast_S1x32768_S2x32768_0_1 (broadcastInDim S1x32768 ![1] bcast_S32768_S1x32768_1 (positions m d))))
    shapeCasts_S2x32768_S65536) shapeCasts_S65536_S1x65536 := by
  unfold fi V1
  after_results_simp
  rfl

/-- The rows as one expression of the words. -/
theorem fx_eq (d : Dev nD) : fx m d = shapeCast S69632x2x128 (srcWords m d) shapeCasts_S2x34816x256_S69632x2x128 := by
  unfold fx V1
  after_results_simp
  rfl

/-- The result as one expression of what was gathered. -/
theorem outAt_eq (d : Dev nD) : outAt m d = shapeCast S2x32768x256 (gathered (fx m d) (fi m d)) shapeCasts_S65536x2x128_S2x32768x256 := by
  unfold outAt V3
  rw [reshape_result, V2_o]
  rfl

set_option maxRecDepth 4096 in
/-- Row number `p` is 34816 times the piece plus the position's word. -/
theorem fi_apply (d : Dev nD) (b : Fin 2) (r : Fin 32768) (p : Fin 65536) (hp : p.val = b.val * 32768 + r.val) :
    fi m d (ix2 (0 : Fin 1) p) = BitVec.ofNat 32 b.val * 34816#32 + positions m d (ix1 r) := by
  rw [fi_eq]
  refine (shapeCast_apply _ shapeCasts_S65536_S1x65536 (ix2 (0 : Fin 1) p) (ix1 p) (by
    rw [Shape.rowMajor_val_two, Shape.rowMajor_val_one]; show p.val = 0 * 65536 + p.val; rw [Nat.zero_mul, Nat.zero_add])).trans ?_
  refine (shapeCast_apply _ shapeCasts_S2x32768_S65536 (ix1 p) (ix2 b r) (by
    rw [Shape.rowMajor_val_two, Shape.rowMajor_val_one]; show b.val * 32768 + r.val = p.val; omega)).trans ?_
  have e1 : broadcastInDim S2x32768 ![0, 1] bcast_S2x1_S2x32768_0_1
      (muli (broadcastInDim S2x1 ![0] bcast_S2_S2x1_0 (iotaInDim S2 32 0)) (broadcastInDim S2x1 ![] bcast_S_S2x1 (constantI S_ 32 34816#32))) (ix2 b r)
        = BitVec.ofNat 32 b.val * 34816#32 := by
    refine (broadcastInDim_apply _ _ _ (ix2 b r) (ix2 b (0 : Fin 1)) fun a => ?_).trans ?_
    · match a with
      | ⟨0, _⟩ => rfl
      | ⟨1, _⟩ => rfl
    · refine congrArg (· * 34816#32) (broadcastInDim_apply _ _ _ (ix2 b (0 : Fin 1)) (ix1 b) fun a => ?_)
      match a with
      | ⟨0, _⟩ => rfl
  have e2 : broadcastInDim S2x32768 ![0, 1] bcast_S1x32768_S2x32768_0_1 (broadcastInDim S1x32768 ![1] bcast_S32768_S1x32768_1 (positions m d)) (ix2 b r)
      = positions m d (ix1 r) := by
    refine (broadcastInDim_apply _ _ _ (ix2 b r) (ix2 (0 : Fin 1) r) fun a => ?_).trans (broadcastInDim_apply _ _ _ _ (ix1 r) fun a => ?_)
    · match a with
      | ⟨0, _⟩ => rfl
      | ⟨1, _⟩ => rfl
    · match a with
      | ⟨0, _⟩ => rfl
  exact congrArg₂ (fun x y : BitVec 32 => x + y) e1 e2

/-- Row `n` of the rows, at `h` and `l`, is a word of the argument. -/
theorem fx_apply (d : Dev nD) (n : Fin 69632) (h : Fin 2) (l : Fin 128) (b : Fin 2) (q : Fin 34816) (c : Fin 256)
    (hn : n.val = b.val * 34816 + q.val) (hc : c.val = h.val * 128 + l.val) :
    fx m d (ix3 n h l) = srcWords m d (ix3 b q c) := by
  rw [fx_eq]
  exact shapeCast_apply _ shapeCasts_S2x34816x256_S69632x2x128 (ix3 n h l) (ix3 b q c) (by
    rw [Shape.rowMajor_val_three, Shape.rowMajor_val_three]
    show (b.val * 34816 + q.val) * 256 + c.val = (n.val * 2 + h.val) * 128 + l.val; omega)

/-! ## The positions' range -/

/-- Every position names a row. -/
def PosOK : Prop := ∀ (d : Dev nD) (r : Fin 32768), (positions m d (ix1 r)).toNat < 34816

variable {m}

/-- The row number that the host makes of a piece and a position. -/
theorem fi_toNat (hpos : PosOK m) (d : Dev nD) (b : Fin 2) (r : Fin 32768) (p : Fin 65536) (hp : p.val = b.val * 32768 + r.val) :
    BitVec.toNat (w := 32) (fi m d (ix2 (0 : Fin 1) p)) = b.val * 34816 + (positions m d (ix1 r)).toNat := by
  have h := hpos d r
  have hb := b.isLt
  rw [fi_apply m d b r p hp, BitVec.toNat_add, BitVec.toNat_mul, BitVec.toNat_ofNat, BitVec.toNat_ofNat]
  omega

/-- So every row number is a row. -/
theorem rowsOK (hpos : PosOK m) : RowsOK (fi m) := fun d j => by
  obtain ⟨p, rfl⟩ : ∃ p : Fin 65536, j = ix2 (0 : Fin 1) p := ⟨(j 1 : Fin 65536), by
    have e : (j 0 : Fin 1) = (0 : Fin 1) := @Subsingleton.elim (Fin 1) _ _ _
    exact (eq_ix2 j).trans (congrArg (fun a : Fin 1 => ix2 a (j 1 : Fin 65536)) e)⟩
  have hp := p.isLt
  have h := hpos d ⟨p.val % 32768, by omega⟩
  rw [fi_toNat hpos d ⟨p.val / 32768, by omega⟩ ⟨p.val % 32768, by omega⟩ p (by show p.val = p.val / 32768 * 32768 + p.val % 32768; omega)]
  show p.val / 32768 * 34816 + _ < _
  omega

/-- The result, element by element. -/
theorem outAt_apply (hpos : PosOK m) (d : Dev nD) (b : Fin 2) (r : Fin 32768) (c : Fin 256) :
    outAt m d (ix3 b r c) = srcWords m d (ix3 b ⟨(positions m d (ix1 r)).toNat, hpos d r⟩ c) := by
  have hb := b.isLt; have hr := r.isLt; have hc := c.isLt
  rw [outAt_eq]
  refine (shapeCast_apply _ shapeCasts_S65536x2x128_S2x32768x256 (ix3 b r c)
    (ix3 (⟨b.val * 32768 + r.val, by omega⟩ : Fin 65536) (⟨c.val / 128, by omega⟩ : Fin 2) (⟨c.val % 128, by omega⟩ : Fin 128)) (by
      rw [Shape.rowMajor_val_three, Shape.rowMajor_val_three]
      show ((b.val * 32768 + r.val) * 2 + c.val / 128) * 128 + c.val % 128 = (b.val * 32768 + r.val) * 256 + c.val; omega)).trans ?_
  refine fx_apply m d _ _ _ b ⟨(positions m d (ix1 r)).toNat, hpos d r⟩ c ?_ ?_
  · show BitVec.toNat (w := 32) (fi m d (ix2 (0 : Fin 1) ⟨b.val * 32768 + r.val, by omega⟩)) % 69632 = _
    rw [fi_toNat hpos d b r _ rfl]
    have h := hpos d r
    show _ = b.val * 34816 + (positions m d (ix1 r)).toNat
    omega
  · show c.val = c.val / 128 * 128 + c.val % 128; omega

/-! ## The precondition -/

/-- A word that is at least 0 and below 34816 as a signed number is below 34816. -/
theorem word_of_pre (v : BitVec 32) (e : IntOp.andi (IntOp.cmpi .sge v 0#32) (IntOp.cmpi .slt v 34816#32) = 1#1) : v.toNat < 34816 := by
  have hand : ∀ p q : Bool, IntOp.andi (BitVec.ofBool p) (BitVec.ofBool q) = 1#1 → p = true ∧ q = true := by decide
  obtain ⟨h0, h1⟩ := hand _ _ e
  simp only [] at h0 h1
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond] at h1
  simp only [BitVec.toNat_ofNat, Nat.reducePow, Nat.reduceMod] at h0 h1
  omega

/-- The precondition gives the positions' range. -/
theorem posOK (h : ∀ d : Dev nD, Cert.Pre_pos_in_rows.fn (F := F) (srcWords m d) (positions m d) = fun _ => 1#1) : PosOK m := fun d r =>
  word_of_pre _ (congrFun (h d) (ix1 r))

end Cert.Proof.Gather

end
-- ==== Proof.MoeBase.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

/-! What the proofs of the expert call share: its tables, its blocks and the memrefs its body is handed. -/

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel2Ideal Cert.Kernel2Ideal.Gen

variable {F : FTy → Type} [FloatOps F]

local notation "𝕄" => MT nD τ sig Unit (Elt F) ℕ (UR sig nD τ) ℕ

/-! ## The tables -/

/-- The expert of each tile, the number of tiles in use and the number of rows of each tile, as whole memrefs. -/
abbrev teM : Memref sig .tc .smem S136 .i32 := Memref.whole main_arg0
abbrev usedM : Memref sig .tc .smem S1 .i32 := Memref.whole main_arg1
abbrev validM : Memref sig .tc .smem S136 .i32 := Memref.whole main_arg2
/-- The hidden rows' buffer. -/
abbrev hidM : Memref sig .tc .vmem S256x3584 .bf16 := Memref.whole cc0_scratch0

/-- Half of a table's buffer, at the contents `f`: the half the body reads under. -/
abbrev half (c : Dev nD) {S : Shape} {e : EltTy} (M : Memref sig .tc .smem S e) (f : Buf (Elt F) (M.view.loc (c : Thread nD τ))) : sProp 𝕄 :=
  M.view.loc (c : Thread nD τ) ↦{fullShare.right} f

/-- The number of tiles in use, as the body reads it off its table. -/
abbrev usedWord (c : Dev nD) (u : Buf (Elt F) (usedM.view.loc (c : Thread nD τ))) : BitVec 32 :=
  usedM.view.readAt (Elt F) (Rect.unit (s := S1) ![0] S1.size inb_S1_S1_0).toLoadRect u (Shape.Idx.first (numel1_S1.symm ▸ Nat.one_pos))

/-- The two conditions of the body are opposites: the first holds of the tiles below the count, the second of the others. -/
theorem cond_iff (i : grid0.Coords) (v : BitVec 32) : k0_cond2 i v = 1#1 ↔ ¬ k0_cond1 i v = 1#1 := by
  have word (b : Bool) : Scalar.cmpi .ne (Scalar.extui (BitVec.ofBool b)) 0#32 = BitVec.ofBool b := by cases b <;> rfl
  unfold k0_cond1 k0_cond2
  show Scalar.cmpi .ne (Scalar.extui (BitVec.ofBool (v.sle _))) 0#32 = 1#1 ↔ ¬ Scalar.cmpi .ne (Scalar.extui (BitVec.ofBool (BitVec.slt _ v))) 0#32 = 1#1
  rw [word, word, BitVec.sle_eq_not_slt]
  cases BitVec.slt (BitVec.ofNat 32 (i 0).val) v <;> decide

/-- The first condition is the signed comparison of the tile with the count. -/
theorem cond1_iff (i : grid0.Coords) (v : BitVec 32) : k0_cond1 i v = 1#1 ↔ (BitVec.ofNat 32 (i 0).val).slt v = true := by
  have word (b : Bool) : Scalar.cmpi .ne (Scalar.extui (BitVec.ofBool b)) 0#32 = BitVec.ofBool b := by cases b <;> rfl
  unfold k0_cond1
  show Scalar.cmpi .ne (Scalar.extui (BitVec.ofBool (BitVec.slt _ v))) 0#32 = 1#1 ↔ _
  rw [word]
  cases BitVec.slt (BitVec.ofNat 32 (i 0).val) v <;> decide

/-! ## The region's entry -/

section
variable (m : (ℓ : Loc nD τ sig) → Buf (Elt F) ℓ)

/-- A buffer of core `c` as the region finds it: as launched. -/
abbrev entry (c : Dev nD) (b : Ref sig .tc) : Buf (Elt F) ((c : Thread nD τ).loc b) := m ((c : Thread nD τ).loc b)

/-- The program is its one region. -/
theorem toRegion : Pipeline.HMainP (Ix := Unit) (Name := ℕ) (U := UR sig nD τ) (Lvl := ℕ) pcfgs 0 defs₀ Variants.none m (main (F := F)) (entry m) :=
  Pipeline.hmainP_region pcfgs 0 defs₀ Variants.none m main fun c => (main_chain c).trans rfl

/-- The tables as the region finds them. -/
def tables : pre0.Contents (Elt F) := fun j => entry m (0 : Dev nD) (pre0.ref j)

/-- They are the same on every device, there being one. -/
theorem tables_eq (c : Dev nD) (j : Fin 3) : entry m c (pre0.ref j) = tables m j := by
  obtain rfl : c = 0 := Subsingleton.elim _ _
  rfl

/-- Every expert the table names is one of the arrays'. -/
abbrev Ok : Prop := ok0 (F := F) (tables m)

/-- The pipeline at these tables. -/
abbrev adm (hO : Ok m) : (pcfg0 (F := F)).Adm := ⟨tables m, hO⟩
abbrev cfgAt (hO : Ok m) : Pipeline.Cfg sig Λ₀ := cfg0 (adm m hO)

/-- The three halves the region lends the body. -/
theorem lent_eq (c : Dev nD) :
    (Pipeline.ΦT pre0 (tables m) c : sProp 𝕄) = iprop(half c teM (tables m 0) ∗ half c usedM (tables m 1) ∗ half c validM (tables m 2)) := by
  unfold Pipeline.ΦT Pipeline.prefHeld
  rw [show (Finset.univ : Finset (Fin 3)) = {0, 1, 2} from by decide, bigSep_insert (by decide), bigSep_insert (by decide), bigSep_singleton]
  rfl

/-- What else it lends: the hidden rows' buffer at some contents, and the generator's register. -/
theorem rest_eq (c : Dev nD) :
    (Pipeline.ΦA spec0 c : sProp 𝕄) = iprop(iprop(∃ h, owns (c : Thread nD τ) hidM fullShare h) ∗ (∃ r, prngReg c r)) := by
  unfold Pipeline.ΦA
  rw [scopedRest0_eq]
  simp only [hidM, owns_whole]
  rfl

/-- The block of window `w` at point `t`, read off its array as the region finds it. -/
def blockAt (hO : Ok m) (c : Dev nD) (w : Fin (cfgAt m hO).W) (t : Fin (cfgAt m hO).N) :
    (((cfgAt m hO).win w).xblock ((cfgAt m hO).grid.coords t)).Idx → Elt F ((cfgAt m hO).win w).elt :=
  (((cfgAt m hO).win w).blk t).view.read (Elt F) (entry m c (Pipeline.arrRef spec0 w))

/-- The staging buffers at point `t`. -/
abbrev stX (hO : Ok m) (t : Fin (cfgAt m hO).N) : Memref sig .tc .vmem S2x256x256 .i32 := spec0_0.stage ((cfgAt m hO).slots t 0)
abbrev stU (hO : Ok m) (t : Fin (cfgAt m hO).N) : Memref sig .tc .vmem S1x1024x3584 .bf16 := spec0_1.stage ((cfgAt m hO).slots t 1)
abbrev stG (hO : Ok m) (t : Fin (cfgAt m hO).N) : Memref sig .tc .vmem S1x1024x3584 .bf16 := spec0_2.stage ((cfgAt m hO).slots t 2)
abbrev stD (hO : Ok m) (t : Fin (cfgAt m hO).N) : Memref sig .tc .vmem S1x3584x1024 .bf16 := spec0_3.stage ((cfgAt m hO).slots t 3)
abbrev stY (hO : Ok m) (t : Fin (cfgAt m hO).N) : Memref sig .tc .vmem S4x256x256 .bf16 := spec0_4.stage ((cfgAt m hO).slots t 4)

end

end Cert.Proof.Moe

end
-- ==== Proof.MoeLive.lean ====
module

public import proofs.«01_k».proof.Proof.MoeBase

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- The body at a tile in use: what its stores leave in the result's block and in the hidden rows, last store first. -/
def liveRun (c : Dev nD) (i : grid0.Coords)
    (aX : Memref sig .tc .vmem S2x256x256 .i32) (wX : aX.IsWhole) (aU : Memref sig .tc .vmem S1x1024x3584 .bf16) (wU : aU.IsWhole)
    (aG : Memref sig .tc .vmem S1x1024x3584 .bf16) (wG : aG.IsWhole) (aD : Memref sig .tc .vmem S1x3584x1024 .bf16) (wD : aD.IsWhole)
    (aY : Memref sig .tc .vmem S4x256x256 .bf16) (wY : aY.IsWhole) (aH : Memref sig .tc .vmem S256x3584 .bf16) (wH : aH.IsWhole)
    (x : Vec F S2x256x256 .i32) (u g : Vec F S1x1024x3584 .bf16) (d : Vec F S1x3584x1024 .bf16)
    (te : Buf (Elt F) (teM.view.loc (c : Thread nD τ))) (nu : Buf (Elt F) (usedM.view.loc (c : Thread nD τ))) (va : Buf (Elt F) (validM.view.loc (c : Thread nD τ)))
    (h1 : k0_cond1 i (usedWord c nu) = 1#1) (h2 : ¬ k0_cond2 i (usedWord c nu) = 1#1) :
    Σ' (pY : List (View.Piece (Elt F) S4x256x256 .bf16)), { pH : List (View.Piece (Elt F) S256x3584 .bf16) //
      ∀ (E : Set ℕ) (K : PUnit → sProp 𝕄),
        iprop(owns (c : Thread nD τ) aX fullShare x ∗ owns (c : Thread nD τ) aU fullShare u ∗ owns (c : Thread nD τ) aG fullShare g
            ∗ owns (c : Thread nD τ) aD fullShare d ∗ (∃ y, owns (c : Thread nD τ) aY fullShare y) ∗ (∃ h, owns (c : Thread nD τ) aH fullShare h) ∗ half c teM te ∗ half c usedM nu ∗ half c validM va
            ∗ (iprop(owns (c : Thread nD τ) aX fullShare x ∗ owns (c : Thread nD τ) aU fullShare u ∗ owns (c : Thread nD τ) aG fullShare g
            ∗ owns (c : Thread nD τ) aD fullShare d ∗ (∃ y, aY.view.loc (c : Thread nD τ) ↦[aY.view.set]{fullShare} aY.view.writes (Elt F) y pY)
            ∗ (∃ h, aH.view.loc (c : Thread nD τ) ↦[aH.view.set]{fullShare} aH.view.writes (Elt F) h pH) ∗ half c teM te ∗ half c usedM nu ∗ half c validM va) -∗ K ⟨⟩))
          ⊢ wp frame (wpE (defs₀ (F := F)) Variants.none c none) E (cc0_moe i teM (Memref.isWhole_whole _) usedM (Memref.isWhole_whole _) validM (Memref.isWhole_whole _) aX wX aU wU aG wG aD wD aY wY aH wH) K } := by
  refine ⟨?_, ?_, fun E K => ?run⟩
  case run =>
    simp only [cc0_moe_eq_skeleton]; unfold cc0_moe_skel
    simp only [k0_part1_eq_skeleton, k0_part2_eq_skeleton, k0_part3_eq_skeleton, k0_part4_eq_skeleton, k0_part5_eq_skeleton]
    unfold owns
    iintro ⟨⟨%fx, %ex, HX⟩, ⟨%fu, %eu, HU⟩, ⟨%fg, %eg, HG⟩, ⟨%fd, %ed, HD⟩, ⟨%y0, %fy, -, HY⟩, ⟨%h0, %fh, -, HH⟩, HT, HN, HV, Hk⟩
    obtain rfl := wX.eq_unread ex; obtain rfl := wU.eq_unread eu; obtain rfl := wG.eq_unread eg; obtain rfl := wD.eq_unread ed
    sl_exec (disch := first | sl_exact h1 | sl_exact h2)
    sl_step
    iapply Hk
    isplitl [HX]; · iexists _; isplitr; swap; · iexact HX
                    ipureintro; exact wX.read_unread _
    isplitl [HU]; · iexists _; isplitr; swap; · iexact HU
                    ipureintro; exact wU.read_unread _
    isplitl [HG]; · iexists _; isplitr; swap; · iexact HG
                    ipureintro; exact wG.read_unread _
    isplitl [HD]; · iexists _; isplitr; swap; · iexact HD
                    ipureintro; exact wD.read_unread _
    isplitl [HY]; · iexists _; iexact HY
    isplitl [HH]; · iexists _; iexact HH
    isplitl [HT]; · iexact HT
    isplitl [HN]; · iexact HN
    iexact HV

end Cert.Proof.Moe

end
-- ==== Proof.MoeDead.lean ====
module

public import proofs.«01_k».proof.Proof.MoeLive

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- The body at a tile not in use: what its one store leaves in the result's block. -/
def deadRun (c : Dev nD) (i : grid0.Coords)
    (aX : Memref sig .tc .vmem S2x256x256 .i32) (wX : aX.IsWhole) (aU : Memref sig .tc .vmem S1x1024x3584 .bf16) (wU : aU.IsWhole)
    (aG : Memref sig .tc .vmem S1x1024x3584 .bf16) (wG : aG.IsWhole) (aD : Memref sig .tc .vmem S1x3584x1024 .bf16) (wD : aD.IsWhole)
    (aY : Memref sig .tc .vmem S4x256x256 .bf16) (wY : aY.IsWhole) (aH : Memref sig .tc .vmem S256x3584 .bf16) (wH : aH.IsWhole)
    (x : Vec F S2x256x256 .i32) (u g : Vec F S1x1024x3584 .bf16) (d : Vec F S1x3584x1024 .bf16)
    (te : Buf (Elt F) (teM.view.loc (c : Thread nD τ))) (nu : Buf (Elt F) (usedM.view.loc (c : Thread nD τ))) (va : Buf (Elt F) (validM.view.loc (c : Thread nD τ)))
    (h1 : ¬ k0_cond1 i (usedWord c nu) = 1#1) (h2 : k0_cond2 i (usedWord c nu) = 1#1) :
    { pY : List (View.Piece (Elt F) S4x256x256 .bf16) //
      ∀ (E : Set ℕ) (K : PUnit → sProp 𝕄),
        iprop(owns (c : Thread nD τ) aX fullShare x ∗ owns (c : Thread nD τ) aU fullShare u ∗ owns (c : Thread nD τ) aG fullShare g
            ∗ owns (c : Thread nD τ) aD fullShare d ∗ (∃ y, owns (c : Thread nD τ) aY fullShare y) ∗ (∃ h, owns (c : Thread nD τ) aH fullShare h) ∗ half c teM te ∗ half c usedM nu ∗ half c validM va
            ∗ (iprop(owns (c : Thread nD τ) aX fullShare x ∗ owns (c : Thread nD τ) aU fullShare u ∗ owns (c : Thread nD τ) aG fullShare g
            ∗ owns (c : Thread nD τ) aD fullShare d ∗ (∃ y, aY.view.loc (c : Thread nD τ) ↦[aY.view.set]{fullShare} aY.view.writes (Elt F) y pY)
            ∗ (∃ h, owns (c : Thread nD τ) aH fullShare h) ∗ half c teM te ∗ half c usedM nu ∗ half c validM va) -∗ K ⟨⟩))
          ⊢ wp frame (wpE (defs₀ (F := F)) Variants.none c none) E (cc0_moe i teM (Memref.isWhole_whole _) usedM (Memref.isWhole_whole _) validM (Memref.isWhole_whole _) aX wX aU wU aG wG aD wD aY wY aH wH) K } := by
  refine ⟨?_, fun E K => ?run⟩
  case run =>
    simp only [cc0_moe_eq_skeleton]; unfold cc0_moe_skel
    simp only [k0_part1_eq_skeleton, k0_part2_eq_skeleton, k0_part3_eq_skeleton, k0_part4_eq_skeleton, k0_part5_eq_skeleton]
    unfold owns
    iintro ⟨⟨%fx, %ex, HX⟩, ⟨%fu, %eu, HU⟩, ⟨%fg, %eg, HG⟩, ⟨%fd, %ed, HD⟩, ⟨%y0, %fy, -, HY⟩, ⟨%h0, %fh, %eh, HH⟩, HT, HN, HV, Hk⟩
    obtain rfl := wX.eq_unread ex; obtain rfl := wU.eq_unread eu; obtain rfl := wG.eq_unread eg; obtain rfl := wD.eq_unread ed
    sl_exec (disch := first | sl_exact h1 | sl_exact h2)
    sl_step
    iapply Hk
    isplitl [HX]; · iexists _; isplitr; swap; · iexact HX
                    ipureintro; exact wX.read_unread _
    isplitl [HU]; · iexists _; isplitr; swap; · iexact HU
                    ipureintro; exact wU.read_unread _
    isplitl [HG]; · iexists _; isplitr; swap; · iexact HG
                    ipureintro; exact wG.read_unread _
    isplitl [HD]; · iexists _; isplitr; swap; · iexact HD
                    ipureintro; exact wD.read_unread _
    isplitl [HY]; · iexists _; iexact HY
    isplitl [HH]; · iexists _; iexists _; isplitr; swap; · iexact HH
                    ipureintro; exact eh
    isplitl [HT]; · iexact HT
    isplitl [HN]; · iexact HN
    iexact HV

end Cert.Proof.Moe

end
-- ==== Proof.MoeFrame.lean ====
module

public import proofs.«01_k».proof.Proof.MoeDead

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves in the result's block -/

/-- The stores of a tile in use fill the result's block. -/
theorem live_cover (c : Dev nD) (i : grid0.Coords)
    (aX : Memref sig .tc .vmem S2x256x256 .i32) (wX : aX.IsWhole) (aU : Memref sig .tc .vmem S1x1024x3584 .bf16) (wU : aU.IsWhole)
    (aG : Memref sig .tc .vmem S1x1024x3584 .bf16) (wG : aG.IsWhole) (aD : Memref sig .tc .vmem S1x3584x1024 .bf16) (wD : aD.IsWhole)
    (aY : Memref sig .tc .vmem S4x256x256 .bf16) (wY : aY.IsWhole) (aH : Memref sig .tc .vmem S256x3584 .bf16) (wH : aH.IsWhole)
    (x : Vec F S2x256x256 .i32) (u g : Vec F S1x1024x3584 .bf16) (d : Vec F S1x3584x1024 .bf16)
    (te : Buf (Elt F) (teM.view.loc (c : Thread nD τ))) (nu : Buf (Elt F) (usedM.view.loc (c : Thread nD τ))) (va : Buf (Elt F) (validM.view.loc (c : Thread nD τ)))
    (h1 : k0_cond1 i (usedWord c nu) = 1#1) (h2 : ¬ k0_cond2 i (usedWord c nu) = 1#1) (y : S4x256x256.Idx) :
    ∃ p ∈ (liveRun c i aX wX aU wU aG wG aD wD aY wY aH wH x u g d te nu va h1 h2).1, y ∈ p.1.set :=
  View.cover_of_tiledBy (liveRun c i aX wX aU wU aG wG aD wD aY wY aH wH x u g d te nu va h1 h2).1 ![1, 256, 256] (by sl_kernel_rfl) y

/-- The one store of a tile not in use fills it too. -/
theorem dead_cover (c : Dev nD) (i : grid0.Coords)
    (aX : Memref sig .tc .vmem S2x256x256 .i32) (wX : aX.IsWhole) (aU : Memref sig .tc .vmem S1x1024x3584 .bf16) (wU : aU.IsWhole)
    (aG : Memref sig .tc .vmem S1x1024x3584 .bf16) (wG : aG.IsWhole) (aD : Memref sig .tc .vmem S1x3584x1024 .bf16) (wD : aD.IsWhole)
    (aY : Memref sig .tc .vmem S4x256x256 .bf16) (wY : aY.IsWhole) (aH : Memref sig .tc .vmem S256x3584 .bf16) (wH : aH.IsWhole)
    (x : Vec F S2x256x256 .i32) (u g : Vec F S1x1024x3584 .bf16) (d : Vec F S1x3584x1024 .bf16)
    (te : Buf (Elt F) (teM.view.loc (c : Thread nD τ))) (nu : Buf (Elt F) (usedM.view.loc (c : Thread nD τ))) (va : Buf (Elt F) (validM.view.loc (c : Thread nD τ)))
    (h1 : ¬ k0_cond1 i (usedWord c nu) = 1#1) (h2 : k0_cond2 i (usedWord c nu) = 1#1) (y : S4x256x256.Idx) :
    ∃ p ∈ (deadRun c i aX wX aU wU aG wG aD wD aY wY aH wH x u g d te nu va h1 h2).1, y ∈ p.1.set :=
  View.cover_of_tiledBy (deadRun c i aX wX aU wU aG wG aD wD aY wY aH wH x u g d te nu va h1 h2).1 ![4, 256, 256] (by sl_kernel_rfl) y

/-- A view of the result's block to read the stores through; which one does not matter. -/
abbrev seenY : View sig .tc .vmem S4x256x256 .bf16 := (Memref.whole cc0_stg4_0 : Memref sig .tc .vmem S4x256x256 .bf16).view

/-- The result's block after the body at point `t`. -/
def resultAt (hO : Ok m) (c : Dev nD) (t : Fin (cfgAt m hO).N) : Vec F S4x256x256 .bf16 :=
  if h : k0_cond1 (grid0.coords t) (usedWord c (tables m 1)) = 1#1 then
    seenY.read (Elt F) (seenY.writes (Elt F) seenY.junk (liveRun c (grid0.coords t) (stX m hO t) (hstage0_0 (((cfgAt m hO).slots t 0).cast nbuf0_0)) (stU m hO t) (hstage0_1 (((cfgAt m hO).slots t 1).cast nbuf0_1)) (stG m hO t) (hstage0_2 (((cfgAt m hO).slots t 2).cast nbuf0_2)) (stD m hO t) (hstage0_3 (((cfgAt m hO).slots t 3).cast nbuf0_3)) (stY m hO t) (hstage0_4 (((cfgAt m hO).slots t 4).cast nbuf0_4)) hidM (Memref.isWhole_whole _)
      (blockAt m hO c 0 t) (blockAt m hO c 1 t) (blockAt m hO c 2 t) (blockAt m hO c 3 t) (tables m 0) (tables m 1) (tables m 2) h ((cond_iff _ _).not.2 (not_not.2 h))).1)
  else
    seenY.read (Elt F) (seenY.writes (Elt F) seenY.junk (deadRun c (grid0.coords t) (stX m hO t) (hstage0_0 (((cfgAt m hO).slots t 0).cast nbuf0_0)) (stU m hO t) (hstage0_1 (((cfgAt m hO).slots t 1).cast nbuf0_1)) (stG m hO t) (hstage0_2 (((cfgAt m hO).slots t 2).cast nbuf0_2)) (stD m hO t) (hstage0_3 (((cfgAt m hO).slots t 3).cast nbuf0_3)) (stY m hO t) (hstage0_4 (((cfgAt m hO).slots t 4).cast nbuf0_4)) hidM (Memref.isWhole_whole _)
      (blockAt m hO c 0 t) (blockAt m hO c 1 t) (blockAt m hO c 2 t) (blockAt m hO c 3 t) (tables m 0) (tables m 1) (tables m 2) h ((cond_iff _ _).2 h)).1)

/-! ## The pipeline's data -/

/-- The arrays as the region finds them; after each point the inputs' blocks as they were and the result's as the body leaves it. -/
def proofData (hO : Ok m) (_ : Fin 1) (c : Dev nD) : Dat τ (Elt F) Unit ℕ (UR sig nD τ) ℕ (cfgAt m hO) c where
  A w := entry m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => resultAt m hO c t
  Φ _ := iprop(Pipeline.ΦA spec0 c ∗ Pipeline.ΦT pre0 (tables m) c)
  q _ := fullShare
  owed _ := 0

/-- Each window's array is what the entry holds of it. -/
theorem arrays (hO : Ok m) (c : Dev nD) (w : Fin (cfgAt m hO).W) : (proofData m hO 0 c).A w = entry m c (Pipeline.arrRef spec0 w) := by
  dsimp only [proofData]

/-- At a point's end the slot of operand 0 holds its block still. -/
theorem after0 (hO : Ok m) (c : Dev nD) (t : Fin (cfgAt m hO).N) : (proofData m hO 0 c).after 0 t = blockAt m hO c 0 t := by dsimp only [proofData]; rfl
/-- At a point's end the slot of operand 1 holds its block still. -/
theorem after1 (hO : Ok m) (c : Dev nD) (t : Fin (cfgAt m hO).N) : (proofData m hO 0 c).after 1 t = blockAt m hO c 1 t := by dsimp only [proofData]; rfl
/-- At a point's end the slot of operand 2 holds its block still. -/
theorem after2 (hO : Ok m) (c : Dev nD) (t : Fin (cfgAt m hO).N) : (proofData m hO 0 c).after 2 t = blockAt m hO c 2 t := by dsimp only [proofData]; rfl
/-- At a point's end the slot of operand 3 holds its block still. -/
theorem after3 (hO : Ok m) (c : Dev nD) (t : Fin (cfgAt m hO).N) : (proofData m hO 0 c).after 3 t = blockAt m hO c 3 t := by dsimp only [proofData]; rfl
/-- At a point's end the result's slot holds the point's result. -/
theorem after4 (hO : Ok m) (c : Dev nD) (t : Fin (cfgAt m hO).N) : (proofData m hO 0 c).after 4 t = resultAt m hO c t := by dsimp only [proofData]; rfl

/-- At a point's start the slot of operand 0 holds its block. -/
theorem before0 (hO : Ok m) (c : Dev nD) (t : Fin (cfgAt m hO).N) (d) : (proofData m hO 0 c).before 0 t d = blockAt m hO c 0 t :=
  ((proofData m hO 0 c).before_in_eq_fetched 0 rfl (fun _ => rfl) (fun _ _ _ => rfl) (fun t => by rw [after0]; unfold Dat.blockOf blockAt; rw [arrays]) t d).trans
    (by unfold Dat.fetched Dat.blockOf blockAt; rw [arrays]; rfl)
/-- At a point's start the slot of operand 1 holds its block. -/
theorem before1 (hO : Ok m) (c : Dev nD) (t : Fin (cfgAt m hO).N) (d) : (proofData m hO 0 c).before 1 t d = blockAt m hO c 1 t :=
  ((proofData m hO 0 c).before_in_eq_fetched 1 rfl (fun _ => rfl) (fun _ _ _ => rfl) (fun t => by rw [after1]; unfold Dat.blockOf blockAt; rw [arrays]) t d).trans
    (by unfold Dat.fetched Dat.blockOf blockAt; rw [arrays]; rfl)
/-- At a point's start the slot of operand 2 holds its block. -/
theorem before2 (hO : Ok m) (c : Dev nD) (t : Fin (cfgAt m hO).N) (d) : (proofData m hO 0 c).before 2 t d = blockAt m hO c 2 t :=
  ((proofData m hO 0 c).before_in_eq_fetched 2 rfl (fun _ => rfl) (fun _ _ _ => rfl) (fun t => by rw [after2]; unfold Dat.blockOf blockAt; rw [arrays]) t d).trans
    (by unfold Dat.fetched Dat.blockOf blockAt; rw [arrays]; rfl)
/-- At a point's start the slot of operand 3 holds its block. -/
theorem before3 (hO : Ok m) (c : Dev nD) (t : Fin (cfgAt m hO).N) (d) : (proofData m hO 0 c).before 3 t d = blockAt m hO c 3 t :=
  ((proofData m hO 0 c).before_in_eq_fetched 3 rfl (fun _ => rfl) (fun _ _ _ => rfl) (fun t => by rw [after3]; unfold Dat.blockOf blockAt; rw [arrays]) t d).trans
    (by unfold Dat.fetched Dat.blockOf blockAt; rw [arrays]; rfl)

/-! ## The body at a point -/

/-- What the body is given at point `t`. -/
def given (hO : Ok m) (c : Dev nD) (t : Fin (cfgAt m hO).N) : sProp 𝕄 :=
  iprop((proofData m hO 0 c).Φ t.castSucc ∗ (proofData m hO 0 c).owesAt () t.castSucc
    ∗ (∃ d, owns (c : Thread nD τ) (stX m hO t) fullShare ((proofData m hO 0 c).before 0 t d))
    ∗ (∃ d, owns (c : Thread nD τ) (stU m hO t) fullShare ((proofData m hO 0 c).before 1 t d))
    ∗ (∃ d, owns (c : Thread nD τ) (stG m hO t) fullShare ((proofData m hO 0 c).before 2 t d))
    ∗ (∃ d, owns (c : Thread nD τ) (stD m hO t) fullShare ((proofData m hO 0 c).before 3 t d))
    ∗ (∃ d, owns (c : Thread nD τ) (stY m hO t) fullShare ((proofData m hO 0 c).before 4 t d)))

/-- What it gives back. -/
def givenBack (hO : Ok m) (c : Dev nD) (t : Fin (cfgAt m hO).N) : sProp 𝕄 :=
  iprop((proofData m hO 0 c).Φ t.succ ∗ (proofData m hO 0 c).owesAt () t.succ
    ∗ owns (c : Thread nD τ) (stX m hO t) fullShare ((proofData m hO 0 c).after 0 t)
    ∗ owns (c : Thread nD τ) (stU m hO t) fullShare ((proofData m hO 0 c).after 1 t)
    ∗ owns (c : Thread nD τ) (stG m hO t) fullShare ((proofData m hO 0 c).after 2 t)
    ∗ owns (c : Thread nD τ) (stD m hO t) fullShare ((proofData m hO 0 c).after 3 t)
    ∗ owns (c : Thread nD τ) (stY m hO t) fullShare ((proofData m hO 0 c).after 4 t))

/-- The body, as the pipeline calls it at point `t`. -/
abbrev bodyAt (hO : Ok m) (t : Fin (cfgAt m hO).N) : Prog (TpuEff nD τ sig (Elt F) Λ₀ .tc) PUnit :=
  cc0_moe (grid0.coords t) teM (Memref.isWhole_whole _) usedM (Memref.isWhole_whole _) validM (Memref.isWhole_whole _)
    (stX m hO t) (hstage0_0 (((cfgAt m hO).slots t 0).cast nbuf0_0)) (stU m hO t) (hstage0_1 (((cfgAt m hO).slots t 1).cast nbuf0_1))
    (stG m hO t) (hstage0_2 (((cfgAt m hO).slots t 2).cast nbuf0_2)) (stD m hO t) (hstage0_3 (((cfgAt m hO).slots t 3).cast nbuf0_3))
    (stY m hO t) (hstage0_4 (((cfgAt m hO).slots t 4).cast nbuf0_4)) hidM (Memref.isWhole_whole _)

/-- The body at any point, in use or not. -/
theorem body_at (hO : Ok m) (c : Dev nD) (t : Fin (cfgAt m hO).N) :
    given m hO c t ⊢ wp frame (wpE (defs₀ (F := F)) Variants.none c none) Set.univ (bodyAt m hO t) (fun _ => givenBack m hO c t) := by
  unfold given givenBack bodyAt
  simp only [before0, before1, before2, before3]
  rw [show (proofData m hO 0 c).Φ t.succ = (proofData m hO 0 c).Φ t.castSucc from rfl,
    show (proofData m hO 0 c).owesAt () t.succ = (proofData m hO 0 c).owesAt () t.castSucc from rfl,
    after0, after1, after2, after3, after4,
    show (proofData m hO 0 c).Φ t.castSucc = iprop(Pipeline.ΦA spec0 c ∗ Pipeline.ΦT pre0 (tables m) c) from rfl, lent_eq, rest_eq]
  unfold resultAt
  split
  · rename_i h
    iintro ⟨⟨⟨HH, Hg⟩, HT, HN, HV⟩, Ho, ⟨%dx, HX⟩, ⟨%du, HU⟩, ⟨%dg, HG⟩, ⟨%dd, HD⟩, ⟨%dy, HY⟩⟩
    iapply (liveRun c (grid0.coords t) _ _ _ _ _ _ _ _ _ _ _ _ (blockAt m hO c 0 t) (blockAt m hO c 1 t) (blockAt m hO c 2 t) (blockAt m hO c 3 t) (tables m 0) (tables m 1) (tables m 2) h ((cond_iff _ _).not.2 (not_not.2 h))).2.2 Set.univ _
    isplitl [HX]; · iexact HX
    isplitl [HU]; · iexact HU
    isplitl [HG]; · iexact HG
    isplitl [HD]; · iexact HD
    isplitl [HY]; · iexists _; iexact HY
    isplitl [HH]; · iexact HH
    isplitl [HT]; · iexact HT
    isplitl [HN]; · iexact HN
    isplitl [HV]; · iexact HV
    iintro ⟨HX, HU, HG, HD, ⟨%fy, HY⟩, ⟨%fh, HH⟩, HT, HN, HV⟩
    isplitl [HH Hg HT HN HV]
    · isplitl [HH Hg]
      · isplitl [HH]
        · iexists _; unfold owns; iexists _; isplitr
          swap; · iexact HH
          ipureintro; rfl
        iexact Hg
      isplitl [HT]; · iexact HT
      isplitl [HN]; · iexact HN
      iexact HV
    isplitl [Ho]; · iexact Ho
    isplitl [HX]; · iexact HX
    isplitl [HU]; · iexact HU
    isplitl [HG]; · iexact HG
    isplitl [HD]; · iexact HD
    unfold owns; iexists _; isplitr
    swap; · iexact HY
    ipureintro; exact View.read_writes_of_cover _ _ _ _ _ (live_cover c _ _ _ _ _ _ _ _ _ _ _ _ _ _ _ _ _ _ _ _ _ _)
  · rename_i h
    iintro ⟨⟨⟨HH, Hg⟩, HT, HN, HV⟩, Ho, ⟨%dx, HX⟩, ⟨%du, HU⟩, ⟨%dg, HG⟩, ⟨%dd, HD⟩, ⟨%dy, HY⟩⟩
    iapply (deadRun c (grid0.coords t) _ _ _ _ _ _ _ _ _ _ _ _ (blockAt m hO c 0 t) (blockAt m hO c 1 t) (blockAt m hO c 2 t) (blockAt m hO c 3 t) (tables m 0) (tables m 1) (tables m 2) h ((cond_iff _ _).2 h)).2 Set.univ _
    isplitl [HX]; · iexact HX
    isplitl [HU]; · iexact HU
    isplitl [HG]; · iexact HG
    isplitl [HD]; · iexact HD
    isplitl [HY]; · iexists _; iexact HY
    isplitl [HH]; · iexact HH
    isplitl [HT]; · iexact HT
    isplitl [HN]; · iexact HN
    isplitl [HV]; · iexact HV
    iintro ⟨HX, HU, HG, HD, ⟨%fy, HY⟩, HH, HT, HN, HV⟩
    isplitl [HH Hg HT HN HV]
    · isplitl [HH Hg]
      · isplitl [HH]; · iexact HH
        iexact Hg
      isplitl [HT]; · iexact HT
      isplitl [HN]; · iexact HN
      iexact HV
    isplitl [Ho]; · iexact Ho
    isplitl [HX]; · iexact HX
    isplitl [HU]; · iexact HU
    isplitl [HG]; · iexact HG
    isplitl [HD]; · iexact HD
    unfold owns; iexists _; isplitr
    swap; · iexact HY
    ipureintro; exact View.read_writes_of_cover _ _ _ _ _ (dead_cover c _ _ _ _ _ _ _ _ _ _ _ _ _ _ _ _ _ _ _ _ _ _)

/-- The result's block is stored at every point. -/
theorem never_idle (hO : Ok m) (t : Fin (cfgAt m hO).N) : (cfgAt m hO).idle 4 ((cfgAt m hO).grid.coords t) = false := by
  show (!(k0_cond1 (grid0.coords t) ((tables m).atD 1 ![0]) == 1#1) && !(k0_cond2 (grid0.coords t) ((tables m).atD 1 ![0]) == 1#1)) = false
  have h := cond_iff (grid0.coords t) ((tables m).atD 1 ![0])
  by_cases h1 : k0_cond1 (grid0.coords t) ((tables m).atD 1 ![0]) = 1#1
  · simp [h1]
  · simp [h.2 h1]

/-- A choice that falls one way is that way's. -/
theorem stored (P Q : sProp 𝕄) : (b : Bool) → b = false → (P ⊢ (match b with | true => Q | false => P))
  | _, rfl => .rfl

/-- The body table's row is that body. -/
theorem row_eq (hO : Ok m) (t : Fin (cfgAt m hO).N) :
    defs₀ (F := F) .tc (cfgAt m hO).body ((cfgAt m hO).bodyArgs t ((cfgAt m hO).slots t)) = bodyAt m hO t := by
  unfold defs₀; rw [Defs.onTc_tc]

/-- What the pipeline asks of the body. -/
theorem obligation (hO : Ok m) (c : Dev nD) : BodyObligation (proofData (F := F) m hO 0 c) (defs₀ (F := F)) Variants.none () Set.univ := fun t => by
  rw [bigSep_W0, bigSep_W0, row_eq m hO]
  exact triple_restated (body_at m hO c t) rfl .rfl fun _ =>
    sep_mono .rfl (sep_mono .rfl (sep_mono .rfl (sep_mono .rfl (sep_mono .rfl (sep_mono .rfl (stored _ _ _ (never_idle m hO t)))))))

/-! ## The run -/

set_option backward.isDefEq.respectTransparency.types false in
/-- The whole run: it ends, every array of the pipeline as its data says, every other buffer as it was, every counter at zero. -/
theorem run_main (hO : Ok m) : θ_run defs (onTc (τ := τ) (main (F := F))) (s₀ m ρ)
    (fun r => Pipeline.FramePost (Pipeline.pin pcfgs fun _ => adm m hO) (proofData m hO) 0 (entry m) r ∧ r.2.sem = fun _ => 0) :=
  Pipeline.θ_run_frameP (Q' := _) pcfgs (fun _ => adm m hO) (proofData m hO) (0 : Fin 1) launch0 defs₀ Variants.none m ρ main
    (hbody := fun c => (obligation m hO c).loose) (hshare := fun c => (proofData m hO 0 c).share_full fun _ => rfl)
    (howed := fun _ _ => rfl) (V := entry m) (hmain := toRegion m) (hA := arrays m hO) (hpf := tables_eq m) (hΦ := fun _ _ => rfl)

/-- The run, at the program's arguments and result. -/
theorem run_args (hO : Ok m) : θ_run defs (onTc (τ := τ) (main (F := F))) ⟨m, fun _ => 0, ρ⟩ (fun r => (∀ c : Dev nD,
      r.2.mem ((c.tc : Thread nD τ).loc (Pipeline.arrRef spec0 4)) = (proofData m hO 0 c).arrAt 4 (cfgAt m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 4,
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((proofData m hO 0 c).arrAt_in 0 rfl _).trans (arrays m hO c 0)),
      ((h.1 c).1 1).trans (((proofData m hO 0 c).arrAt_in 1 rfl _).trans (arrays m hO c 1)),
      ((h.1 c).1 2).trans (((proofData m hO 0 c).arrAt_in 2 rfl _).trans (arrays m hO c 2)),
      ((h.1 c).1 3).trans (((proofData m hO 0 c).arrAt_in 3 rfl _).trans (arrays m hO c 3))⟩, h.2⟩) (run_main m ρ hO)

end Cert.Proof.Moe

end
-- ==== Proof.MoeOk.lean ====
module

public import proofs.«01_k».proof.Proof.MoeFrame
public import proofs.«01_k».proof.Proof.Gen.Pre_te_in_experts
public import Idealize.ShloMosaic.Lib.PairWhole
public import Idealize.ShloMosaic.Lib.Pointwise
public import Idealize.ShloMosaic.Lib.WordCmp

@[expose] public section

set_option maxRecDepth 16384

noncomputable section

/-! The experts the table names are experts there are: the weights' blocks lie in their arrays. -/

namespace Cert.Proof.Moe

open Idealize.ShloMosaic Idealize.ShloMosaic.TcCoe
open Cert.Kernel2Ideal Cert.Kernel2Ideal.Gen

variable {F : FTy → Type} [FloatOps F]
variable (m : (ℓ : Loc nD τ sig) → Buf (Elt F) ℓ)

/-- The word of the table that names tile `t`'s expert. -/
def expertWord (t : Fin 136) : BitVec 32 := tables m 0 (ix1 t)

/-- Every one of them is below the number of experts. -/
def ExpertsOK : Prop := ∀ t, (expertWord m t).toNat < 8

/-- The precondition says so. -/
theorem expertsOK (h : ∀ c : Dev nD, Cert.Pre_te_in_experts.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) = fun _ => 1#1) : ExpertsOK m := by
  intro t
  have key := congrFun (h 0) (ix1 t)
  have both : BitVec.ofBool ((0#32).sle (expertWord m t)) &&& BitVec.ofBool ((expertWord m t).slt 8#32) = 1#1 := key
  generalize expertWord m t = w at both ⊢
  have h1 : (0#32).sle w = true := by
    revert both; cases (0#32).sle w <;> cases w.slt 8#32 <;> decide
  have h2 : w.slt 8#32 = true := by
    revert both; cases (0#32).sle w <;> cases w.slt 8#32 <;> decide
  rw [BitVec.sle_iff_toInt_le] at h1
  rw [BitVec.slt_iff_toInt_lt] at h2
  have e0 : (0#32).toInt = 0 := by decide
  have e8 : (8#32).toInt = 8 := by decide
  rw [e0] at h1; rw [e8] at h2
  have := BitVec.toInt_eq_toNat_cond w
  split at this <;> omega

/-- The point of the grid that is tile `t`. -/
theorem coords_lt (i : grid0.Coords) : (i 0).val < 136 := (i 0).isLt

/-- The table's word as the index map of the weights reads it. -/
theorem word_at (i : grid0.Coords) :
    (tables m).at 0 (Rect.unit (s := S136) (k0_off1 i) S1.size (k0_off1_inb i)) numel1_S1 = expertWord m ⟨(i 0).val, coords_lt i⟩ := by
  unfold expertWord Pipeline.Prefetch.Contents.at
  refine congrArg (tables m 0) (funext fun (a : Fin 1) => Fin.ext ?_)
  obtain rfl : a = 0 := Subsingleton.elim _ _
  have hi := coords_lt i
  show (BitVec.ofNat 32 (i 0).val).toNat + 0 * 1 = (i 0).val
  rw [BitVec.toNat_ofNat]
  omega

/-- So the weights' blocks lie in their arrays. -/
theorem ok (h : ExpertsOK m) : Ok m := by
  have up (i : grid0.Coords) : ∀ a, (![(expertWord m ⟨(i 0).val, coords_lt i⟩).toNat, 0, 0] a + 1) * S1x1024x3584.size a ≤ S8x1024x3584.size a := by
    intro a
    have := h ⟨(i 0).val, coords_lt i⟩
    fin_cases a
    · show ((expertWord m ⟨(i 0).val, coords_lt i⟩).toNat + 1) * 1 ≤ 8; omega
    · show (0 + 1) * 1024 ≤ 1024; omega
    · show (0 + 1) * 3584 ≤ 3584; omega
  have down (i : grid0.Coords) : ∀ a, (![(expertWord m ⟨(i 0).val, coords_lt i⟩).toNat, 0, 0] a + 1) * S1x3584x1024.size a ≤ S8x3584x1024.size a := by
    intro a
    have := h ⟨(i 0).val, coords_lt i⟩
    fin_cases a
    · show ((expertWord m ⟨(i 0).val, coords_lt i⟩).toNat + 1) * 1 ≤ 8; omega
    · show (0 + 1) * 3584 ≤ 3584; omega
    · show (0 + 1) * 1024 ≤ 1024; omega
  have e1 (i) : cc0_transform_1 k0_off1_inb numel1_S1 (tables m) i = ![(expertWord m ⟨(i 0).val, coords_lt i⟩).toNat, 0, 0] := by
    rw [← word_at]; rfl
  have e2 (i) : cc0_transform_2 k0_off1_inb numel1_S1 (tables m) i = ![(expertWord m ⟨(i 0).val, coords_lt i⟩).toNat, 0, 0] := by
    rw [← word_at]; rfl
  have e3 (i) : cc0_transform_3 k0_off1_inb numel1_S1 (tables m) i = ![(expertWord m ⟨(i 0).val, coords_lt i⟩).toNat, 0, 0] := by
    rw [← word_at]; rfl
  unfold Ok ok0
  refine ⟨fun i => ?_, fun i => ?_, fun i => ?_⟩
  · rw [e1]; exact ⟨up i, .inr (Rect.WholeRows.wholeWords ⟨by decide, rfl, rfl, rfl⟩ _)⟩
  · rw [e2]; exact ⟨up i, .inr (Rect.WholeRows.wholeWords ⟨by decide, rfl, rfl, rfl⟩ _)⟩
  · rw [e3]; exact ⟨down i, .inr (Rect.WholeRows.wholeWords ⟨by decide, rfl, rfl, rfl⟩ _)⟩

end Cert.Proof.Moe

end
-- ==== Proof.MoeSame.lean ====
module

public import proofs.«01_k».proof.Proof.Gen.Kernel2
public import proofs.«01_k».proof.Proof.MoeOk

@[expose] public section

set_option maxRecDepth 16384
set_option maxHeartbeats 1000000

noncomputable section

/-! The expert call as it runs is the program read over the extended reals, word for word. -/

namespace Cert.Proof.Moe

open Idealize.ShloMosaic Idealize.SL.Sem

variable {F : FTy → Type} [FloatOps F]

/-- The two bodies are one. -/
theorem same_body : @Cert.Kernel2.cc0_moe F _ _ = @Cert.Kernel2Ideal.cc0_moe F _ _ := rfl

/-- So are the body tables, -/
theorem same_bodies : @Cert.Kernel2.defs₀ F _ _ = @Cert.Kernel2Ideal.defs₀ F _ _ := by
  unfold Cert.Kernel2.defs₀ Cert.Kernel2Ideal.defs₀
  refine congrArg (Defs.onTc (Λ := Cert.Kernel2Ideal.Λ₀)) (funext fun l => funext fun a => ?_)
  match l, a with
  | ⟨0, _⟩, (t, s) => rfl
  | ⟨_ + 1, h⟩, _ => exact absurd h (Nat.not_lt.2 (Nat.le_add_left _ _))

/-- the tables of functions, -/
theorem same_defs : @Cert.Kernel2.defs F _ _ = @Cert.Kernel2Ideal.defs F _ _ :=
  congrArg (Pipeline.defs (Cert.Kernel2Ideal.pcfgs (F := F))) same_bodies

/-- and the programs. -/
theorem same_main : @Cert.Kernel2.main F _ _ = @Cert.Kernel2Ideal.main F _ _ := rfl

/-- The run of the call, at its arguments. -/
theorem run_kernel2 (m : (ℓ : Loc Cert.Kernel2.nD Cert.Kernel2.τ Cert.Kernel2.sig) → Buf (Elt F) ℓ) (ρ : Dev Cert.Kernel2.nD → PrngReg)
    (Q) (h : θ_run (Cert.Kernel2Ideal.defs (F := F)) (onTc (τ := Cert.Kernel2Ideal.τ) (Cert.Kernel2Ideal.main (F := F))) ⟨m, fun _ => 0, ρ⟩ Q) :
    θ_run (Cert.Kernel2.defs (F := F)) (onTc (τ := Cert.Kernel2.τ) (Cert.Kernel2.main (F := F))) ⟨m, fun _ => 0, ρ⟩ Q :=
  (congrArg₂ (fun D M => θ_run D (onTc (τ := Cert.Kernel2Ideal.τ) M) ⟨m, fun _ => 0, ρ⟩ Q) same_defs same_main).mpr h

end Cert.Proof.Moe

end
-- ==== Proof.MoeTile.lean ====
module

public import proofs.«01_k».proof.Proof.MoeFrame
public import Idealize.ShloMosaic.Lib.Pipeline.ValueKit
public import Idealize.ShloMosaic.Lib.Pipeline.ReadBack
public import Idealize.ShloMosaic.Lib.Pointwise
public import Idealize.ShloMosaic.Lib.Tactic.RunNames

@[expose] public section

set_option maxRecDepth 16384

noncomputable section

/-! What a tile's body stores, at an index: the gated hidden layer in seven slices, and its product with the second weights. -/

namespace Cert.Proof.Moe

open Idealize.ShloMosaic Idealize.ShloMosaic.TcCoe Idealize.ShloMosaic.Tactic
open Cert.Kernel2Ideal Cert.Kernel2Ideal.Gen

/-- `a · σ(a) · b`. -/
def swish (a b : EReal) : EReal := a * Ideal.div 1 (1 + Ideal.exp (0 - a)) * b

/-- A product of a tile's rows with a column of the first weights. -/
def lin (X : FVec Ideal S256x1024 .bf16) (u : Vec Ideal S1x1024x3584 .bf16) (a : Fin 256) (f : Fin 3584) : EReal :=
  ∑ k : Fin 1024, X (ix2 a k) * u (ix3 0 k f)

/-- The hidden layer of a tile. -/
def hidden (X : FVec Ideal S256x1024 .bf16) (u g : Vec Ideal S1x1024x3584 .bf16) : Vec Ideal S256x3584 .bf16 :=
  fun j => swish (lin X u (j 0) (j 1)) (lin X g (j 0) (j 1))

/-- The loads of the two tables of first weights, 512 columns of them. -/
abbrev cols (u : Vec Ideal S1x1024x3584 .bf16) (n : ℕ) (h : ∀ a, (![0, 0, n] : Fin 3 → ℕ) a + (![1, 1024, 512] : Fin 3 → ℕ) a ≤ S1x1024x3584.size a) :
    Vec Ideal S1x1024x512 .bf16 :=
  View.ld u (Rect.unit ![0, 0, n] ![1, 1024, 512] h)

/-- A column of such a load is a column of the weights. -/
theorem lin_cols (X : FVec Ideal S256x1024 .bf16) (u : Vec Ideal S1x1024x3584 .bf16) (n : ℕ) (h) (a : Fin 256) (b : Fin 512) (f : Fin 3584) (hf : f.val = n + b.val) :
    ∑ k : Fin 1024, X (ix2 a k) * cols u n h (ix3 0 k b) = lin X u a f := by
  refine Finset.sum_congr rfl fun k _ => Ideal.mul_congr rfl ?_
  refine congrArg u (funext fun (c : Fin 3) => Fin.ext ?_)
  match c with
  | 0 => rfl
  | 1 => show 0 + 1 * k.val = k.val; omega
  | 2 => show n + 1 * b.val = f.val; omega

section slices
variable (v8 v10 : Vec Ideal S1x256x256 .i32) (v15 : Elt Ideal .i32) (X : FVec Ideal S256x1024 .bf16) (U G : Vec Ideal S1x1024x512 .bf16) (a : Fin 256) (b : Fin 512)

/-- What each of the seven slices holds. -/
def sliceAt : EReal := swish (∑ k : Fin 1024, X (ix2 a k) * U (ix3 0 k b)) (∑ k : Fin 1024, X (ix2 a k) * G (ix3 0 k b))

/-- The first slice. -/
theorem slice0 : k0_pay5 (k0_pay4 v8 v10 v15 U G) (ix2 a b) = sliceAt (k0_pay3 v8 v10 v15) U G a b := by
  unfold sliceAt swish; pointwise [k0_pay5, k0_pay4]
/-- The second. -/
theorem slice1 : k0_pay6 X U G (ix2 a b) = sliceAt X U G a b := by
  unfold sliceAt swish; pointwise [k0_pay6]
/-- The third. -/
theorem slice2 : k0_pay9 (k0_pay7 X G) (k0_pay8 X U) (ix2 a b) = sliceAt X U G a b := by
  unfold sliceAt swish; pointwise [k0_pay9, k0_pay7, k0_pay8]
/-- The fourth. -/
theorem slice3 : k0_pay10 X U G (ix2 a b) = sliceAt X U G a b := by
  unfold sliceAt swish; pointwise [k0_pay10]
/-- The fifth. -/
theorem slice4 : k0_pay14 (k0_pay11 X U) (k0_pay12 X G) (k0_pay13 X U) (FloatOps.ofBits FTy.f32 1065353216#32) (ix2 a b) = sliceAt X U G a b := by
  unfold sliceAt swish; pointwise [k0_pay14, k0_pay11, k0_pay12, k0_pay13]
/-- The sixth. -/
theorem slice5 : k0_pay15 X U G (ix2 a b) = sliceAt X U G a b := by
  unfold sliceAt swish; pointwise [k0_pay15]
/-- The seventh. -/
theorem slice6 : k0_pay18 X (k0_pay16 X U) (k0_pay17 G) (constant S256x512 FTy.f32 0#32) (ix2 a b) = sliceAt X U G a b := by
  unfold sliceAt swish; pointwise [k0_pay18, k0_pay16, k0_pay17]

end slices

/-- Slices of 512 columns of the loads are slices of the hidden layer. -/
theorem sliceAt_cols (X : FVec Ideal S256x1024 .bf16) (u g : Vec Ideal S1x1024x3584 .bf16) (n : ℕ) (h h') (a : Fin 256) (b : Fin 512) (y : S256x3584.Idx)
    (h0 : (y 0).val = a.val) (h1 : (y 1).val = n + b.val) :
    sliceAt X (cols u n h) (cols g n h') a b = hidden X u g y := by
  have ha : y 0 = a := Fin.ext h0
  unfold sliceAt hidden
  rw [lin_cols X u n h a b (y 1) h1, lin_cols X g n h' a b (y 1) h1, ha]

/-- The stores into the scratch, the last first. -/
abbrev slices (v8 v10 : Vec Ideal S1x256x256 .i32) (v15 : Elt Ideal .i32) (u g : Vec Ideal S1x1024x3584 .bf16) : List (View.Piece (Elt Ideal) S256x3584 .bf16) :=
  [⟨Rect.unit ![0, 3072] ![256, 512] inb_S256x3584_S256x512_0_3072,
      k0_pay18 (k0_pay3 v8 v10 v15) (k0_pay16 (k0_pay3 v8 v10 v15) (cols u 3072 inb_S1x1024x3584_S1x1024x512_0_0_3072))
        (k0_pay17 (cols g 3072 inb_S1x1024x3584_S1x1024x512_0_0_3072)) (constant S256x512 FTy.f32 0#32)⟩,
    ⟨Rect.unit ![0, 2560] ![256, 512] inb_S256x3584_S256x512_0_2560,
      k0_pay15 (k0_pay3 v8 v10 v15) (cols u 2560 inb_S1x1024x3584_S1x1024x512_0_0_2560) (cols g 2560 inb_S1x1024x3584_S1x1024x512_0_0_2560)⟩,
    ⟨Rect.unit ![0, 2048] ![256, 512] inb_S256x3584_S256x512_0_2048,
      k0_pay14 (k0_pay11 (k0_pay3 v8 v10 v15) (cols u 2048 inb_S1x1024x3584_S1x1024x512_0_0_2048))
        (k0_pay12 (k0_pay3 v8 v10 v15) (cols g 2048 inb_S1x1024x3584_S1x1024x512_0_0_2048))
        (k0_pay13 (k0_pay3 v8 v10 v15) (cols u 2048 inb_S1x1024x3584_S1x1024x512_0_0_2048)) (FloatOps.ofBits FTy.f32 1065353216#32)⟩,
    ⟨Rect.unit ![0, 1536] ![256, 512] inb_S256x3584_S256x512_0_1536,
      k0_pay10 (k0_pay3 v8 v10 v15) (cols u 1536 inb_S1x1024x3584_S1x1024x512_0_0_1536) (cols g 1536 inb_S1x1024x3584_S1x1024x512_0_0_1536)⟩,
    ⟨Rect.unit ![0, 1024] ![256, 512] inb_S256x3584_S256x512_0_1024,
      k0_pay9 (k0_pay7 (k0_pay3 v8 v10 v15) (cols g 1024 inb_S1x1024x3584_S1x1024x512_0_0_1024))
        (k0_pay8 (k0_pay3 v8 v10 v15) (cols u 1024 inb_S1x1024x3584_S1x1024x512_0_0_1024))⟩,
    ⟨Rect.unit ![0, 512] ![256, 512] inb_S256x3584_S256x512_0_512,
      k0_pay6 (k0_pay3 v8 v10 v15) (cols u 512 inb_S1x1024x3584_S1x1024x512_0_0_512) (cols g 512 inb_S1x1024x3584_S1x1024x512_0_0_512)⟩,
    ⟨Rect.unit ![0, 0] ![256, 512] inb_S256x3584_S256x512_0_0,
      k0_pay5 (k0_pay4 v8 v10 v15 (cols u 0 inb_S1x1024x3584_S1x1024x512_0_0_0) (cols g 0 inb_S1x1024x3584_S1x1024x512_0_0_0))⟩]

/-- They leave the hidden layer. -/
theorem slices_apply (v8 v10 : Vec Ideal S1x256x256 .i32) (v15 : Elt Ideal .i32) (u g : Vec Ideal S1x1024x3584 .bf16) (y : S256x3584.Idx) :
    View.canon (slices v8 v10 v15 u g) y = hidden (k0_pay3 v8 v10 v15) u g y := by
  unfold slices
  canon_tiles x h
  all_goals rw [eq_ix2 x]
  · exact (slice6 _ _ _ _ _).trans (sliceAt_cols _ u g 3072 _ _ _ _ y h0 h1)
  · exact (slice5 _ _ _ _ _).trans (sliceAt_cols _ u g 2560 _ _ _ _ y h0 h1)
  · exact (slice4 _ _ _ _ _).trans (sliceAt_cols _ u g 2048 _ _ _ _ y h0 h1)
  · exact (slice3 _ _ _ _ _).trans (sliceAt_cols _ u g 1536 _ _ _ _ y h0 h1)
  · exact (slice2 _ _ _ _ _).trans (sliceAt_cols _ u g 1024 _ _ _ _ y h0 h1)
  · exact (slice1 _ _ _ _ _).trans (sliceAt_cols _ u g 512 _ _ _ _ y h0 h1)
  · exact (slice0 _ _ _ _ _ _ _).trans (sliceAt_cols _ u g 0 _ _ _ _ y h0 (h1.trans (Nat.zero_add _).symm))

/-- The load of the scratch after them is the hidden layer. -/
theorem hidden_read {κ : Kind} {sp : Space} (V : View sig κ sp S256x3584 .bf16) (v8 v10 : Vec Ideal S1x256x256 .i32) (v15 : Elt Ideal .i32) (u g : Vec Ideal S1x1024x3584 .bf16) :
    V.readCov (slices v8 v10 v15 u g) (Rect.unit ![0, 0] ![256, 3584] inb_S256x3584_S256x3584_0_0).toLoadRect = hidden (k0_pay3 v8 v10 v15) u g := by
  rw [View.readCov_eq_canon']
  funext j
  refine (slices_apply v8 v10 v15 u g _).trans (congrArg (hidden (k0_pay3 v8 v10 v15) u g) (funext fun (a : Fin 2) => Fin.ext ?_))
  match a with
  | 0 => show 0 + 1 * (j 0).val = (j 0).val; omega
  | 1 => show 0 + 1 * (j 1).val = (j 1).val; omega

/-- A tile's result before it is cast: the hidden layer against a column of the second weights. -/
def outAtCol (H : Vec Ideal S256x3584 .bf16) (d : Vec Ideal S1x3584x1024 .bf16) (a : Fin 256) (o : Fin 1024) : EReal :=
  ∑ f : Fin 3584, H (ix2 a f) * d (ix3 0 f o)

section stores
variable (H : Vec Ideal S256x3584 .bf16) (d : Vec Ideal S1x3584x1024 .bf16) (a l : Fin 256)

/-- The four stores of the result, each 256 columns. -/
theorem store0 : k0_pay20 H d (ix3 0 a l) = outAtCol H d a ⟨l.val, by omega⟩ := by
  unfold outAtCol; pointwise [k0_pay20, k0_pay19]
/-- The second piece stored is columns 256 to 511 of the tile's result. -/
theorem store1 : k0_pay21 H d (ix3 0 a l) = outAtCol H d a ⟨256 + l.val, by omega⟩ := by
  unfold outAtCol; pointwise [k0_pay21, k0_pay19]
/-- The third piece stored is columns 512 to 767 of the tile's result. -/
theorem store2 : k0_pay22 H d (ix3 0 a l) = outAtCol H d a ⟨512 + l.val, by omega⟩ := by
  unfold outAtCol; pointwise [k0_pay22, k0_pay19]
/-- The fourth piece stored is columns 768 to 1023 of the tile's result. -/
theorem store3 : k0_pay1 (k0_pay23 H d) (ix3 0 a l) = outAtCol H d a ⟨768 + l.val, by omega⟩ := by
  unfold outAtCol; pointwise [k0_pay1, k0_pay23, k0_pay19]
end stores

/-- The four stores are the result's block: 256 columns at each of its leading indices. -/
theorem stores_apply (H : Vec Ideal S256x3584 .bf16) (d : Vec Ideal S1x3584x1024 .bf16) (y : S4x256x256.Idx) (o : Fin 1024)
    (ho : o.val = 256 * (y 0).val + (y 2).val) :
    View.canon (e := .bf16) (Val := Elt Ideal)
      [⟨Rect.unit ![3, 0, 0] ![1, 256, 256] inb_S4x256x256_S1x256x256_3_0_0, k0_pay1 (k0_pay23 H d)⟩,
        ⟨Rect.unit ![2, 0, 0] ![1, 256, 256] inb_S4x256x256_S1x256x256_2_0_0, k0_pay22 H d⟩,
        ⟨Rect.unit ![1, 0, 0] ![1, 256, 256] inb_S4x256x256_S1x256x256_1_0_0, k0_pay21 H d⟩,
        ⟨Rect.unit ![0, 0, 0] ![1, 256, 256] inb_S4x256x256_S1x256x256_0_0_0, k0_pay20 H d⟩] y = outAtCol H d (y 1) o := by
  canon_tiles x h
  all_goals
    have hx : x = ix3 0 (x 1) (x 2) := funext fun (b : Fin 3) => match b with
      | 0 => Fin.ext (by show (x 0).val = 0; omega)
      | 1 => rfl
      | 2 => rfl
    have ha : y 1 = x 1 := Fin.ext h1
    have hl := x2_lt
    rw [hx, ha]
  · exact (store3 H d _ _).trans (congrArg (outAtCol H d (x 1)) (Fin.ext (show 768 + (x 2).val = o.val by omega)))
  · exact (store2 H d _ _).trans (congrArg (outAtCol H d (x 1)) (Fin.ext (show 512 + (x 2).val = o.val by omega)))
  · exact (store1 H d _ _).trans (congrArg (outAtCol H d (x 1)) (Fin.ext (show 256 + (x 2).val = o.val by omega)))
  · exact (store0 H d _ _).trans (congrArg (outAtCol H d (x 1)) (Fin.ext (show (x 2).val = o.val by omega)))

end Cert.Proof.Moe

end
-- ==== Proof.MoeLiveValue.lean ====
module

public import proofs.«01_k».proof.Proof.MoeTile

@[expose] public section

set_option maxRecDepth 16384

noncomputable section

/-! What a tile's body leaves in the result's block, at an index. -/

namespace Cert.Proof.Moe

open Idealize.ShloMosaic Idealize.ShloMosaic.TcCoe Idealize.ShloMosaic.Tactic
open Cert.Kernel2Ideal Cert.Kernel2Ideal.Gen

/-- The word that says how many of the tile's rows are used, as the body loads it. -/
abbrev validLoad (c : Dev nD) (i : grid0.Coords) (va : Buf (Elt Ideal) (validM.view.loc (c : Thread nD τ))) : Elt Ideal .i32 :=
  View.ld (View.read (Elt Ideal) (View.whole main_arg2) va) (Rect.unit (k0_off2 i) ![1] (k0_off2_inb i)) (Shape.Idx.first numel1_S1.ge)

/-- The tile's rows, as the body unpacks them. -/
abbrev rowsOf (x : Vec Ideal S2x256x256 .i32) (v : Elt Ideal .i32) : FVec Ideal S256x1024 .bf16 :=
  k0_pay3 (View.ld x (Rect.unit ![0, 0, 0] ![1, 256, 256] inb_S2x256x256_S1x256x256_0_0_0)) (View.ld x (Rect.unit ![1, 0, 0] ![1, 256, 256] inb_S2x256x256_S1x256x256_1_0_0)) v

set_option maxHeartbeats 2000000 in
/-- A tile in use: the experts' rows of it. -/
theorem live_apply (c : Dev nD) (i : grid0.Coords)
    (aX : Memref sig .tc .vmem S2x256x256 .i32) (wX : aX.IsWhole) (aU : Memref sig .tc .vmem S1x1024x3584 .bf16) (wU : aU.IsWhole)
    (aG : Memref sig .tc .vmem S1x1024x3584 .bf16) (wG : aG.IsWhole) (aD : Memref sig .tc .vmem S1x3584x1024 .bf16) (wD : aD.IsWhole)
    (aY : Memref sig .tc .vmem S4x256x256 .bf16) (wY : aY.IsWhole) (aH : Memref sig .tc .vmem S256x3584 .bf16) (wH : aH.IsWhole)
    (x : Vec Ideal S2x256x256 .i32) (u g : Vec Ideal S1x1024x3584 .bf16) (d : Vec Ideal S1x3584x1024 .bf16)
    (te : Buf (Elt Ideal) (teM.view.loc (c : Thread nD τ))) (nu : Buf (Elt Ideal) (usedM.view.loc (c : Thread nD τ))) (va : Buf (Elt Ideal) (validM.view.loc (c : Thread nD τ)))
    (h1 : k0_cond1 i (usedWord c nu) = 1#1) (h2 : ¬ k0_cond2 i (usedWord c nu) = 1#1) (y : S4x256x256.Idx) (o : Fin 1024) (ho : o.val = 256 * (y 0).val + (y 2).val) :
    seenY.read (Elt Ideal) (seenY.writes (Elt Ideal) seenY.junk (liveRun c i aX wX aU wU aG wG aD wD aY wY aH wH x u g d te nu va h1 h2).1) y
      = outAtCol (hidden (rowsOf x (validLoad c i va)) u g) d (y 1) o := by
  frame_out
  rw [hidden_read]
  exact stores_apply _ d y o ho

/-- A tile not in use: zero. -/
theorem dead_apply (c : Dev nD) (i : grid0.Coords)
    (aX : Memref sig .tc .vmem S2x256x256 .i32) (wX : aX.IsWhole) (aU : Memref sig .tc .vmem S1x1024x3584 .bf16) (wU : aU.IsWhole)
    (aG : Memref sig .tc .vmem S1x1024x3584 .bf16) (wG : aG.IsWhole) (aD : Memref sig .tc .vmem S1x3584x1024 .bf16) (wD : aD.IsWhole)
    (aY : Memref sig .tc .vmem S4x256x256 .bf16) (wY : aY.IsWhole) (aH : Memref sig .tc .vmem S256x3584 .bf16) (wH : aH.IsWhole)
    (x : Vec Ideal S2x256x256 .i32) (u g : Vec Ideal S1x1024x3584 .bf16) (d : Vec Ideal S1x3584x1024 .bf16)
    (te : Buf (Elt Ideal) (teM.view.loc (c : Thread nD τ))) (nu : Buf (Elt Ideal) (usedM.view.loc (c : Thread nD τ))) (va : Buf (Elt Ideal) (validM.view.loc (c : Thread nD τ)))
    (h1 : ¬ k0_cond1 i (usedWord c nu) = 1#1) (h2 : k0_cond2 i (usedWord c nu) = 1#1) (y : S4x256x256.Idx) :
    seenY.read (Elt Ideal) (seenY.writes (Elt Ideal) seenY.junk (deadRun c i aX wX aU wU aG wG aD wD aY wY aH wH x u g d te nu va h1 h2).1) y = 0 := by
  frame_out
  rw [eq_ix3 y]
  pointwise [k0_pay2]

end Cert.Proof.Moe

end
-- ==== Proof.MoeArray.lean ====
module

public import proofs.«01_k».proof.Proof.MoeLiveValue
public import proofs.«01_k».proof.Proof.MoeOk
public import Idealize.ShloMosaic.Lib.Pipeline.Covers

@[expose] public section

set_option maxRecDepth 16384

noncomputable section

/-! The expert call's array at an index. -/

namespace Cert.Proof.Moe

open Idealize.ShloMosaic Idealize.ShloMosaic.TcCoe Idealize.ShloMosaic.Tactic
open Cert.Kernel2Ideal Cert.Kernel2Ideal.Gen

/-- A word of row `r` of the packed rows, of the 512 the row has. -/
def packedWord (xs : Vec Ideal S2x34816x256 .i32) (r : Fin 34816) (j : Fin 512) : BitVec 32 :=
  if h : j.val < 256 then xs (ix3 0 r ⟨j.val, h⟩) else xs (ix3 1 r ⟨j.val - 256, by omega⟩)

/-- A number of row `r` of the packed rows: the words' low halves, then their high halves. -/
def packed (xs : Vec Ideal S2x34816x256 .i32) (r : Fin 34816) (b : Fin 1024) : EReal :=
  if h : b.val < 512 then Ideal.ofBits .f32 (IntOp.shli .vector (packedWord xs r ⟨b.val, h⟩) 16#32)
  else Ideal.ofBits .f32 (IntOp.andi (packedWord xs r ⟨b.val - 512, by omega⟩) 4294901760#32)

/-- A choice by a word that is one is the first. -/
theorem select_one {α : Type} (a b : α) : Scalar.select 1#1 a b = a := rfl

/-- A choice by a word that is not one is the second. -/
theorem select_other {α : Type} (w : BitVec 1) (hw : ¬ w = 1#1) (a b : α) : Scalar.select w a b = b := by
  unfold Scalar.select; exact if_neg hw

/-- A comparison's word is one when the comparison holds. -/
theorem slt_word (x y : BitVec 32) : IntOp.cmpi .slt x y = 1#1 ↔ x.slt y = true := by
  show BitVec.ofBool (x.slt y) = 1#1 ↔ _
  cases x.slt y <;> decide

/-- A row that is used, as the body unpacks it, is the row of the packed rows. -/
theorem rows_used (x : Vec Ideal S2x256x256 .i32) (v : Elt Ideal .i32) (xs : Vec Ideal S2x34816x256 .i32) (a : Fin 256) (r : Fin 34816)
    (hx : ∀ (p : Fin 2) (j : Fin 256), x (ix3 p a j) = xs (ix3 p r j)) (hv : IntOp.cmpi .slt (BitVec.ofNat 32 a.val) v = 1#1) (b : Fin 1024) :
    rowsOf x v (ix2 a b) = packed xs r b := by
  unfold packed packedWord
  pointwise [k0_pay3]
  simp only [hv, select_one, hx]

/-- A row that is not used is zero. -/
theorem rows_unused (x : Vec Ideal S2x256x256 .i32) (v : Elt Ideal .i32) (a : Fin 256)
    (hv : ¬ IntOp.cmpi .slt (BitVec.ofNat 32 a.val) v = 1#1) (b : Fin 1024) : rowsOf x v (ix2 a b) = 0 := by
  pointwise [k0_pay3]
  simp only [select_other _ hv]
  rw [show IntOp.shli ArithUnit.vector 0#32 16#32 = 0#32 from by decide, show IntOp.andi 0#32 4294901760#32 = 0#32 from by decide]
  split <;> exact Ideal.ofBits_zero_f32

variable (m : (ℓ : Loc nD τ sig) → Buf (Elt Ideal) ℓ)

/-- Row `a` of tile `n`, of all rows. -/
def rowOf (n : Fin 136) (a : Fin 256) : Fin 34816 := ⟨256 * n.val + a.val, by omega⟩

/-- The expert of tile `n`. -/
def expertOf (h : ExpertsOK m) (n : Fin 136) : Fin 8 := ⟨(expertWord m n).toNat, h n⟩

/-- The tile of a point. -/
abbrev tileOf (i : grid0.Coords) : Fin 136 := ⟨(i 0).val, coords_lt i⟩

/-- The block of packed rows at a point. -/
theorem block0 (hO : Ok m) (c : Dev nD) (t : Fin (cfgAt m hO).N) (p : Fin 2) (a j : Fin 256) :
    blockAt m hO c 0 t (ix3 p a j) = m ((c.tc : Thread nD τ).loc main_arg3) (ix3 p (rowOf (tileOf (grid0.coords t)) a) j) := by
  unfold blockAt
  have hi := coords_lt (grid0.coords t)
  have e : (BitVec.ofNat 32 (grid0.coords t 0).val).toNat = (grid0.coords t 0).val := by rw [BitVec.toNat_ofNat]; omega
  refine congrArg (m ((c.tc : Thread nD τ).loc main_arg3)) (funext fun (b : Fin 3) => Fin.ext ?_)
  match b with
  | 0 => show 0 * 2 + 1 * p.val = p.val; omega
  | 1 => show (BitVec.ofNat 32 (grid0.coords t 0).val).toNat * 256 + 1 * a.val = 256 * (grid0.coords t 0).val + a.val; omega
  | 2 => show 0 * 256 + 1 * j.val = j.val; omega

/-- The block of the first weights at a point: the tile's expert's. -/
theorem block1 (hO : Ok m) (h : ExpertsOK m) (c : Dev nD) (t : Fin (cfgAt m hO).N) (k : Fin 1024) (f : Fin 3584) :
    blockAt m hO c 1 t (ix3 0 k f) = m ((c.tc : Thread nD τ).loc main_arg4) (ix3 (expertOf m h (tileOf (grid0.coords t))) k f) := by
  unfold blockAt
  have e : _ = expertWord m (tileOf (grid0.coords t)) := word_at m (grid0.coords t)
  refine congrArg (m ((c.tc : Thread nD τ).loc main_arg4)) (funext fun (b : Fin 3) => Fin.ext ?_)
  match b with
  | 0 =>
    show ((tables m).at 0 (Rect.unit (s := S136) (k0_off1 (grid0.coords t)) S1.size (k0_off1_inb _)) numel1_S1).toNat * 1 + 1 * 0 = (expertWord m (tileOf (grid0.coords t))).toNat
    rw [e]; omega
  | 1 => show 0 * 1024 + 1 * k.val = k.val; omega
  | 2 => show 0 * 3584 + 1 * f.val = f.val; omega

/-- The block of the gate's weights at a point. -/
theorem block2 (hO : Ok m) (h : ExpertsOK m) (c : Dev nD) (t : Fin (cfgAt m hO).N) (k : Fin 1024) (f : Fin 3584) :
    blockAt m hO c 2 t (ix3 0 k f) = m ((c.tc : Thread nD τ).loc main_arg5) (ix3 (expertOf m h (tileOf (grid0.coords t))) k f) := by
  unfold blockAt
  have e : _ = expertWord m (tileOf (grid0.coords t)) := word_at m (grid0.coords t)
  refine congrArg (m ((c.tc : Thread nD τ).loc main_arg5)) (funext fun (b : Fin 3) => Fin.ext ?_)
  match b with
  | 0 =>
    show ((tables m).at 0 (Rect.unit (s := S136) (k0_off1 (grid0.coords t)) S1.size (k0_off1_inb _)) numel1_S1).toNat * 1 + 1 * 0 = (expertWord m (tileOf (grid0.coords t))).toNat
    rw [e]; omega
  | 1 => show 0 * 1024 + 1 * k.val = k.val; omega
  | 2 => show 0 * 3584 + 1 * f.val = f.val; omega

/-- The block of the second weights at a point. -/
theorem block3 (hO : Ok m) (h : ExpertsOK m) (c : Dev nD) (t : Fin (cfgAt m hO).N) (f : Fin 3584) (o : Fin 1024) :
    blockAt m hO c 3 t (ix3 0 f o) = m ((c.tc : Thread nD τ).loc main_arg6) (ix3 (expertOf m h (tileOf (grid0.coords t))) f o) := by
  unfold blockAt
  have e : _ = expertWord m (tileOf (grid0.coords t)) := word_at m (grid0.coords t)
  refine congrArg (m ((c.tc : Thread nD τ).loc main_arg6)) (funext fun (b : Fin 3) => Fin.ext ?_)
  match b with
  | 0 =>
    show ((tables m).at 0 (Rect.unit (s := S136) (k0_off1 (grid0.coords t)) S1.size (k0_off1_inb _)) numel1_S1).toNat * 1 + 1 * 0 = (expertWord m (tileOf (grid0.coords t))).toNat
    rw [e]; omega
  | 1 => show 0 * 3584 + 1 * f.val = f.val; omega
  | 2 => show 0 * 1024 + 1 * o.val = o.val; omega

/-- One number of an expert's row: the gated hidden layer of the row against a column of the second weights. -/
def mixAt (xs : Vec Ideal S2x34816x256 .i32) (w1 w3 : Vec Ideal S8x1024x3584 .bf16) (w2 : Vec Ideal S8x3584x1024 .bf16)
    (r : Fin 34816) (e : Fin 8) (o : Fin 1024) : EReal :=
  ∑ f : Fin 3584, swish (∑ k : Fin 1024, packed xs r k * w1 (ix3 e k f)) (∑ k : Fin 1024, packed xs r k * w3 (ix3 e k f)) * w2 (ix3 e f o)

/-- A row is in use when its tile is and its place in the tile is below the tile's count. -/
def InUse (n v : BitVec 32) (t : ℕ) (a : ℕ) : Prop :=
  IntOp.cmpi .slt (BitVec.ofNat 32 t) n = 1#1 ∧ IntOp.cmpi .slt (BitVec.ofNat 32 a) v = 1#1

open Classical in
/-- A number of row `a` of tile `n` of the result. -/
def valueAt (h : ExpertsOK m) (c : Dev nD) (n : Fin 136) (a : Fin 256) (o : Fin 1024) : EReal :=
  if InUse (m ((c.tc : Thread nD τ).loc main_arg1) (ix1 0)) (m ((c.tc : Thread nD τ).loc main_arg2) (ix1 n)) n.val a.val then
    mixAt (m ((c.tc : Thread nD τ).loc main_arg3)) (m ((c.tc : Thread nD τ).loc main_arg4)) (m ((c.tc : Thread nD τ).loc main_arg5)) (m ((c.tc : Thread nD τ).loc main_arg6))
      (rowOf n a) (expertOf m h n) o
  else 0

/-- The result's array. -/
def moeAt (h : ExpertsOK m) (c : Dev nD) : Vec Ideal S4x34816x256 .bf16 := fun i =>
  valueAt m h c ⟨(i 1).val / 256, by have : (i 1).val < 34816 := (i 1).isLt; omega⟩ ⟨(i 1).val % 256, by omega⟩
    ⟨256 * (i 0).val + (i 2).val, by have : (i 0).val < 4 := (i 0).isLt; have : (i 2).val < 256 := (i 2).isLt; omega⟩

/-- A zero row's products with the first weights are zero. -/
theorem lin_zero (X : FVec Ideal S256x1024 .bf16) (u : Vec Ideal S1x1024x3584 .bf16) (a : Fin 256) (f : Fin 3584) (hX : ∀ b, X (ix2 a b) = 0) :
    lin X u a f = 0 := by
  unfold lin
  refine Finset.sum_eq_zero fun k _ => ?_
  rw [hX k]; exact zero_mul _

/-- The word the first condition reads. -/
theorem used_word (c : Dev nD) : usedWord c (tables m 1) = m ((c.tc : Thread nD τ).loc main_arg1) (ix1 0) := by
  obtain rfl : c = 0 := Subsingleton.elim _ _
  refine congrArg (m (((0 : Dev nD).tc : Thread nD τ).loc main_arg1)) (funext fun (a : Fin 1) => Fin.ext ?_)
  match a with
  | 0 => rfl

/-- The word the rows' mask reads. -/
theorem valid_word (c : Dev nD) (i : grid0.Coords) : validLoad c i (tables m 2) = m ((c.tc : Thread nD τ).loc main_arg2) (ix1 (tileOf i)) := by
  obtain rfl : c = 0 := Subsingleton.elim _ _
  have hi := coords_lt i
  refine congrArg (m (((0 : Dev nD).tc : Thread nD τ).loc main_arg2)) (funext fun (a : Fin 1) => Fin.ext ?_)
  match a with
  | 0 => show (BitVec.ofNat 32 (i 0).val).toNat + 1 * 0 = (i 0).val; rw [BitVec.toNat_ofNat]; omega

/-- What a point leaves in the result's block. -/
theorem result_apply (hO : Ok m) (h : ExpertsOK m) (c : Dev nD) (t : Fin (cfgAt m hO).N) (y : S4x256x256.Idx) (o : Fin 1024)
    (ho : o.val = 256 * (y 0).val + (y 2).val) :
    resultAt m hO c t y = valueAt m h c (tileOf (grid0.coords t)) (y 1) o := by
  unfold resultAt valueAt InUse
  split
  · rename_i hc
    have hn : IntOp.cmpi .slt (BitVec.ofNat 32 (grid0.coords t 0).val) (m ((c.tc : Thread nD τ).loc main_arg1) (ix1 0)) = 1#1 := by
      rw [cond1_iff, used_word] at hc
      exact (slt_word _ _).2 hc
    refine (live_apply c _ _ _ _ _ _ _ _ _ _ _ _ _ _ _ _ _ _ _ _ _ _ y o ho).trans ?_
    unfold outAtCol
    simp only [hidden]
    split
    · rename_i hu
      unfold mixAt
      refine Finset.sum_congr rfl fun f _ => Ideal.mul_congr ?_ (block3 m hO h c t f o)
      have hx (b : Fin 1024) := rows_used (blockAt m hO c 0 t) (validLoad c (grid0.coords t) (tables m 2)) (m ((c.tc : Thread nD τ).loc main_arg3)) (y 1)
        (rowOf (tileOf (grid0.coords t)) (y 1)) (fun p j => block0 m hO c t p (y 1) j) (by rw [valid_word]; exact hu.2) b
      refine congrArg₂ swish ?_ ?_
      · exact Finset.sum_congr rfl fun k _ => Ideal.mul_congr (hx k) (block1 m hO h c t k f)
      · exact Finset.sum_congr rfl fun k _ => Ideal.mul_congr (hx k) (block2 m hO h c t k f)
    · rename_i hu
      have hv : ¬ IntOp.cmpi .slt (BitVec.ofNat 32 (y 1).val) (validLoad c (grid0.coords t) (tables m 2)) = 1#1 := by
        rw [valid_word]; exact fun hv => hu ⟨hn, hv⟩
      refine Finset.sum_eq_zero fun f _ => ?_
      refine (Ideal.mul_congr (congrArg₂ swish (lin_zero _ _ (y 1) f (rows_unused _ _ (y 1) hv)) (lin_zero _ _ (y 1) f (rows_unused _ _ (y 1) hv))) rfl).trans ?_
      rw [show swish 0 0 = 0 from mul_zero _]
      exact zero_mul _
  · rename_i hc
    refine (dead_apply c _ _ _ _ _ _ _ _ _ _ _ _ _ _ _ _ _ _ _ _ _ _ y).trans (if_neg fun hu => hc ?_).symm
    rw [cond1_iff, used_word]
    exact (slt_word _ _).1 hu.1

/-- The array the call leaves. -/
theorem final (hO : Ok m) (h : ExpertsOK m) (c : Dev nD) : (proofData m hO 0 c).arrAt 4 (cfgAt m hO).N = moeAt m h c := by
  refine (proofData m hO 0 c).arrAt_eq_of_covers 4 _ ?_ fun t hf y => ?_
  · refine ((cfgAt m hO).win 4).covers_of_indexMap_surj rfl (fun a => (show ∀ a : Fin 3, 0 < S4x256x256.size a from by decide) a) fun β => ?_
    have b0 : (β (0 : Fin 3)).val < 1 := (β (0 : Fin 3)).isLt.trans_eq (by sl_kernel_rfl)
    have b1 : (β (1 : Fin 3)).val < 136 := (β (1 : Fin 3)).isLt.trans_eq (by sl_kernel_rfl)
    have b2 : (β (2 : Fin 3)).val < 1 := (β (2 : Fin 3)).isLt.trans_eq (by sl_kernel_rfl)
    refine ⟨fun (a : Fin 1) => match a with | 0 => ⟨(β (1 : Fin 3)).val, b1⟩, fun (a : Fin 3) => ?_⟩
    match a with
    | 0 => show 0 = (β (0 : Fin 3)).val; omega
    | 1 => show (BitVec.ofNat 32 (β (1 : Fin 3)).val).toNat = (β (1 : Fin 3)).val; rw [BitVec.toNat_ofNat]; omega
    | 2 => show 0 = (β (2 : Fin 3)).val; omega
  · blk_simp
    rw [after4]
    have hi := coords_lt (grid0.coords t)
    have e : (BitVec.ofNat 32 (grid0.coords t 0).val).toNat = (grid0.coords t 0).val := by rw [BitVec.toNat_ofNat]; omega
    have key (y : S4x256x256.Idx) (j : S4x34816x256.Idx) (h0 : (j 0).val = (y 0).val) (h1 : (j 1).val = 256 * (grid0.coords t 0).val + (y 1).val) (h2 : (j 2).val = (y 2).val) :
        resultAt m hO c t y = moeAt m h c j := by
      have y0 : (y 0).val < 4 := (y 0).isLt
      have y1 : (y 1).val < 256 := (y 1).isLt
      have y2 : (y 2).val < 256 := (y 2).isLt
      refine (result_apply m hO h c t y ⟨256 * (y 0).val + (y 2).val, by omega⟩ rfl).trans ?_
      unfold moeAt
      congr 1 <;> refine Fin.ext ?_
      · show (grid0.coords t 0).val = (j 1).val / 256; omega
      · show (y 1).val = (j 1).val % 256; omega
      · show 256 * (y 0).val + (y 2).val = 256 * (j 0).val + (j 2).val; omega
    refine key y _ ?_ ?_ ?_
    · show 0 * 4 + 1 * (y (0 : Fin 3)).val = (y (0 : Fin 3)).val; omega
    · show (BitVec.ofNat 32 (grid0.coords t 0).val).toNat * 256 + 1 * (y (1 : Fin 3)).val = 256 * (grid0.coords t 0).val + (y (1 : Fin 3)).val; omega
    · show 0 * 256 + 1 * (y (2 : Fin 3)).val = (y (2 : Fin 3)).val; omega

end Cert.Proof.Moe

end
-- ==== Proof.MoeRef.lean ====
module

public import proofs.«01_k».proof.Proof.MoeArray
public import proofs.«01_k».proof.Proof.Gen.Reference2Ideal.Run
public import Idealize.ShloMosaic.Lib.Tactic.CleanTypes
public import Idealize.ShloMosaic.Lib.KernelVsHost

@[expose] public section

set_option maxRecDepth 16384

noncomputable section

/-! The experts' reference at an index, and that it is the kernel's number. -/

namespace Cert.Proof.Moe

open Idealize.ShloMosaic Idealize.ShloMosaic.TcCoe Idealize.ShloMosaic.Tactic
open Cert.Reference2Ideal Cert.Reference2Ideal.Gen
open Idealize.SL.Sem

/-- The reference's product of a row with a column of weights: the words' low halves, then their high halves. -/
def halves (xs : Vec Ideal S2x34816x256 .i32) (w : Vec Ideal S8x1024x3584 .bf16) (r : Fin 34816) (e : Fin 8) (f : Fin 3584) : EReal :=
  ∑ k : Fin 512, Ideal.ofBits .f32 (IntOp.shli .host (xs (ix3 ⟨k.val / 256, by omega⟩ r ⟨k.val % 256, by omega⟩)) 16#32) * w (ix3 e ⟨k.val, by omega⟩ f)
    + ∑ k : Fin 512, Ideal.ofBits .f32 (IntOp.andi (xs (ix3 ⟨k.val / 256, by omega⟩ r ⟨k.val % 256, by omega⟩)) 4294901760#32) * w (ix3 e ⟨512 + k.val, by omega⟩ f)

/-- The word at a place of the row is the one the reference's reshape finds there. -/
theorem packedWord_eq (xs : Vec Ideal S2x34816x256 .i32) (r : Fin 34816) (k : Fin 512) :
    packedWord xs r k = xs (ix3 ⟨k.val / 256, by omega⟩ r ⟨k.val % 256, by omega⟩) := by
  unfold packedWord
  split
  · refine congrArg xs (funext fun (b : Fin 3) => Fin.ext ?_)
    match b with
    | 0 => show 0 = k.val / 256; omega
    | 1 => rfl
    | 2 => show k.val = k.val % 256; omega
  · refine congrArg xs (funext fun (b : Fin 3) => Fin.ext ?_)
    match b with
    | 0 => show 1 = k.val / 256; omega
    | 1 => rfl
    | 2 => show k.val - 256 = k.val % 256; omega

/-- The row's product, split at its middle. -/
theorem packed_sum (xs : Vec Ideal S2x34816x256 .i32) (w : Vec Ideal S8x1024x3584 .bf16) (r : Fin 34816) (e : Fin 8) (f : Fin 3584) :
    ∑ k : Fin 1024, packed xs r k * w (ix3 e k f) = halves xs w r e f := by
  unfold halves
  rw [show (∑ k : Fin 1024, packed xs r k * w (ix3 e k f)) = ∑ k : Fin (512 + 512), packed xs r k * w (ix3 e k f) from rfl, Fin.sum_univ_add]
  refine Ideal.add_congr (Finset.sum_congr rfl fun k _ => Ideal.mul_congr ?_ rfl) (Finset.sum_congr rfl fun k _ => Ideal.mul_congr ?_ rfl)
  · unfold packed
    rw [dif_pos (show (Fin.castAdd 512 k).val < 512 from k.isLt), ← packedWord_eq xs r k, ValueIdx.shli_host]
    rfl
  · unfold packed
    rw [dif_neg (show ¬ (Fin.natAdd 512 k).val < 512 from by show ¬ 512 + k.val < 512; omega), ← packedWord_eq xs r k]
    refine congrArg (fun j => Ideal.ofBits .f32 (IntOp.andi (packedWord xs r j) 4294901760#32)) (Fin.ext ?_)
    show 512 + k.val - 512 = k.val; omega

/-- The gate's word. -/
def gateWord (te n v : BitVec 32) (t a e : ℕ) : BitVec 1 :=
  IntOp.andi (IntOp.andi (IntOp.cmpi .slt (BitVec.ofNat 32 a) v) (IntOp.cmpi .slt (BitVec.ofNat 32 t) n)) (IntOp.cmpi .eq te (BitVec.ofNat 32 e))

/-- The gate is one at the tile's expert of a row in use. -/
theorem gate_one (te n v : BitVec 32) (t a e : ℕ) (hu : InUse n v t a) (he : te.toNat = e) :
    (FloatOps.uitofp .f32 (gateWord te n v t a e) : Ideal .f32) = (1 : EReal) := by
  have : gateWord te n v t a e = 1#1 := by
    unfold gateWord
    rw [hu.1, hu.2]
    subst he
    show 1#1 &&& 1#1 &&& BitVec.ofBool (te == BitVec.ofNat 32 te.toNat) = 1#1
    rw [BitVec.ofNat_toNat, BitVec.setWidth_eq, beq_self_eq_true]; rfl
  rw [this]
  show (((1#1).toNat : ℝ) : EReal) = 1
  simp

/-- The gate is zero elsewhere. -/
theorem gate_zero (te n v : BitVec 32) (t a e : ℕ) (h : ¬ (InUse n v t a ∧ te.toNat = e)) (he : e < 8) :
    (FloatOps.uitofp .f32 (gateWord te n v t a e) : Ideal .f32) = (0 : EReal) := by
  have : gateWord te n v t a e = 0#1 := by
    unfold gateWord
    by_cases h1 : IntOp.cmpi .slt (BitVec.ofNat 32 t) n = 1#1
    · by_cases h2 : IntOp.cmpi .slt (BitVec.ofNat 32 a) v = 1#1
      · have h3 : ¬ te.toNat = e := fun h3 => h ⟨⟨h1, h2⟩, h3⟩
        have h4 : (te == BitVec.ofNat 32 e) = false := by
          rw [beq_eq_false_iff_ne]
          intro h4
          apply h3
          rw [h4, BitVec.toNat_ofNat]; omega
        rw [h1, h2]
        show 1#1 &&& 1#1 &&& BitVec.ofBool (te == BitVec.ofNat 32 e) = 0#1
        rw [h4]; rfl
      · generalize IntOp.cmpi .slt (BitVec.ofNat 32 a) v = w at h2 ⊢
        generalize IntOp.cmpi .eq te (BitVec.ofNat 32 e) = w'
        rw [h1]
        revert w w'
        decide
    · generalize IntOp.cmpi .slt (BitVec.ofNat 32 t) n = w at h1 ⊢
      generalize IntOp.cmpi .eq te (BitVec.ofNat 32 e) = w'
      generalize IntOp.cmpi .slt (BitVec.ofNat 32 a) v = w''
      revert w w' w''
      decide
  rw [this]
  show (((0#1).toNat : ℝ) : EReal) = 0
  simp

/-- The reference's number at place `q`, `r`, `l`: over all experts, the gate times the expert's number. -/
def refAt (te : Vec Ideal S136 .i32) (n : Vec Ideal S1 .i32) (va : Vec Ideal S136 .i32) (xs : Vec Ideal S2x34816x256 .i32)
    (w1 w3 : Vec Ideal S8x1024x3584 .bf16) (w2 : Vec Ideal S8x3584x1024 .bf16) (q : Fin 4) (r : Fin 34816) (l : Fin 256) : EReal :=
  ∑ e : Fin 8, (FloatOps.uitofp .f32 (gateWord (te (ix1 ⟨r.val / 256, by omega⟩)) (n (ix1 0)) (va (ix1 ⟨r.val / 256, by omega⟩)) (r.val / 256) (r.val % 256) e.val) : Ideal .f32)
    * ∑ f : Fin 3584, halves xs w1 r e f * Ideal.div 1 (1 + Ideal.exp (-(halves xs w1 r e f))) * halves xs w3 r e f * w2 (ix3 e f ⟨q.val * 256 + l.val, by omega⟩)

/-- The expert's number in the reference is the kernel's. -/
theorem mix_eq (xs : Vec Ideal S2x34816x256 .i32) (w1 w3 : Vec Ideal S8x1024x3584 .bf16) (w2 : Vec Ideal S8x3584x1024 .bf16) (r : Fin 34816) (e : Fin 8) (o : Fin 1024) :
    ∑ f : Fin 3584, halves xs w1 r e f * Ideal.div 1 (1 + Ideal.exp (-(halves xs w1 r e f))) * halves xs w3 r e f * w2 (ix3 e f o) = mixAt xs w1 w3 w2 r e o := by
  unfold mixAt swish
  refine Finset.sum_congr rfl fun f _ => ?_
  rw [packed_sum, packed_sum, zero_sub]

open Classical in
/-- The reference's number: the tile's expert's where the row is in use, zero elsewhere. -/
theorem refAt_eq (te : Vec Ideal S136 .i32) (n : Vec Ideal S1 .i32) (va : Vec Ideal S136 .i32) (xs : Vec Ideal S2x34816x256 .i32)
    (w1 w3 : Vec Ideal S8x1024x3584 .bf16) (w2 : Vec Ideal S8x3584x1024 .bf16) (q : Fin 4) (r : Fin 34816) (l : Fin 256)
    (h : BitVec.toNat (te (ix1 ⟨r.val / 256, by omega⟩)) < 8) :
    refAt te n va xs w1 w3 w2 q r l
      = if InUse (n (ix1 0)) (va (ix1 ⟨r.val / 256, by omega⟩)) (r.val / 256) (r.val % 256) then
          mixAt xs w1 w3 w2 r ⟨BitVec.toNat (te (ix1 ⟨r.val / 256, by omega⟩)), h⟩ ⟨256 * q.val + l.val, by omega⟩
        else 0 := by
  unfold refAt
  have ho : (⟨q.val * 256 + l.val, by omega⟩ : Fin 1024) = ⟨256 * q.val + l.val, by omega⟩ := Fin.ext (by show q.val * 256 + l.val = 256 * q.val + l.val; omega)
  simp only [mix_eq, ho]
  split
  · rename_i hu
    refine (Finset.sum_eq_single (⟨BitVec.toNat (te (ix1 ⟨r.val / 256, by omega⟩)), h⟩ : Fin 8) (fun e _ hne => ?_) (fun hn => absurd (Finset.mem_univ _) hn)).trans ?_
    · rw [gate_zero _ _ _ _ _ _ (fun hh => hne (Fin.ext hh.2.symm)) e.isLt]; exact zero_mul _
    · rw [gate_one _ _ _ _ _ _ hu rfl]; exact one_mul _
  · rename_i hu
    refine Finset.sum_eq_zero fun e _ => ?_
    rw [gate_zero _ _ _ _ _ _ (fun hh => hu hh.1) e.isLt]; exact zero_mul _

/-- The reference's run, at an index. -/
theorem run_reference2 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = (fun i => refAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (Cert.Reference2Ideal.Value.run m ρ)
  clear h
  funext i
  unfold refAt halves gateWord
  conv_lhs => rw [eq_ix3 i]
  clean_types
  pointwise

end Cert.Proof.Moe

end
-- ==== Proof.MoeValue.lean ====
module

public import proofs.«01_k».proof.Proof.MoeRef

@[expose] public section

set_option maxRecDepth 16384

noncomputable section

/-! The experts' kernel and reference leave the same array. -/

namespace Cert.Proof.Moe

open Idealize.ShloMosaic Idealize.ShloMosaic.TcCoe
open Cert.Kernel2Ideal Cert.Kernel2Ideal.Gen

variable (m : (ℓ : Loc nD τ sig) → Buf (Elt Ideal) ℓ)

/-- The reference's number at the kernel's arguments is the kernel's. -/
theorem refAt_moeAt (h : ExpertsOK m) (c : Dev nD) (i : S4x34816x256.Idx) :
    refAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (i 0) (i 1) (i 2)
      = moeAt m h c i := by
  obtain rfl : c = 0 := Subsingleton.elim _ _
  have r1 : (i 1).val < 34816 := (i 1).isLt
  have hr : rowOf ⟨(i 1).val / 256, by omega⟩ ⟨(i 1).val % 256, by omega⟩ = i 1 := Fin.ext (by show 256 * ((i 1).val / 256) + (i 1).val % 256 = (i 1).val; omega)
  refine (refAt_eq _ _ _ _ _ _ _ (i 0) (i 1) (i 2) (h ⟨(i 1).val / 256, by omega⟩)).trans ?_
  unfold moeAt valueAt
  rw [hr]
  rfl

end Cert.Proof.Moe

end
-- ==== Proof.RefValue.lean ====
/-
  What the reference computes, element by element: `y[:, pos, :]` at piece `b`, row `r` and column `c` is the word of piece
  `b` and column `c` in the row that position `r` names.
-/
module

public import proofs.«01_k».proof.Proof.Gen.ReferenceIdeal.Run
public import Idealize.ShloMosaic.Lib.ValueIdx
public import Idealize.ShloMosaic.Lib.Pipeline.Value

@[expose] public section

noncomputable section

namespace Cert.Proof.Gather.Ref

open Cert.ReferenceIdeal Cert.ReferenceIdeal.Gen

open Idealize.ShloMosaic Idealize.ShloMosaic.ValueIdx

/-- A gather of whole rows along the middle axis, read at one element: the row is the start index, clamped. -/
theorem gather_rows_apply (x : S2x34816x256.Idx → BitVec 32) (idx : IVec S32768x1 32) (b : Fin 2) (r : Fin 32768) (c : Fin 256) :
    Host.gather gather_S2x34816x256_S32768x1_S2x32768x256_02_1_n_n_1_1_21256 x idx (ix3 b r c)
      = x (ix3 b (⟨min (idx (ix2 r (0 : Fin 1))).toInt.toNat 34815, by omega⟩ : Fin 34816) c) := by
  unfold Host.gather
  refine congrArg x (funext fun a => Fin.ext ?_)
  let g := gather_S2x34816x256_S32768x1_S2x32768x256_02_1_n_n_1_1_21256
  show g.start (ix3 b r c) idx a + g.batchCoord (ix3 b r c) a + g.offCoord (ix3 b r c) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · have h : g.start (ix3 b r c) idx 0 = 0 := by unfold GatherDims.start; exact dif_neg (show (0 : Fin 3) ∉ [(1 : Fin 3)] by decide)
    rw [h, Nat.zero_add]
    unfold GatherDims.offCoord
    rw [dif_pos (show (0 : Fin 3) ∈ g.sKept by decide)]; rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ g.startIndexMap from List.mem_singleton.mpr rfl)]
    have hsi : g.siIdx (ix3 b r c) ⟨List.idxOf (1 : Fin 3) g.startIndexMap, List.idxOf_lt_length_iff.2 (List.mem_singleton.mpr rfl)⟩ = ix2 r (0 : Fin 1) := by
      funext k; refine Fin.ext ?_
      match k with
      | ⟨0, _⟩ => rfl
      | ⟨1, _⟩ => rfl
    rw [hsi]; rfl
  · have h : g.start (ix3 b r c) idx 2 = 0 := by unfold GatherDims.start; exact dif_neg (show (2 : Fin 3) ∉ [(1 : Fin 3)] by decide)
    rw [h, Nat.zero_add]
    unfold GatherDims.offCoord
    rw [dif_pos (show (2 : Fin 3) ∈ g.sKept by decide)]; rfl

/-- A word below 34816 is not negative, and is its own value as a signed number. -/
theorem small_word {v : BitVec 32} (h : v.toNat < 34816) : ¬ v.slt 0#32 ∧ min v.toInt.toNat 34815 = v.toNat := by
  have e : v.toInt = (v.toNat : Int) := by rw [BitVec.toInt_eq_toNat_cond, if_pos (by omega)]
  rw [BitVec.slt_eq_decide, e]
  refine ⟨by simp, by simp only [Int.toNat_natCast]; omega⟩

/-- The reference's result at one element, where the position names a row. -/
theorem ref_apply (x : S2x34816x256.Idx → BitVec 32) (pos : S32768.Idx → BitVec 32) (b : Fin 2) (r : Fin 32768) (c : Fin 256)
    (h : (pos (ix1 r)).toNat < 34816) :
    Host.gather gather_S2x34816x256_S32768x1_S2x32768x256_02_1_n_n_1_1_21256 x
        (broadcastInDim S32768x1 ![0] bcast_S32768_S32768x1_0
          (select (cmpi .slt pos (broadcastInDim S32768 ![] bcast_S_S32768 (constantI S_ 32 0#32)))
            (addi pos (broadcastInDim S32768 ![] bcast_S_S32768 (constantI S_ 32 34816#32))) pos)) (ix3 b r c)
      = x (ix3 b ⟨(pos (ix1 r)).toNat, h⟩ c) := by
  rw [gather_rows_apply]
  have e : broadcastInDim S32768x1 ![0] bcast_S32768_S32768x1_0
          (select (cmpi .slt pos (broadcastInDim S32768 ![] bcast_S_S32768 (constantI S_ 32 0#32)))
            (addi pos (broadcastInDim S32768 ![] bcast_S_S32768 (constantI S_ 32 34816#32))) pos) (ix2 r (0 : Fin 1)) = pos (ix1 r) := by
    refine (broadcastInDim_apply _ _ _ (ix2 r (0 : Fin 1)) (ix1 r) fun a => ?_).trans ?_
    · match a with
      | ⟨0, _⟩ => rfl
    · show Scalar.select (BitVec.ofBool ((pos (ix1 r)).slt 0#32)) _ _ = _
      rw [Bool.eq_false_iff.2 (small_word h).1]
      rfl
  refine congrArg x (congrArg (fun q : Fin 34816 => ix3 b q c) (Fin.ext ?_))
  show min (BitVec.toInt _).toNat 34815 = _
  rw [e]; exact (small_word h).2

end Cert.Proof.Gather.Ref

end
-- ==== Proof.lean ====
module

public import proofs.«01_k».proof.Defs
public import proofs.«01_k».proof.Proof.Gen.Kernel2
public import proofs.«01_k».proof.Proof.Gen.Kernel2Ideal.Skeleton
public import proofs.«01_k».proof.Proof.Gen.Kernel2Ideal.Launch
public import proofs.«01_k».proof.Proof.Gen.Reference2Ideal.Run
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_pos_in_rows
public import proofs.«01_k».proof.Proof.Gen.Pre_te_in_experts
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.CombineRef
public import proofs.«01_k».proof.Proof.Combine
public import proofs.«01_k».proof.Proof.Ffn
public import proofs.«01_k».proof.Proof.FfnRef
public import proofs.«01_k».proof.Proof.Odd
public import proofs.«01_k».proof.Proof.OddRef
public import proofs.«01_k».proof.Proof.Even
public import proofs.«01_k».proof.Proof.EvenRef
public import proofs.«01_k».proof.Proof.Gen.Pre_all_finite
public import proofs.«01_k».proof.Proof.Router
public import proofs.«01_k».proof.Proof.RouterArray
public import proofs.«01_k».proof.Proof.RouterRef
public import proofs.«01_k».proof.Proof.RouterReal
public import proofs.«01_k».proof.Proof.Value
public import proofs.«01_k».proof.Proof.MoeSame
public import proofs.«01_k».proof.Proof.MoeValue
public import proofs.«01_k».proof.Proof.RefValue
public import Idealize.ShloMosaic.Adequacy
public import Idealize.ShloMosaic.Init

@[expose] public section

noncomputable section

namespace Cert.Proof

open Idealize.ShloMosaic Idealize.ShloMosaic.ValueIdx Idealize.SL.Sem Cert.Proof.Gather

/-! ## The frames: each program ends, its arguments as they were and every semaphore counter at zero -/

/-- The kernel, as it runs. -/
theorem frame_kernel : Cert.quiescent_Kernel := fun m ρ hpre =>
  (θ_run Cert.KernelIdeal.defs _ _).mono (fun _ h => ⟨fun c => (h.1 c).2, h.2⟩) (run_main (F := Bits) m ρ (rowsOK (posOK hpre)))

/-- The kernel over the extended reals. -/
theorem frame_kernelIdeal : Cert.quiescent_KernelIdeal := fun m ρ hpre =>
  (θ_run Cert.KernelIdeal.defs _ _).mono (fun _ h => ⟨fun c => (h.1 c).2, h.2⟩) (run_main (F := Ideal) m ρ (rowsOK (posOK hpre)))

/-- The reference over the extended reals. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference, as it runs. -/
theorem frame_reference : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)

/-- The expert call, as it runs. -/
theorem frame_kernel2 : Cert.quiescent_Kernel2 := fun m ρ hpre =>
  Moe.run_kernel2 m ρ _ ((θ_run Cert.Kernel2Ideal.defs _ _).mono (fun _ h => ⟨fun c => (h.1 c).2, h.2⟩)
    (Moe.run_args (F := Bits) m ρ (Moe.ok m (Moe.expertsOK m hpre))))

/-- The expert call over the extended reals. -/
theorem frame_kernel2Ideal : Cert.quiescent_Kernel2Ideal := fun m ρ hpre =>
  (θ_run Cert.Kernel2Ideal.defs _ _).mono (fun _ h => ⟨fun c => (h.1 c).2, h.2⟩) (Moe.run_args (F := Ideal) m ρ (Moe.ok m (Moe.expertsOK m hpre)))

/-- The expert call's reference over the extended reals. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The combination, as it runs. -/
theorem frame_kernel3 : Cert.quiescent_Kernel3 := fun m ρ _ => Cert.Kernel3.Gen.frame m ρ

/-- The combination over the extended reals. -/
theorem frame_kernel3Ideal : Cert.quiescent_Kernel3Ideal := fun m ρ _ => Cert.Kernel3Ideal.Gen.frame m ρ

/-- The reference of the combination over the extended reals. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The feed-forward, as it runs. -/
theorem frame_kernel4 : Cert.quiescent_Kernel4 := fun m ρ _ => Cert.Kernel4.Gen.frame m ρ

/-- The feed-forward over the extended reals. -/
theorem frame_kernel4Ideal : Cert.quiescent_Kernel4Ideal := fun m ρ _ => Cert.Kernel4Ideal.Gen.frame m ρ

/-- The reference of the feed-forward over the extended reals. -/
theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The odd layer's projection, as it runs. -/
theorem frame_kernel5 : Cert.quiescent_Kernel5 := fun m ρ _ => Cert.Kernel5.Gen.frame m ρ

/-- The odd layer's projection over the extended reals. -/
theorem frame_kernel5Ideal : Cert.quiescent_Kernel5Ideal := fun m ρ _ => Cert.Kernel5Ideal.Gen.frame m ρ

/-- The reference of the odd layer's projection over the extended reals. -/
theorem frame_reference5Ideal : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The even layer's projection, as it runs. -/
theorem frame_kernel6 : Cert.quiescent_Kernel6 := fun m ρ _ => Cert.Kernel6.Gen.frame m ρ

/-- The even layer's projection over the extended reals. -/
theorem frame_kernel6Ideal : Cert.quiescent_Kernel6Ideal := fun m ρ _ => Cert.Kernel6Ideal.Gen.frame m ρ

/-- The reference of the even layer's projection over the extended reals. -/
theorem frame_reference6Ideal : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

/-- The router, as it runs. -/
theorem frame_kernel7 : Cert.quiescent_Kernel7 := fun m ρ _ => Cert.Kernel7.Gen.frame m ρ

/-- The router over the extended reals. -/
theorem frame_kernel7Ideal : Cert.quiescent_Kernel7Ideal := fun m ρ _ => Cert.Kernel7Ideal.Gen.frame m ρ

/-- The reference of the router over the extended reals. -/
theorem frame_reference7Ideal : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The router over the extended reals, from arguments none of which is infinite. -/
theorem frame_kernel7Ideal_finite : Cert.quiescent_Kernel7Ideal_pre_all_finite := fun m ρ _ => Cert.Kernel7Ideal.Gen.frame m ρ

/-- The router's reference over the extended reals, from arguments none of which is infinite. -/
theorem frame_reference7Ideal_finite : Cert.quiescent_Reference7Ideal_pre_all_finite := fun m ρ _ => frame_reference7Ideal m ρ trivial

/-! ## The values -/

section
variable {F : FTy → Type} [FloatOps F]

/-- The kernel and the reference, from the same words and positions, leave the same result. -/
theorem values [∀ e, Nonempty (Elt F e)] (m : (ℓ : Loc Cert.KernelIdeal.nD Cert.KernelIdeal.τ Cert.KernelIdeal.sig) → Buf (Elt F) ℓ)
    (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg)
    (hpos : PosOK m)
    (hagree : ∀ c : Dev Cert.KernelIdeal.nD,
      m' ((c.tc : Thread Cert.ReferenceIdeal.nD Cert.ReferenceIdeal.τ).loc Cert.ReferenceIdeal.main_arg0) = srcWords m c
      ∧ m' ((c.tc : Thread Cert.ReferenceIdeal.nD Cert.ReferenceIdeal.τ).loc Cert.ReferenceIdeal.main_arg1) = positions m c) :
    ∃ v : (c : Dev Cert.KernelIdeal.nD) → Buf (Elt F) (rLoc c),
      θ_run (Cert.KernelIdeal.defs (F := F)) (Cert.KernelIdeal.threads (F := F)) ⟨m, fun _ => 0, ρ⟩ (fun r => ∀ c : Dev Cert.KernelIdeal.nD,
          r.2.mem (rLoc c) = v c ∧ r.2.mem (yLoc c) = m (yLoc c) ∧ r.2.mem (pLoc c) = m (pLoc c))
      ∧ θ_run (Cert.ReferenceIdeal.defs (F := F)) (onTc (τ := Cert.ReferenceIdeal.τ) (Cert.ReferenceIdeal.main (F := F))) ⟨m', fun _ => 0, ρ'⟩
          (fun r => ∀ c : Dev Cert.ReferenceIdeal.nD,
            r.2.mem ((c.tc : Thread Cert.ReferenceIdeal.nD Cert.ReferenceIdeal.τ).loc Cert.ReferenceIdeal.main_v6) = v c
            ∧ r.2.mem ((c.tc : Thread Cert.ReferenceIdeal.nD Cert.ReferenceIdeal.τ).loc Cert.ReferenceIdeal.main_arg0)
                = m' ((c.tc : Thread Cert.ReferenceIdeal.nD Cert.ReferenceIdeal.τ).loc Cert.ReferenceIdeal.main_arg0)
            ∧ r.2.mem ((c.tc : Thread Cert.ReferenceIdeal.nD Cert.ReferenceIdeal.τ).loc Cert.ReferenceIdeal.main_arg1)
                = m' ((c.tc : Thread Cert.ReferenceIdeal.nD Cert.ReferenceIdeal.τ).loc Cert.ReferenceIdeal.main_arg1)) := by
  refine ⟨outAt m, (θ_run Cert.KernelIdeal.defs _ _).mono (fun _ h => h.1) (run_main m ρ (rowsOK hpos)),
    (θ_run Cert.ReferenceIdeal.defs _ _).mono (fun r h c => ⟨(h c).1.trans ?_, (h c).2⟩) (Cert.ReferenceIdeal.Value.run m' ρ')⟩
  rw [(hagree c).1, (hagree c).2]
  refine funext fun (j : Cert.KernelIdeal.S2x32768x256.Idx) => ?_
  obtain ⟨b, q, k, rfl⟩ : ∃ (b : Fin 2) (q : Fin 32768) (k : Fin 256), j = ValueIdx.ix3 b q k := ⟨j 0, j 1, j 2, ValueIdx.eq_ix3 j⟩
  exact (Ref.ref_apply (srcWords m c) (positions m c) b q k (hpos c q)).trans (outAt_apply hpos c b q k).symm

end

/-- The kernel and the reference compute the same over the extended reals. -/
theorem algebraic : Cert.algebraic_KernelIdeal_ReferenceIdeal := fun m ρ m' ρ' hpre hagree =>
  values (F := Ideal) m ρ m' ρ' (posOK hpre) hagree

/-- The kernel and the reference leave the same words. -/
theorem bitexact : Cert.bitexact_Kernel_Reference := fun m ρ m' ρ' hpre hagree =>
  values (F := Bits) m ρ m' ρ' (posOK hpre) hagree

/-- The expert call and its reference compute the same over the extended reals. -/
theorem algebraic2 : Cert.algebraic_Kernel2Ideal_Reference2Ideal := fun m ρ m' ρ' hpre hagree => by
  have hE := Moe.expertsOK m hpre
  refine ⟨Moe.moeAt m hE,
    (θ_run Cert.Kernel2Ideal.defs _ _).mono (fun r h c => ⟨(h.1 c).1.trans (Moe.final m (Moe.ok m hE) hE c), (h.1 c).2⟩) (Moe.run_args (F := Ideal) m ρ (Moe.ok m hE)),
    (θ_run Cert.Reference2Ideal.defs _ _).mono (fun r h c => ⟨(h c).1.trans ?_, (h c).2⟩) (Moe.run_reference2 m' ρ')⟩
  obtain ⟨e0, e1, e2, e3, e4, e5, e6⟩ := hagree c
  rw [e0, e1, e2, e3, e4, e5, e6]
  exact funext fun i => Moe.refAt_moeAt m hE c i

/-- The combination and its reference compute the same over the extended reals. -/
theorem algebraic3 : Cert.algebraic_Kernel3Ideal_Reference3Ideal := fun m ρ m' ρ' _ hagree => by
  refine ⟨fun c => Combine.outAt (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)),
    (θ_run Cert.Kernel3Ideal.defs _ _).mono (fun r h c => ⟨(h c).1.trans (Combine.final m c), (h c).2⟩) (Cert.Kernel3Ideal.Value.run_blocks m ρ),
    (θ_run Cert.Reference3Ideal.defs _ _).mono (fun r h c => ⟨(h c).1.trans ?_, (h c).2⟩) (Combine.run_reference m' ρ')⟩
  obtain ⟨e0, e1, e2, e3⟩ := hagree c
  rw [e0, e1, e2, e3]
  exact funext fun i => Combine.refAt_eq _ _ _ _ (i 0) (i 1)

/-- The feed-forward and its reference compute the same over the extended reals. -/
theorem algebraic4 : Cert.algebraic_Kernel4Ideal_Reference4Ideal := fun m ρ m' ρ' _ hagree => by
  refine ⟨fun c => Ffn.outAt (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7)),
    (θ_run Cert.Kernel4Ideal.defs _ _).mono (fun r h c => ⟨(h c).1.trans (Ffn.final m c), (h c).2⟩) (Cert.Kernel4Ideal.Value.run_blocks m ρ),
    (θ_run Cert.Reference4Ideal.defs _ _).mono (fun r h c => ⟨(h c).1.trans ?_, (h c).2⟩) (Ffn.run_reference m' ρ')⟩
  obtain ⟨e0, e1, e2, e3, e4, e5, e6, e7⟩ := hagree c
  rw [e0, e1, e2, e3, e4, e5, e6, e7]

/-- The odd layer's projection and its reference compute the same over the extended reals. -/
theorem algebraic5 : Cert.algebraic_Kernel5Ideal_Reference5Ideal := fun m ρ m' ρ' _ hagree => by
  refine ⟨fun c => Odd.qAt (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)),
    fun c => Odd.vAt (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)),
    fun c => Odd.gAt (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)),
    fun c => Odd.lAt (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)),
    (θ_run Cert.Kernel5Ideal.defs _ _).mono (fun r h c => ⟨(h c).1.trans (Odd.final3 m c), (h c).2.1.trans (Odd.final4 m c), (h c).2.2.1.trans (Odd.final5 m c), (h c).2.2.2.1.trans (Odd.final6 m c), (h c).2.2.2.2⟩)
      (Cert.Kernel5Ideal.Value.run_blocks m ρ),
    (θ_run Cert.Reference5Ideal.defs _ _).mono (fun r h c => ?_) (Odd.run_reference m' ρ')⟩
  obtain ⟨e0, e1, e2⟩ := hagree c
  have h' := h c
  rw [e0, e1, e2] at h'
  refine ⟨h'.1, h'.2.1, h'.2.2.1, h'.2.2.2.1, ?_⟩
  rw [e0, e1, e2]
  exact h'.2.2.2.2

/-- The even layer's projection and its reference compute the same over the extended reals. -/
theorem algebraic6 : Cert.algebraic_Kernel6Ideal_Reference6Ideal := fun m ρ m' ρ' _ hagree => by
  refine ⟨fun c => Even.xAt (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)),
    fun c => Even.qAt (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)),
    fun c => Even.fAt (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)),
    fun c => Even.first1024 (m ((c.tc : Thread Cert.Kernel6Ideal.nD Cert.Kernel6Ideal.τ).loc Cert.Kernel6Ideal.main_arg3)),
    fun c => Even.first1024 (m ((c.tc : Thread Cert.Kernel6Ideal.nD Cert.Kernel6Ideal.τ).loc Cert.Kernel6Ideal.main_arg4)),
    fun c => Even.first2816 (m ((c.tc : Thread Cert.Kernel6Ideal.nD Cert.Kernel6Ideal.τ).loc Cert.Kernel6Ideal.main_arg5)),
    (θ_run Cert.Kernel6Ideal.defs _ _).mono (fun r h c => ⟨(h c).1.trans (Even.final6 m c), (h c).2.1.trans (Even.final7 m c), (h c).2.2.1.trans (Even.final8 m c), (h c).2.2.2.1.trans (Even.final9 m c), (h c).2.2.2.2.1.trans (Even.final10 m c), (h c).2.2.2.2.2.1.trans (Even.final11 m c), (h c).2.2.2.2.2.2⟩)
      (Cert.Kernel6Ideal.Value.run_blocks m ρ),
    (θ_run Cert.Reference6Ideal.defs _ _).mono (fun r h c => ?_) (Even.run_reference m' ρ')⟩
  obtain ⟨e0, e1, e2, e3, e4, e5⟩ := hagree c
  have h' := h c
  rw [e0, e1, e2, e3, e4, e5] at h'
  refine ⟨h'.1, h'.2.1, h'.2.2.1, h'.2.2.2.1, h'.2.2.2.2.1, h'.2.2.2.2.2.1, ?_⟩
  rw [e0, e1, e2, e3, e4, e5]
  exact h'.2.2.2.2.2.2

/-- The router and its reference compute the same over the extended reals, from arguments none of which is infinite. -/
theorem algebraic7 : Cert.algebraic_Kernel7Ideal_Reference7Ideal_pre_all_finite := fun m ρ m' ρ' hfin hagree => by
  have hreal : ∀ c : Dev Cert.Kernel7Ideal.nD, Router.AllReal (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3))
      (m ((c.tc : Thread Cert.Kernel7Ideal.nD Cert.Kernel7Ideal.τ).loc Cert.Kernel7Ideal.main_arg4)) := fun c => Router.allReal _ _ _ _ _ (hfin c)
  have hreal' : ∀ c : Dev Cert.Reference7Ideal.nD, Router.AllReal
      (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))
      (m' ((c.tc : Thread Cert.Reference7Ideal.nD Cert.Reference7Ideal.τ).loc Cert.Reference7Ideal.main_arg3))
      (m' ((c.tc : Thread Cert.Reference7Ideal.nD Cert.Reference7Ideal.τ).loc Cert.Reference7Ideal.main_arg4)) := fun c => by
    obtain ⟨e0, e1, e2, e3, e4⟩ := hagree c
    rw [e0, e1, e2, e3, e4]
    exact hreal c
  refine ⟨fun c => Router.h1At (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)),
    fun c => Router.xnAt (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3)),
    fun c => Router.infoAt (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3))
      (m ((c.tc : Thread Cert.Kernel7Ideal.nD Cert.Kernel7Ideal.τ).loc Cert.Kernel7Ideal.main_arg4)),
    (θ_run Cert.Kernel7Ideal.defs _ _).mono (fun r h c => ⟨(h c).1.trans (Router.final5 m c), (h c).2.1.trans (Router.final6 m c), (h c).2.2.1.trans (Router.final7 m c (hreal c)), (h c).2.2.2⟩)
      (Cert.Kernel7Ideal.Value.run_blocks m ρ),
    (θ_run Cert.Reference7Ideal.defs _ _).mono (fun r h c => ?_) (Router.run_reference m' ρ' hreal')⟩
  obtain ⟨e0, e1, e2, e3, e4⟩ := hagree c
  have h' := h c
  rw [e0, e1, e2, e3, e4] at h'
  refine ⟨h'.1, h'.2.1, h'.2.2.1, ?_⟩
  rw [e0, e1, e2, e3, e4]
  exact h'.2.2.2

/-- Everything that is claimed. -/
theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    Cert.Pre_pos_in_rows.Gen.facts, Cert.Pre_te_in_experts.Gen.facts, Cert.Pre_all_finite.Gen.facts,
    frame_kernel, frame_kernelIdeal, frame_referenceIdeal, frame_reference, frame_kernel2, frame_kernel2Ideal, frame_reference2Ideal,
    frame_kernel3, frame_kernel3Ideal, frame_reference3Ideal, frame_kernel4, frame_kernel4Ideal, frame_reference4Ideal, frame_kernel5, frame_kernel5Ideal, frame_reference5Ideal, frame_kernel6, frame_kernel6Ideal, frame_reference6Ideal, frame_kernel7, frame_kernel7Ideal, frame_kernel7Ideal_finite, frame_reference7Ideal, frame_reference7Ideal_finite,
    trivial, algebraic, bitexact, trivial, algebraic2, trivial, algebraic3, trivial, algebraic4, trivial, algebraic5, trivial, algebraic6, trivial, algebraic7⟩

end Cert.Proof

end
